-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S10000x128 : Shape := ⟨2, ![10000, 128]⟩
abbrev S2x640000 : Shape := ⟨2, ![2, 640000]⟩
abbrev S10000 : Shape := ⟨1, ![10000]⟩
abbrev S199x128 : Shape := ⟨2, ![199, 128]⟩
abbrev S2x3184 : Shape := ⟨2, ![2, 3184]⟩
abbrev S128x128 : Shape := ⟨2, ![128, 128]⟩
abbrev S128 : Shape := ⟨1, ![128]⟩
abbrev S128x64 : Shape := ⟨2, ![128, 64]⟩
abbrev S64 : Shape := ⟨1, ![64]⟩
abbrev S9950x128 : Shape := ⟨2, ![9950, 128]⟩
abbrev S64x1 : Shape := ⟨2, ![64, 1]⟩
abbrev S1 : Shape := ⟨1, ![1]⟩
abbrev S_ : Shape := ⟨0, ![]⟩

class Facts : Prop where
  bcast_S_S2x640000 : S_.BroadcastsInDim S2x640000 (![] : Fin 0 → Fin S2x640000.rank)
  reducesTo_S2x640000_S_d0_1 : S2x640000.ReducesTo [0, 1] S_
  h_S_ : 0 < S_.numel
  bcast_S_S2x3184 : S_.BroadcastsInDim S2x3184 (![] : Fin 0 → Fin S2x3184.rank)
  reducesTo_S2x3184_S_d0_1 : S2x3184.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg20 : FVec F S1 .f32) (main_v14 : IVec S_ 1) (main_cst : FVec F S_ .f32) : IVec S_ 1 :=
  let main_v15 : FVec F S1 .f32 := broadcastInDim S1 ![] bcast_S_S1 main_cst
  let main_v16 : IVec S1 1 := cmpf .oeq main_arg20 main_v15
  let main_c_7 : IVec S_ 1 := constantI S_ 1 1#1
  let main_v17 : IVec S_ 1 := (fun x v => Host.reduce IntOp.andi x v reducesTo_S1_S_d0 h_S_) main_v16 main_c_7
  let main_v18 : IVec S_ 1 := andi main_v14 main_v17
  main_v18

def fn {F : FTy → Type} [FloatOps F] (main_arg0 : FVec F S10000x128 .f32) (main_arg1 : IVec S2x640000 32) (main_arg2 : IVec S10000 32) (main_arg3 : FVec F S199x128 .f32) (main_arg4 : IVec S2x3184 32) (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_arg11 : FVec F S9950x128 .f32) (main_arg12 : FVec F S128 .f32) (main_arg13 : FVec F S128 .f32) (main_arg14 : FVec F S128 .f32) (main_arg15 : FVec F S128x64 .f32) (main_arg16 : FVec F S64 .f32) (main_arg17 : FVec F S64 .f32) (main_arg18 : FVec F S64 .f32) (main_arg19 : FVec F S64x1 .f32) (main_arg20 : FVec F S1 .f32) : IVec S_ 1 :=
  let main_c : IVec S_ 32 := constantI S_ 32 0#32
  let main_v0 : IVec S2x640000 32 := broadcastInDim S2x640000 ![] bcast_S_S2x640000 main_c
  let main_v1 : IVec S2x640000 1 := cmpi .sge main_arg1 main_v0
  let main_c_0 : IVec S_ 1 := constantI S_ 1 1#1
  let main_v2 : IVec S_ 1 := (fun x v => Host.reduce IntOp.andi x v reducesTo_S2x640000_S_d0_1 h_S_) main_v1 main_c_0
  let main_c_1 : IVec S_ 32 := constantI S_ 32 10000#32
  let main_v3 : IVec S2x640000 32 := broadcastInDim S2x640000 ![] bcast_S_S2x640000 main_c_1
  let main_v4 : IVec S2x640000 1 := cmpi .slt main_arg1 main_v3
  let main_c_2 : IVec S_ 1 := constantI S_ 1 1#1
  let main_v5 : IVec S_ 1 := (fun x v => Host.reduce IntOp.andi x v reducesTo_S2x640000_S_d0_1 h_S_) main_v4 main_c_2
  let main_v6 : IVec S_ 1 := andi main_v2 main_v5
  let main_c_3 : IVec S_ 32 := constantI S_ 32 0#32
  let main_v7 : IVec S2x3184 32 := broadcastInDim S2x3184 ![] bcast_S_S2x3184 main_c_3
  let main_v8 : IVec S2x3184 1 := cmpi .sge main_arg4 main_v7
  let main_c_4 : IVec S_ 1 := constantI S_ 1 1#1
  let main_v9 : IVec S_ 1 := (fun x v => Host.reduce IntOp.andi x v reducesTo_S2x3184_S_d0_1 h_S_) main_v8 main_c_4
  let main_v10 : IVec S_ 1 := andi main_v6 main_v9
  let main_c_5 : IVec S_ 32 := constantI S_ 32 199#32
  let main_v11 : IVec S2x3184 32 := broadcastInDim S2x3184 ![] bcast_S_S2x3184 main_c_5
  let main_v12 : IVec S2x3184 1 := cmpi .slt main_arg4 main_v11
  let main_c_6 : IVec S_ 1 := constantI S_ 1 1#1
  let main_v13 : IVec S_ 1 := (fun x v => Host.reduce IntOp.andi x v reducesTo_S2x3184_S_d0_1 h_S_) main_v12 main_c_6
  let main_v14 : IVec S_ 1 := andi main_v10 main_v13
  let main_cst : FVec F S_ .f32 := constant S_ .f32 0x00000000#32
  fn_part1 (F := F) main_arg20 main_v14 main_cst
-- ==== Pre_in_range.lean ====
abbrev S10000x128 : Shape := ⟨2, ![10000, 128]⟩
abbrev S2x640000 : Shape := ⟨2, ![2, 640000]⟩
abbrev S10000 : Shape := ⟨1, ![10000]⟩
abbrev S199x128 : Shape := ⟨2, ![199, 128]⟩
abbrev S2x3184 : Shape := ⟨2, ![2, 3184]⟩
abbrev S128x128 : Shape := ⟨2, ![128, 128]⟩
abbrev S128 : Shape := ⟨1, ![128]⟩
abbrev S128x64 : Shape := ⟨2, ![128, 64]⟩
abbrev S64 : Shape := ⟨1, ![64]⟩
abbrev S9950x128 : Shape := ⟨2, ![9950, 128]⟩
abbrev S64x1 : Shape := ⟨2, ![64, 1]⟩
abbrev S1 : Shape := ⟨1, ![1]⟩
abbrev S_ : Shape := ⟨0, ![]⟩

class Facts : Prop where
  bcast_S_S2x640000 : S_.BroadcastsInDim S2x640000 (![] : Fin 0 → Fin S2x640000.rank)
  reducesTo_S2x640000_S_d0_1 : S2x640000.ReducesTo [0, 1] S_
  h_S_ : 0 < S_.numel
  bcast_S_S2x3184 : S_.BroadcastsInDim S2x3184 (![] : Fin 0 → Fin S2x3184.rank)
  reducesTo_S2x3184_S_d0_1 : S2x3184.ReducesTo [0, 1] S_

variable [Facts]

def fn {F : FTy → Type} [FloatOps F] (main_arg0 : FVec F S10000x128 .f32) (main_arg1 : IVec S2x640000 32) (main_arg2 : IVec S10000 32) (main_arg3 : FVec F S199x128 .f32) (main_arg4 : IVec S2x3184 32) (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_arg11 : FVec F S9950x128 .f32) (main_arg12 : FVec F S128 .f32) (main_arg13 : FVec F S128 .f32) (main_arg14 : FVec F S128 .f32) (main_arg15 : FVec F S128x64 .f32) (main_arg16 : FVec F S64 .f32) (main_arg17 : FVec F S64 .f32) (main_arg18 : FVec F S64 .f32) (main_arg19 : FVec F S64x1 .f32) (main_arg20 : FVec F S1 .f32) : IVec S_ 1 :=
  let main_c : IVec S_ 32 := constantI S_ 32 0#32
  let main_v0 : IVec S2x640000 32 := broadcastInDim S2x640000 ![] bcast_S_S2x640000 main_c
  let main_v1 : IVec S2x640000 1 := cmpi .sge main_arg1 main_v0
  let main_c_0 : IVec S_ 1 := constantI S_ 1 1#1
  let main_v2 : IVec S_ 1 := (fun x v => Host.reduce IntOp.andi x v reducesTo_S2x640000_S_d0_1 h_S_) main_v1 main_c_0
  let main_c_1 : IVec S_ 32 := constantI S_ 32 10000#32
  let main_v3 : IVec S2x640000 32 := broadcastInDim S2x640000 ![] bcast_S_S2x640000 main_c_1
  let main_v4 : IVec S2x640000 1 := cmpi .slt main_arg1 main_v3
  let main_c_2 : IVec S_ 1 := constantI S_ 1 1#1
  let main_v5 : IVec S_ 1 := (fun x v => Host.reduce IntOp.andi x v reducesTo_S2x640000_S_d0_1 h_S_) main_v4 main_c_2
  let main_v6 : IVec S_ 1 := andi main_v2 main_v5
  let main_c_3 : IVec S_ 32 := constantI S_ 32 0#32
  let main_v7 : IVec S2x3184 32 := broadcastInDim S2x3184 ![] bcast_S_S2x3184 main_c_3
  let main_v8 : IVec S2x3184 1 := cmpi .sge main_arg4 main_v7
  let main_c_4 : IVec S_ 1 := constantI S_ 1 1#1
  let main_v9 : IVec S_ 1 := (fun x v => Host.reduce IntOp.andi x v reducesTo_S2x3184_S_d0_1 h_S_) main_v8 main_c_4
  let main_v10 : IVec S_ 1 := andi main_v6 main_v9
  let main_c_5 : IVec S_ 32 := constantI S_ 32 199#32
  let main_v11 : IVec S2x3184 32 := broadcastInDim S2x3184 ![] bcast_S_S2x3184 main_c_5
  let main_v12 : IVec S2x3184 1 := cmpi .slt main_arg4 main_v11
  let main_c_6 : IVec S_ 1 := constantI S_ 1 1#1
  let main_v13 : IVec S_ 1 := (fun x v => Host.reduce IntOp.andi x v reducesTo_S2x3184_S_d0_1 h_S_) main_v12 main_c_6
  let main_v14 : IVec S_ 1 := andi main_v10 main_v13
  main_v14
-- ==== Kernel.lean ====
abbrev S10000x128 : Shape := ⟨2, ![10000, 128]⟩
abbrev S2x640000 : Shape := ⟨2, ![2, 640000]⟩
abbrev S10000 : Shape := ⟨1, ![10000]⟩
abbrev S199x128 : Shape := ⟨2, ![199, 128]⟩
abbrev S2x3184 : Shape := ⟨2, ![2, 3184]⟩
abbrev S128x128 : Shape := ⟨2, ![128, 128]⟩
abbrev S128 : Shape := ⟨1, ![128]⟩
abbrev S128x64 : Shape := ⟨2, ![128, 64]⟩
abbrev S64 : Shape := ⟨1, ![64]⟩
abbrev S9950x128 : Shape := ⟨2, ![9950, 128]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S32x10000 : Shape := ⟨2, ![32, 10000]⟩
abbrev S20000 : Shape := ⟨1, ![20000]⟩
abbrev S_ : Shape := ⟨0, ![]⟩
abbrev S16 : Shape := ⟨1, ![16]⟩
abbrev S1x10000 : Shape := ⟨2, ![1, 10000]⟩
abbrev S640000x1 : Shape := ⟨2, ![640000, 1]⟩
abbrev S640000x128 : Shape := ⟨2, ![640000, 128]⟩
abbrev S10000x32 : Shape := ⟨2, ![10000, 32]⟩
abbrev S1x128 : Shape := ⟨2, ![1, 128]⟩
abbrev S1x64 : Shape := ⟨2, ![1, 64]⟩
abbrev S10000x1 : Shape := ⟨2, ![10000, 1]⟩
abbrev S10000x64 : Shape := ⟨2, ![10000, 64]⟩
abbrev S640000x2 : Shape := ⟨2, ![640000, 2]⟩
abbrev S640000x64 : Shape := ⟨2, ![640000, 64]⟩
abbrev S256x128 : Shape := ⟨2, ![256, 128]⟩
abbrev S1x3184 : Shape := ⟨2, ![1, 3184]⟩
abbrev S3184 : Shape := ⟨1, ![3184]⟩
abbrev S3184x1 : Shape := ⟨2, ![3184, 1]⟩
abbrev S256x64 : Shape := ⟨2, ![256, 64]⟩
abbrev S1x16 : Shape := ⟨2, ![1, 16]⟩
abbrev S3184x256 : Shape := ⟨2, ![3184, 256]⟩
abbrev S256x3184 : Shape := ⟨2, ![256, 3184]⟩
abbrev S256x256 : Shape := ⟨2, ![256, 256]⟩
abbrev S256 : Shape := ⟨1, ![256]⟩
abbrev S256x1 : Shape := ⟨2, ![256, 1]⟩
abbrev S1x1x64 : Shape := ⟨3, ![1, 1, 64]⟩
abbrev S1x1x1 : Shape := ⟨3, ![1, 1, 1]⟩
abbrev S10000x16 : Shape := ⟨2, ![10000, 16]⟩
abbrev S16x1 : Shape := ⟨2, ![16, 1]⟩
abbrev S16x10000 : Shape := ⟨2, ![16, 10000]⟩
abbrev S16x50 : Shape := ⟨2, ![16, 50]⟩
abbrev S50x16 : Shape := ⟨2, ![50, 16]⟩
abbrev S800 : Shape := ⟨1, ![800]⟩
abbrev S1024x128 : Shape := ⟨2, ![1024, 128]⟩
abbrev S800x1 : Shape := ⟨2, ![800, 1]⟩
abbrev S800x128 : Shape := ⟨2, ![800, 128]⟩
abbrev S50x256x128 : Shape := ⟨3, ![50, 256, 128]⟩
abbrev S50x199x128 : Shape := ⟨3, ![50, 199, 128]⟩
abbrev S12800x128 : Shape := ⟨2, ![12800, 128]⟩
abbrev S64x128 : Shape := ⟨2, ![64, 128]⟩
abbrev S16x128 : Shape := ⟨2, ![16, 128]⟩
abbrev S1x256 : Shape := ⟨2, ![1, 256]⟩
abbrev S64x256 : Shape := ⟨2, ![64, 256]⟩
abbrev S16x64 : Shape := ⟨2, ![16, 64]⟩
abbrev S16x256 : Shape := ⟨2, ![16, 256]⟩

abbrev nBuf : Table → Nat
  | .hbm => 134
  | .local .tc .vmem => 41
  | .local .scVector .vmem => 2
  | _ => 0

abbrev hbmTy0_0 (i : Nat) : BufTy := match i % 128 with
  | 0 => ⟨S10000x128, .f32⟩
  | 1 => ⟨S2x640000, .i32⟩
  | 2 => ⟨S10000, .i32⟩
  | 3 => ⟨S199x128, .f32⟩
  | 4 => ⟨S2x3184, .i32⟩
  | 5 => ⟨S128x128, .f32⟩
  | 6 => ⟨S128, .f32⟩
  | 7 => ⟨S128x128, .f32⟩
  | 8 => ⟨S128x64, .f32⟩
  | 9 => ⟨S64, .f32⟩
  | 10 => ⟨S128x64, .f32⟩
  | 11 => ⟨S9950x128, .f32⟩
  | 12 => ⟨S128, .f32⟩
  | 13 => ⟨S128, .f32⟩
  | 14 => ⟨S128, .f32⟩
  | 15 => ⟨S128x64, .f32⟩
  | 16 => ⟨S64, .f32⟩
  | 17 => ⟨S64, .f32⟩
  | 18 => ⟨S64, .f32⟩
  | 19 => ⟨S64x1, .f32⟩
  | 20 => ⟨S1, .f32⟩
  | 21 => ⟨S1x640000, .i32⟩
  | 22 => ⟨S640000, .i32⟩
  | 23 => ⟨S1x640000, .i32⟩
  | 24 => ⟨S640000, .i32⟩
  | 25 => ⟨S32x10000, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x128, .f32⟩
  | 35 => ⟨S_, .f32⟩
  | 36 => ⟨S10000x128, .f32⟩
  | 37 => ⟨S640000x1, .i32⟩
  | 38 => ⟨S10000x128, .f32⟩
  | 39 => ⟨S10000x32, .f32⟩
  | 40 => ⟨S1x128, .f32⟩
  | 41 => ⟨S1x64, .f32⟩
  | 42 => ⟨S10000x128, .f32⟩
  | 43 => ⟨S10000x1, .f32⟩
  | 44 => ⟨S1x640000, .i32⟩
  | 45 => ⟨S640000, .i32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S_, .i32⟩
  | 55 => ⟨S640000x1, .i32⟩
  | 56 => ⟨S640000x2, .i32⟩
  | 57 => ⟨S640000x64, .f32⟩
  | 58 => ⟨S1x640000, .i32⟩
  | 59 => ⟨S640000, .i32⟩
  | 60 => ⟨S_, .f32⟩
  | 61 => ⟨S10000x64, .f32⟩
  | 62 => ⟨S640000x1, .i32⟩
  | 63 => ⟨S10000x64, .f32⟩
  | 64 => ⟨S_, .f32⟩
  | 65 => ⟨S256x128, .f32⟩
  | 66 => ⟨S_, .i32⟩
  | 67 => ⟨S1, .i32⟩
  | 68 => ⟨S256x128, .f32⟩
  | 69 => ⟨S1x3184, .i32⟩
  | 70 => ⟨S3184, .i32⟩
  | 71 => ⟨S3184x1, .i32⟩
  | 72 => ⟨S1x3184, .i32⟩
  | 73 => ⟨S3184, .i32⟩
  | 74 => ⟨S3184x1, .i32⟩
  | 75 => ⟨S10000x1, .i32⟩
  | 76 => ⟨S1x128, .f32⟩
  | 77 => ⟨S1x64, .f32⟩
  | 78 => ⟨S10000x128, .f32⟩
  | 79 => ⟨S256x64, .f32⟩
  | 80 => ⟨S10000x1, .f32⟩
  | 81 => ⟨S1x16, .f32⟩
  | 82 => ⟨S10000, .f32⟩
  | 83 => ⟨S1x10000, .i32⟩
  | 84 => ⟨S16, .i32⟩
  | 85 => ⟨S16x1, .i32⟩
  | 86 => ⟨S16x10000, .i32⟩
  | 87 => ⟨S16x10000, .i32⟩
  | 88 => ⟨S16x10000, .i1⟩
  | 89 => ⟨S1x10000, .f32⟩
  | 90 => ⟨S_, .f32⟩
  | 91 => ⟨S_, .f32⟩
  | 92 => ⟨S16x10000, .f32⟩
  | 93 => ⟨S16x10000, .f32⟩
  | 94 => ⟨S16x10000, .f32⟩
  | 95 => ⟨S16x50, .f32⟩
  | 96 => ⟨S16x50, .i32⟩
  | 97 => ⟨S50x16, .i32⟩
  | 98 => ⟨S800, .i32⟩
  | 99 => ⟨S_, .f32⟩
  | 100 => ⟨S1024x128, .f32⟩
  | 101 => ⟨S_, .i32⟩
  | 102 => ⟨S800, .i32⟩
  | 103 => ⟨S800, .i1⟩
  | 104 => ⟨S_, .i32⟩
  | 105 => ⟨S800, .i32⟩
  | 106 => ⟨S800, .i32⟩
  | 107 => ⟨S800, .i32⟩
  | 108 => ⟨S800x1, .i32⟩
  | 109 => ⟨S800x128, .f32⟩
  | 110 => ⟨S_, .i32⟩
  | 111 => ⟨S1, .i32⟩
  | 112 => ⟨S1024x128, .f32⟩
  | 113 => ⟨S_, .f32⟩
  | 114 => ⟨S50x256x128, .f32⟩
  | 115 => ⟨S50x199x128, .f32⟩
  | 116 => ⟨S_, .i32⟩
  | 117 => ⟨S1, .i32⟩
  | 118 => ⟨S50x256x128, .f32⟩
  | 119 => ⟨S12800x128, .f32⟩
  | 120 => ⟨S_, .f32⟩
  | 121 => ⟨S64x128, .f32⟩
  | 122 => ⟨S_, .i32⟩
  | 123 => ⟨S1, .i32⟩
  | 124 => ⟨S64x128, .f32⟩
  | 125 => ⟨S16x1, .f32⟩
  | 126 => ⟨S1x128, .f32⟩
  | 127 => ⟨S1x128, .f32⟩
  | _ => ⟨S10000x128, .f32⟩

abbrev hbmTy0_1 (i : Nat) : BufTy := match i % 128 with
  | 0 => ⟨S1x128, .f32⟩
  | 1 => ⟨S1x64, .f32⟩
  | 2 => ⟨S1x64, .f32⟩
  | 3 => ⟨S1x64, .f32⟩
  | 4 => ⟨S16x128, .f32⟩
  | 5 => ⟨S16x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (nBuf tb) → BufTy
  | .hbm, ⟨i, _⟩ => hbmTy i
  | .local .tc .vmem, ⟨0, _⟩ => ⟨S10000x128, .f32⟩
  | .local .tc .vmem, ⟨1, _⟩ => ⟨S10000x128, .f32⟩
  | .local .tc .vmem, ⟨2, _⟩ => ⟨S10000x32, .f32⟩
  | .local .tc .vmem, ⟨3, _⟩ => ⟨S128x128, .f32⟩
  | .local .tc .vmem, ⟨4, _⟩ => ⟨S1x128, .f32⟩
  | .local .tc .vmem, ⟨5, _⟩ => ⟨S128x128, .f32⟩
  | .local .tc .vmem, ⟨6, _⟩ => ⟨S128x64, .f32⟩
  | .local .tc .vmem, ⟨7, _⟩ => ⟨S1x64, .f32⟩
  | .local .tc .vmem, ⟨8, _⟩ => ⟨S128x64, .f32⟩
  | .local .tc .vmem, ⟨9, _⟩ => ⟨S10000x128, .f32⟩
  | .local .tc .vmem, ⟨10, _⟩ => ⟨S10000x1, .f32⟩
  | .local .tc .vmem, ⟨11, _⟩ => ⟨S10000x64, .f32⟩
  | .local .tc .vmem, ⟨12, _⟩ => ⟨S10000x128, .f32⟩
  | .local .tc .vmem, ⟨13, _⟩ => ⟨S10000x1, .f32⟩
  | .local .tc .vmem, ⟨14, _⟩ => ⟨S3184x1, .i32⟩
  | .local .tc .vmem, ⟨15, _⟩ => ⟨S3184x1, .i32⟩
  | .local .tc .vmem, ⟨16, _⟩ => ⟨S256x128, .f32⟩
  | .local .tc .vmem, ⟨17, _⟩ => ⟨S128x128, .f32⟩
  | .local .tc .vmem, ⟨18, _⟩ => ⟨S1x128, .f32⟩
  | .local .tc .vmem, ⟨19, _⟩ => ⟨S128x128, .f32⟩
  | .local .tc .vmem, ⟨20, _⟩ => ⟨S128x64, .f32⟩
  | .local .tc .vmem, ⟨21, _⟩ => ⟨S1x64, .f32⟩
  | .local .tc .vmem, ⟨22, _⟩ => ⟨S128x64, .f32⟩
  | .local .tc .vmem, ⟨23, _⟩ => ⟨S10000x1, .i32⟩
  | .local .tc .vmem, ⟨24, _⟩ => ⟨S10000x128, .f32⟩
  | .local .tc .vmem, ⟨25, _⟩ => ⟨S256x64, .f32⟩
  | .local .tc .vmem, ⟨26, _⟩ => ⟨S10000x1, .f32⟩
  | .local .tc .vmem, ⟨27, _⟩ => ⟨S1x16, .f32⟩
  | .local .tc .vmem, ⟨28, _⟩ => ⟨S1024x128, .f32⟩
  | .local .tc .vmem, ⟨29, _⟩ => ⟨S256x64, .f32⟩
  | .local .tc .vmem, ⟨30, _⟩ => ⟨S16x1, .f32⟩
  | .local .tc .vmem, ⟨31, _⟩ => ⟨S12800x128, .f32⟩
  | .local .tc .vmem, ⟨32, _⟩ => ⟨S1x128, .f32⟩
  | .local .tc .vmem, ⟨33, _⟩ => ⟨S1x128, .f32⟩
  | .local .tc .vmem, ⟨34, _⟩ => ⟨S1x128, .f32⟩
  | .local .tc .vmem, ⟨35, _⟩ => ⟨S128x64, .f32⟩
  | .local .tc .vmem, ⟨36, _⟩ => ⟨S1x64, .f32⟩
  | .local .tc .vmem, ⟨37, _⟩ => ⟨S1x64, .f32⟩
  | .local .tc .vmem, ⟨38, _⟩ => ⟨S1x64, .f32⟩
  | .local .tc .vmem, ⟨39, _⟩ => ⟨S64x128, .f32⟩
  | .local .tc .vmem, ⟨40, _⟩ => ⟨S16x128, .f32⟩
  | .local .scVector .vmem, ⟨0, _⟩ => ⟨S20000, .i32⟩
  | .local .scVector .vmem, ⟨1, _⟩ => ⟨S10000, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 43 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTables nBuf rfl bufTy 4 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_v47_2 : Ref sig .tc := ⟨.hbm, 80, rfl⟩
abbrev main_v47_3 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_7 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v56 : Ref sig .tc := ⟨.hbm, 94, rfl⟩
abbrev main_values : Ref sig .tc := ⟨.hbm, 95, rfl⟩
abbrev main_indices : Ref sig .tc := ⟨.hbm, 96, rfl⟩
abbrev main_v57 : Ref sig .tc := ⟨.hbm, 97, rfl⟩
abbrev main_v58 : Ref sig .tc := ⟨.hbm, 98, rfl⟩
abbrev main_cst_8 : Ref sig .tc := ⟨.hbm, 99, rfl⟩
abbrev main_v59 : Ref sig .tc := ⟨.hbm, 100, rfl⟩
abbrev main_c_9 : Ref sig .tc := ⟨.hbm, 101, rfl⟩
abbrev main_v60 : Ref sig .tc := ⟨.hbm, 102, rfl⟩
abbrev main_v61 : Ref sig .tc := ⟨.hbm, 103, rfl⟩
abbrev main_c_10 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_11 : Ref sig .tc := ⟨.hbm, 110, rfl⟩
abbrev main_v67 : Ref sig .tc := ⟨.hbm, 111, rfl⟩
abbrev main_v68 : Ref sig .tc := ⟨.hbm, 112, rfl⟩
abbrev main_cst_12 : Ref sig .tc := ⟨.hbm, 113, rfl⟩
abbrev main_v69 : Ref sig .tc := ⟨.hbm, 114, rfl⟩
abbrev main_v70 : Ref sig .tc := ⟨.hbm, 115, rfl⟩
abbrev main_c_13 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_14 : Ref sig .tc := ⟨.hbm, 120, rfl⟩
abbrev main_v74 : Ref sig .tc := ⟨.hbm, 121, rfl⟩
abbrev main_c_15 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v3_scv : Ref sig .scVector := ⟨.hbm, 24, rfl⟩
abbrev main_v4_scv : Ref sig .scVector := ⟨.hbm, 25, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_stg9_0 : Ref sig .tc := ⟨.vmem, 20, rfl⟩
abbrev cc2_stg10_0 : Ref sig .tc := ⟨.vmem, 21, rfl⟩
abbrev cc2_stg11_0 : Ref sig .tc := ⟨.vmem, 22, rfl⟩
abbrev cc2_stg12_0 : Ref sig .tc := ⟨.vmem, 23, rfl⟩
abbrev cc2_stg13_0 : Ref sig .tc := ⟨.vmem, 24, rfl⟩
abbrev cc2_stg14_0 : Ref sig .tc := ⟨.vmem, 25, rfl⟩
abbrev cc2_stg15_0 : Ref sig .tc := ⟨.vmem, 26, rfl⟩
abbrev cc2_stg16_0 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg11_0 : Ref sig .tc := ⟨.vmem, 39, rfl⟩
abbrev cc3_stg12_0 : Ref sig .tc := ⟨.vmem, 40, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7
abbrev cc1_sem6_0 : DmaSem sig := 8
abbrev cc1_sem7_0 : DmaSem sig := 9
abbrev cc1_sem8_0 : DmaSem sig := 10
abbrev cc1_sem9_0 : DmaSem sig := 11
abbrev cc1_sem10_0 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem12_0 : DmaSem sig := 25
abbrev cc2_sem13_0 : DmaSem sig := 26
abbrev cc2_sem14_0 : DmaSem sig := 27
abbrev cc2_sem15_0 : DmaSem sig := 28
abbrev cc2_sem16_0 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem11_0 : DmaSem sig := 41
abbrev cc3_sem12_0 : DmaSem sig := 42
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c20000_i32 : BitVec 32 := 20000#32
  let v2 : BitVec 32 := Scalar.muli v1 c20000_i32
  ![v2.toNat]
@[reducible] def k0_t1_loop : Scf.Loop 32 :=
  let c0_i32_0 : BitVec 32 := 0#32
  let c625_i32 : BitVec 32 := 625#32
  let v4 : BitVec 32 := Scalar.addi c0_i32_0 c625_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c16_i32_6 : BitVec 32 := 16#32
  let v6 : BitVec 32 := Scalar.muli arg6 c16_i32_6
  let v7 : Index := Scalar.indexCast v6
  ![v7.toNat]
@[reducible] def k0_t2_loop : Scf.Loop 32 :=
  let c0_i32_3 : BitVec 32 := 0#32
  let c1250_i32 : BitVec 32 := 1250#32
  let v5 : BitVec 32 := Scalar.addi c0_i32_3 c1250_i32
  let c1_i32_4 : BitVec 32 := 1#32
  ⟨c0_i32_3, v5, c1_i32_4⟩
def k0_off3 (k0_t2 : Fin k0_t2_loop.trips) : Fin 1 → Nat :=
  let c0_i32_3 : BitVec 32 := 0#32
  let c1_i32_4 : BitVec 32 := 1#32
  let arg6 : BitVec 32 := Scf.iv c0_i32_3 c1_i32_4 k0_t2
  let c16_i32_6 : BitVec 32 := 16#32
  let v6 : BitVec 32 := Scalar.muli arg6 c16_i32_6
  let v7 : Index := Scalar.indexCast v6
  ![v7.toNat]

def k0_chk1 (v8 : IVec S16 32) : Prop :=
  (∀ a x, ((![v8] : Fin 1 → IVec S16 32) a x).toNat < S10000.size a)
theorem k0_idx1_inb : ∀ (v8 : IVec S16 32) (k0_hw1 : k0_chk1 v8), ∀ a x, ((![v8] : Fin 1 → IVec S16 32) a x).toNat < S10000.size a := fun v8 k0_hw1 => k0_hw1
def k0_off4 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_6_r1 : BitVec 32 := 0#32
  ![v1.toNat, 0]
abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S10000x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S10000x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev grid2 : Pipeline.Grid := .none

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S3184x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S3184x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S128x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S128x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S10000x1 .i32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S10000x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S256x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S10000x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev stage2_16 : Fin 1 → Memref sig .tc .vmem S1x16 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))

abbrev grid3 : Pipeline.Grid := .none

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S16x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S12800x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S128x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S64x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

abbrev stage3_12 : Fin 1 → Memref sig .tc .vmem S16x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S2x640000 : Shape := ⟨2, ![2, 640000]⟩
abbrev S10000 : Shape := ⟨1, ![10000]⟩
abbrev S199x128 : Shape := ⟨2, ![199, 128]⟩
abbrev S2x3184 : Shape := ⟨2, ![2, 3184]⟩
abbrev S128x128 : Shape := ⟨2, ![128, 128]⟩
abbrev S128 : Shape := ⟨1, ![128]⟩
abbrev S128x64 : Shape := ⟨2, ![128, 64]⟩
abbrev S64 : Shape := ⟨1, ![64]⟩
abbrev S9950x128 : Shape := ⟨2, ![9950, 128]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000x1 : Shape := ⟨2, ![10000, 1]⟩
abbrev S1x128 : Shape := ⟨2, ![1, 128]⟩
abbrev S10000x64 : Shape := ⟨2, ![10000, 64]⟩
abbrev S1x64 : Shape := ⟨2, ![1, 64]⟩
abbrev S1x3184 : Shape := ⟨2, ![1, 3184]⟩
abbrev S3184 : Shape := ⟨1, ![3184]⟩
abbrev S3184x1 : Shape := ⟨2, ![3184, 1]⟩
abbrev S3184x128 : Shape := ⟨2, ![3184, 128]⟩
abbrev S199 : Shape := ⟨1, ![199]⟩
abbrev S199x1 : Shape := ⟨2, ![199, 1]⟩
abbrev S199x64 : Shape := ⟨2, ![199, 64]⟩
abbrev S1x199 : Shape := ⟨2, ![1, 199]⟩
abbrev S10000x199 : Shape := ⟨2, ![10000, 199]⟩
abbrev S64x199 : Shape := ⟨2, ![64, 199]⟩
abbrev S1x10000 : Shape := ⟨2, ![1, 10000]⟩
abbrev S16 : Shape := ⟨1, ![16]⟩
abbrev S16x1 : Shape := ⟨2, ![16, 1]⟩
abbrev S16x10000 : Shape := ⟨2, ![16, 10000]⟩
abbrev S16x50 : Shape := ⟨2, ![16, 50]⟩
abbrev S50 : Shape := ⟨1, ![50]⟩
abbrev S1x50 : Shape := ⟨2, ![1, 50]⟩
abbrev S16x50x1 : Shape := ⟨3, ![16, 50, 1]⟩
abbrev S16x50x199 : Shape := ⟨3, ![16, 50, 199]⟩
abbrev S16x9950 : Shape := ⟨2, ![16, 9950]⟩
abbrev S16x128 : Shape := ⟨2, ![16, 128]⟩
abbrev S16x64 : Shape := ⟨2, ![16, 64]⟩
abbrev S1x1 : Shape := ⟨2, ![1, 1]⟩

abbrev nBuf : Space → Nat
  | .hbm => 329
  | .vmem => 0
  | .smem => 0
  | _ => 0

abbrev hbmTy0_0 (i : Nat) : BufTy := match i % 128 with
  | 0 => ⟨S10000x128, .f32⟩
  | 1 => ⟨S2x640000, .i32⟩
  | 2 => ⟨S10000, .i32⟩
  | 3 => ⟨S199x128, .f32⟩
  | 4 => ⟨S2x3184, .i32⟩
  | 5 => ⟨S128x128, .f32⟩
  | 6 => ⟨S128, .f32⟩
  | 7 => ⟨S128x128, .f32⟩
  | 8 => ⟨S128x64, .f32⟩
  | 9 => ⟨S64, .f32⟩
  | 10 => ⟨S128x64, .f32⟩
  | 11 => ⟨S9950x128, .f32⟩
  | 12 => ⟨S128, .f32⟩
  | 13 => ⟨S128, .f32⟩
  | 14 => ⟨S128, .f32⟩
  | 15 => ⟨S128x64, .f32⟩
  | 16 => ⟨S64, .f32⟩
  | 17 => ⟨S64, .f32⟩
  | 18 => ⟨S64, .f32⟩
  | 19 => ⟨S64x1, .f32⟩
  | 20 => ⟨S1, .f32⟩
  | 21 => ⟨S1x640000, .i32⟩
  | 22 => ⟨S640000, .i32⟩
  | 23 => ⟨S1x640000, .i32⟩
  | 24 => ⟨S640000, .i32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x128, .f32⟩
  | 34 => ⟨S_, .f32⟩
  | 35 => ⟨S10000x128, .f32⟩
  | 36 => ⟨S640000x1, .i32⟩
  | 37 => ⟨S10000x128, .f32⟩
  | 38 => ⟨S_, .f32⟩
  | 39 => ⟨S640000, .f32⟩
  | 40 => ⟨S_, .f32⟩
  | 41 => ⟨S10000, .f32⟩
  | 42 => ⟨S640000x1, .i32⟩
  | 43 => ⟨S10000, .f32⟩
  | 44 => ⟨S_, .f32⟩
  | 45 => ⟨S10000, .f32⟩
  | 46 => ⟨S10000, .f32⟩
  | 47 => ⟨S10000x1, .f32⟩
  | 48 => ⟨S10000x128, .f32⟩
  | 49 => ⟨S10000x128, .f32⟩
  | 50 => ⟨S10000x128, .f32⟩
  | 51 => ⟨S1x128, .f32⟩
  | 52 => ⟨S10000x128, .f32⟩
  | 53 => ⟨S10000x128, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S1x640000, .i32⟩
  | 60 => ⟨S640000, .i32⟩
  | 61 => ⟨S1x640000, .i32⟩
  | 62 => ⟨S640000, .i32⟩
  | 63 => ⟨S_, .i32⟩
  | 64 => ⟨S640000, .i32⟩
  | 65 => ⟨S640000, .i1⟩
  | 66 => ⟨S_, .i32⟩
  | 67 => ⟨S640000, .i32⟩
  | 68 => ⟨S640000, .i32⟩
  | 69 => ⟨S640000, .i32⟩
  | 70 => ⟨S640000x1, .i32⟩
  | 71 => ⟨S640000x128, .f32⟩
  | 72 => ⟨S_, .f32⟩
  | 73 => ⟨S10000x128, .f32⟩
  | 74 => ⟨S640000x1, .i32⟩
  | 75 => ⟨S10000x128, .f32⟩
  | 76 => ⟨S_, .f32⟩
  | 77 => ⟨S640000, .f32⟩
  | 78 => ⟨S_, .f32⟩
  | 79 => ⟨S10000, .f32⟩
  | 80 => ⟨S640000x1, .i32⟩
  | 81 => ⟨S10000, .f32⟩
  | 82 => ⟨S_, .f32⟩
  | 83 => ⟨S10000, .f32⟩
  | 84 => ⟨S10000, .f32⟩
  | 85 => ⟨S10000x1, .f32⟩
  | 86 => ⟨S10000x128, .f32⟩
  | 87 => ⟨S10000x128, .f32⟩
  | 88 => ⟨S10000x64, .f32⟩
  | 89 => ⟨S1x64, .f32⟩
  | 90 => ⟨S10000x64, .f32⟩
  | 91 => ⟨S10000x64, .f32⟩
  | 92 => ⟨S10000x64, .f32⟩
  | 93 => ⟨S10000x64, .f32⟩
  | 94 => ⟨S_, .f32⟩
  | 95 => ⟨S10000x64, .f32⟩
  | 96 => ⟨S10000x64, .f32⟩
  | 97 => ⟨S1x3184, .i32⟩
  | 98 => ⟨S3184, .i32⟩
  | 99 => ⟨S1x3184, .i32⟩
  | 100 => ⟨S3184, .i32⟩
  | 101 => ⟨S_, .i32⟩
  | 102 => ⟨S3184, .i32⟩
  | 103 => ⟨S3184, .i1⟩
  | 104 => ⟨S_, .i32⟩
  | 105 => ⟨S3184, .i32⟩
  | 106 => ⟨S3184, .i32⟩
  | 107 => ⟨S3184, .i32⟩
  | 108 => ⟨S3184x1, .i32⟩
  | 109 => ⟨S3184x128, .f32⟩
  | 110 => ⟨S_, .f32⟩
  | 111 => ⟨S199x128, .f32⟩
  | 112 => ⟨S3184x1, .i32⟩
  | 113 => ⟨S199x128, .f32⟩
  | 114 => ⟨S_, .f32⟩
  | 115 => ⟨S3184, .f32⟩
  | 116 => ⟨S_, .f32⟩
  | 117 => ⟨S199, .f32⟩
  | 118 => ⟨S3184x1, .i32⟩
  | 119 => ⟨S199, .f32⟩
  | 120 => ⟨S_, .f32⟩
  | 121 => ⟨S199, .f32⟩
  | 122 => ⟨S199, .f32⟩
  | 123 => ⟨S199x1, .f32⟩
  | 124 => ⟨S199x128, .f32⟩
  | 125 => ⟨S199x128, .f32⟩
  | 126 => ⟨S199x128, .f32⟩
  | 127 => ⟨S1x128, .f32⟩
  | _ => ⟨S10000x128, .f32⟩

abbrev hbmTy0_1 (i : Nat) : BufTy := match i % 128 with
  | 0 => ⟨S199x128, .f32⟩
  | 1 => ⟨S199x128, .f32⟩
  | 2 => ⟨S199x128, .f32⟩
  | 3 => ⟨S199x128, .f32⟩
  | 4 => ⟨S_, .f32⟩
  | 5 => ⟨S199x128, .f32⟩
  | 6 => ⟨S199x128, .f32⟩
  | 7 => ⟨S1x3184, .i32⟩
  | 8 => ⟨S3184, .i32⟩
  | 9 => ⟨S1x3184, .i32⟩
  | 10 => ⟨S3184, .i32⟩
  | 11 => ⟨S_, .i32⟩
  | 12 => ⟨S3184, .i32⟩
  | 13 => ⟨S3184, .i1⟩
  | 14 => ⟨S_, .i32⟩
  | 15 => ⟨S3184, .i32⟩
  | 16 => ⟨S3184, .i32⟩
  | 17 => ⟨S3184, .i32⟩
  | 18 => ⟨S3184x1, .i32⟩
  | 19 => ⟨S3184x128, .f32⟩
  | 20 => ⟨S_, .f32⟩
  | 21 => ⟨S199x128, .f32⟩
  | 22 => ⟨S3184x1, .i32⟩
  | 23 => ⟨S199x128, .f32⟩
  | 24 => ⟨S_, .f32⟩
  | 25 => ⟨S3184, .f32⟩
  | 26 => ⟨S_, .f32⟩
  | 27 => ⟨S199, .f32⟩
  | 28 => ⟨S3184x1, .i32⟩
  | 29 => ⟨S199, .f32⟩
  | 30 => ⟨S_, .f32⟩
  | 31 => ⟨S199, .f32⟩
  | 32 => ⟨S199, .f32⟩
  | 33 => ⟨S199x1, .f32⟩
  | 34 => ⟨S199x128, .f32⟩
  | 35 => ⟨S199x128, .f32⟩
  | 36 => ⟨S199x64, .f32⟩
  | 37 => ⟨S1x64, .f32⟩
  | 38 => ⟨S199x64, .f32⟩
  | 39 => ⟨S199x64, .f32⟩
  | 40 => ⟨S199x64, .f32⟩
  | 41 => ⟨S199x64, .f32⟩
  | 42 => ⟨S_, .f32⟩
  | 43 => ⟨S199x64, .f32⟩
  | 44 => ⟨S199x64, .f32⟩
  | 45 => ⟨S10000x64, .f32⟩
  | 46 => ⟨S_, .f32⟩
  | 47 => ⟨S10000, .f32⟩
  | 48 => ⟨S10000x1, .f32⟩
  | 49 => ⟨S199x64, .f32⟩
  | 50 => ⟨S_, .f32⟩
  | 51 => ⟨S199, .f32⟩
  | 52 => ⟨S1x199, .f32⟩
  | 53 => ⟨S10000x199, .f32⟩
  | 54 => ⟨S10000x199, .f32⟩
  | 55 => ⟨S10000x199, .f32⟩
  | 56 => ⟨S64x199, .f32⟩
  | 57 => ⟨S10000x199, .f32⟩
  | 58 => ⟨S_, .f32⟩
  | 59 => ⟨S10000x199, .f32⟩
  | 60 => ⟨S10000x199, .f32⟩
  | 61 => ⟨S10000x199, .f32⟩
  | 62 => ⟨S_, .f32⟩
  | 63 => ⟨S10000x199, .f32⟩
  | 64 => ⟨S10000x199, .f32⟩
  | 65 => ⟨S_, .f32⟩
  | 66 => ⟨S10000x199, .f32⟩
  | 67 => ⟨S10000x199, .f32⟩
  | 68 => ⟨S10000x199, .f32⟩
  | 69 => ⟨S1x10000, .i32⟩
  | 70 => ⟨S16, .i32⟩
  | 71 => ⟨S16x1, .i32⟩
  | 72 => ⟨S16x10000, .i32⟩
  | 73 => ⟨S16x10000, .i32⟩
  | 74 => ⟨S16x10000, .i1⟩
  | 75 => ⟨S10000x1, .f32⟩
  | 76 => ⟨S10000, .f32⟩
  | 77 => ⟨S1x10000, .f32⟩
  | 78 => ⟨S1x10000, .f32⟩
  | 79 => ⟨S_, .f32⟩
  | 80 => ⟨S_, .f32⟩
  | 81 => ⟨S16x10000, .f32⟩
  | 82 => ⟨S16x10000, .f32⟩
  | 83 => ⟨S16x10000, .f32⟩
  | 84 => ⟨S16x10000, .i32⟩
  | 85 => ⟨S16x10000, .f32⟩
  | 86 => ⟨S16x10000, .i32⟩
  | 87 => ⟨S16x50, .i32⟩
  | 88 => ⟨S_, .f32⟩
  | 89 => ⟨S10000, .f32⟩
  | 90 => ⟨S_, .f32⟩
  | 91 => ⟨S16, .f32⟩
  | 92 => ⟨S10000x1, .i32⟩
  | 93 => ⟨S16, .f32⟩
  | 94 => ⟨S50, .i32⟩
  | 95 => ⟨S1x50, .i32⟩
  | 96 => ⟨S16x1, .f32⟩
  | 97 => ⟨S1x50, .f32⟩
  | 98 => ⟨S16x50, .f32⟩
  | 99 => ⟨S16x50, .f32⟩
  | 100 => ⟨S16x50, .i1⟩
  | 101 => ⟨S16x50x1, .i1⟩
  | 102 => ⟨S_, .i32⟩
  | 103 => ⟨S16x50, .i32⟩
  | 104 => ⟨S16x50, .i1⟩
  | 105 => ⟨S_, .i32⟩
  | 106 => ⟨S16x50, .i32⟩
  | 107 => ⟨S16x50, .i32⟩
  | 108 => ⟨S16x50, .i32⟩
  | 109 => ⟨S16x50x1, .i32⟩
  | 110 => ⟨S16x50x199, .f32⟩
  | 111 => ⟨S_, .f32⟩
  | 112 => ⟨S_, .f32⟩
  | 113 => ⟨S16x50x199, .i1⟩
  | 114 => ⟨S16x50x199, .f32⟩
  | 115 => ⟨S16x50x199, .f32⟩
  | 116 => ⟨S16x9950, .f32⟩
  | 117 => ⟨S16x128, .f32⟩
  | 118 => ⟨S1x128, .f32⟩
  | 119 => ⟨S16x128, .f32⟩
  | 120 => ⟨S16x128, .f32⟩
  | 121 => ⟨S_, .f32⟩
  | 122 => ⟨S16, .f32⟩
  | 123 => ⟨S16x1, .f32⟩
  | 124 => ⟨S_, .f32⟩
  | 125 => ⟨S16x1, .f32⟩
  | 126 => ⟨S16x1, .f32⟩
  | 127 => ⟨S16x128, .f32⟩
  | _ => ⟨S10000x128, .f32⟩

abbrev hbmTy0_2 (i : Nat) : BufTy := match i % 128 with
  | 0 => ⟨S16x128, .f32⟩
  | 1 => ⟨S16x128, .f32⟩
  | 2 => ⟨S_, .f32⟩
  | 3 => ⟨S16, .f32⟩
  | 4 => ⟨S16x1, .f32⟩
  | 5 => ⟨S_, .f32⟩
  | 6 => ⟨S16x1, .f32⟩
  | 7 => ⟨S16x1, .f32⟩
  | 8 => ⟨S16x128, .f32⟩
  | 9 => ⟨S16x128, .f32⟩
  | 10 => ⟨S_, .f32⟩
  | 11 => ⟨S16x1, .f32⟩
  | 12 => ⟨S16x1, .f32⟩
  | 13 => ⟨S16x1, .f32⟩
  | 14 => ⟨S16x128, .f32⟩
  | 15 => ⟨S16x128, .f32⟩
  | 16 => ⟨S1x128, .f32⟩
  | 17 => ⟨S16x128, .f32⟩
  | 18 => ⟨S16x128, .f32⟩
  | 19 => ⟨S1x128, .f32⟩
  | 20 => ⟨S16x128, .f32⟩
  | 21 => ⟨S16x128, .f32⟩
  | 22 => ⟨S_, .f32⟩
  | 23 => ⟨S16x128, .f32⟩
  | 24 => ⟨S16x128, .f32⟩
  | 25 => ⟨S16x64, .f32⟩
  | 26 => ⟨S1x64, .f32⟩
  | 27 => ⟨S16x64, .f32⟩
  | 28 => ⟨S16x64, .f32⟩
  | 29 => ⟨S_, .f32⟩
  | 30 => ⟨S16, .f32⟩
  | 31 => ⟨S16x1, .f32⟩
  | 32 => ⟨S_, .f32⟩
  | 33 => ⟨S16x1, .f32⟩
  | 34 => ⟨S16x1, .f32⟩
  | 35 => ⟨S16x64, .f32⟩
  | 36 => ⟨S16x64, .f32⟩
  | 37 => ⟨S16x64, .f32⟩
  | 38 => ⟨S_, .f32⟩
  | 39 => ⟨S16, .f32⟩
  | 40 => ⟨S16x1, .f32⟩
  | 41 => ⟨S_, .f32⟩
  | 42 => ⟨S16x1, .f32⟩
  | 43 => ⟨S16x1, .f32⟩
  | 44 => ⟨S16x64, .f32⟩
  | 45 => ⟨S16x64, .f32⟩
  | 46 => ⟨S_, .f32⟩
  | 47 => ⟨S16x1, .f32⟩
  | 48 => ⟨S16x1, .f32⟩
  | 49 => ⟨S16x1, .f32⟩
  | 50 => ⟨S16x64, .f32⟩
  | 51 => ⟨S16x64, .f32⟩
  | 52 => ⟨S1x64, .f32⟩
  | 53 => ⟨S16x64, .f32⟩
  | 54 => ⟨S16x64, .f32⟩
  | 55 => ⟨S1x64, .f32⟩
  | 56 => ⟨S16x64, .f32⟩
  | 57 => ⟨S16x64, .f32⟩
  | 58 => ⟨S_, .f32⟩
  | 59 => ⟨S16x64, .f32⟩
  | 60 => ⟨S16x64, .f32⟩
  | 61 => ⟨S16x1, .f32⟩
  | 62 => ⟨S1x1, .f32⟩
  | 63 => ⟨S16x1, .f32⟩
  | 64 => ⟨S16x1, .f32⟩
  | 65 => ⟨S16x1, .f32⟩
  | 66 => ⟨S16x1, .f32⟩
  | 67 => ⟨S_, .f32⟩
  | 68 => ⟨S16x1, .f32⟩
  | 69 => ⟨S16x1, .f32⟩
  | 70 => ⟨S_, .f32⟩
  | 71 => ⟨S16x1, .f32⟩
  | 72 => ⟨S16x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call0_cst : Ref sig .tc := ⟨.hbm, 56, rfl⟩
abbrev main_call0_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call1_cst : Ref sig .tc := ⟨.hbm, 94, rfl⟩
abbrev main_call1_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_13 : Ref sig .tc := ⟨.hbm, 114, rfl⟩
abbrev main_v74 : Ref sig .tc := ⟨.hbm, 115, rfl⟩
abbrev main_cst_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call2_cst : Ref sig .tc := ⟨.hbm, 132, rfl⟩
abbrev main_call2_v0 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_16 : Ref sig .tc := ⟨.hbm, 139, rfl⟩
abbrev main_v94 : Ref sig .tc := ⟨.hbm, 140, rfl⟩
abbrev main_v95 : Ref sig .tc := ⟨.hbm, 141, rfl⟩
abbrev main_c_17 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_18 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_19 : Ref sig .tc := ⟨.hbm, 152, rfl⟩
abbrev main_v104 : Ref sig .tc := ⟨.hbm, 153, rfl⟩
abbrev main_cst_20 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_21 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call3_cst : Ref sig .tc := ⟨.hbm, 170, rfl⟩
abbrev main_call3_v0 : Ref sig .tc := ⟨.hbm, 171, rfl⟩
abbrev main_v119 : Ref sig .tc := ⟨.hbm, 172, rfl⟩
abbrev main_v120 : Ref sig .tc := ⟨.hbm, 173, rfl⟩
abbrev main_cst_22 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_23 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_24 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_25 : Ref sig .tc := ⟨.hbm, 190, rfl⟩
abbrev main_v134 : Ref sig .tc := ⟨.hbm, 191, rfl⟩
abbrev main_v135 : Ref sig .tc := ⟨.hbm, 192, rfl⟩
abbrev main_cst_26 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_27 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_v149 : Ref sig .tc := ⟨.hbm, 211, rfl⟩
abbrev main_call5_v0 : Ref sig .tc := ⟨.hbm, 212, rfl⟩
abbrev main_call5_v1_0 : Ref sig .tc := ⟨.hbm, 213, rfl⟩
abbrev main_v150 : Ref sig .tc := ⟨.hbm, 214, rfl⟩
abbrev main_v151 : Ref sig .tc := ⟨.hbm, 215, rfl⟩
abbrev main_cst_28 : Ref sig .tc := ⟨.hbm, 216, rfl⟩
abbrev main_v152 : Ref sig .tc := ⟨.hbm, 217, rfl⟩
abbrev main_cst_29 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_c_30 : Ref sig .tc := ⟨.hbm, 230, rfl⟩
abbrev main_v164 : Ref sig .tc := ⟨.hbm, 231, rfl⟩
abbrev main_v165 : Ref sig .tc := ⟨.hbm, 232, rfl⟩
abbrev main_c_31 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_cst_32 : Ref sig .tc := ⟨.hbm, 239, rfl⟩
abbrev main_call6_v0 : Ref sig .tc := ⟨.hbm, 240, rfl⟩
abbrev main_call6_v1 : Ref sig .tc := ⟨.hbm, 241, rfl⟩
abbrev main_call6_v2 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_cst_33 : Ref sig .tc := ⟨.hbm, 249, rfl⟩
abbrev main_v177 : Ref sig .tc := ⟨.hbm, 250, rfl⟩
abbrev main_v178 : Ref sig .tc := ⟨.hbm, 251, rfl⟩
abbrev main_cst_34 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_cst_35 : Ref sig .tc := ⟨.hbm, 258, rfl⟩
abbrev main_v184 : Ref sig .tc := ⟨.hbm, 259, rfl⟩
abbrev main_v185 : Ref sig .tc := ⟨.hbm, 260, rfl⟩
abbrev main_cst_36 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_cst_37 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_call7_cst : Ref sig .tc := ⟨.hbm, 278, rfl⟩
abbrev main_call7_v0 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_cst_38 : Ref sig .tc := ⟨.hbm, 285, rfl⟩
abbrev main_v206 : Ref sig .tc := ⟨.hbm, 286, rfl⟩
abbrev main_v207 : Ref sig .tc := ⟨.hbm, 287, rfl⟩
abbrev main_cst_39 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_cst_40 : Ref sig .tc := ⟨.hbm, 294, rfl⟩
abbrev main_v213 : Ref sig .tc := ⟨.hbm, 295, rfl⟩
abbrev main_v214 : Ref sig .tc := ⟨.hbm, 296, rfl⟩
abbrev main_cst_41 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_cst_42 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_call8_cst : Ref sig .tc := ⟨.hbm, 314, rfl⟩
abbrev main_call8_v0 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_cst_43 : Ref sig .tc := ⟨.hbm, 323, rfl⟩
abbrev main_v237 : Ref sig .tc := ⟨.hbm, 324, rfl⟩
abbrev main_v238 : Ref sig .tc := ⟨.hbm, 325, rfl⟩
abbrev main_cst_44 : Ref sig .tc := ⟨.hbm, 326, rfl⟩
abbrev main_v239 : Ref sig .tc := ⟨.hbm, 327, rfl⟩
abbrev main_v240 : Ref sig .tc := ⟨.hbm, 328, rfl⟩

abbrev nD : Nat := 1
abbrev τ : Topo := Topo.v7x

variable {F : FTy → Type} [FloatOps F]
-- ==== Proof.Setup.lean ====
/-
  The program as the launch theorem sees it, the buffers of the histogram call, and the values its tiles compute.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 3) fun p => (pcfgs (F := F) p).Adm
abbrev K : SparseCore.Cfg τ sig (ΛP (F := F)) 1 := sc (F := F)
/-- The call runs on two SparseCores. -/
theorem nCore_zero : (K (F := F)).nCore 0 = 2 := rfl
/-- It runs on sixteen vector subcores of each. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no SparseCore-owned buffer is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The buffers -/

/-- The destination indices and the histograms, as locations of device `d`. -/
abbrev xLoc (d : Dev nD) : Loc nD τ sig := (SparseCore.T d).loc main_v3
abbrev oLoc (d : Dev nD) : Loc nD τ sig := (SparseCore.T d).loc main_v4

/-- Thirty-two tiles share the destination indices, 20000 words each. -/
theorem hdivX : 32 ∣ S640000.size 0 := ⟨20000, rfl⟩
/-- Each tile owns one row of the histograms. -/
theorem hdivO : 32 ∣ S32x10000.size 0 := ⟨1, rfl⟩
abbrev partX (w : Fin 32) : Rect S640000 := Rect.part (s := S640000) (a₀ := 0) hdivX w
abbrev partO (w : Fin 32) : Rect S32x10000 := Rect.part (s := S32x10000) (a₀ := 0) hdivO w

/-- The tile `i` of SparseCore `c` among the thirty-two. -/
abbrev wOf (c : Fin 2) (i : Fin 16) : Fin 32 := ⟨16 * c.val + i.val, by omega⟩

/-! ## The values -/

/-- The index of a one-axis array at position `i`. -/
def at1 {n : ℕ} (i : Fin n) : (⟨1, ![n]⟩ : Shape).Idx := fun | 0 => i | ⟨_ + 1, h⟩ => absurd h (Nat.not_lt.2 (Nat.le_add_left _ _))
/-- Every index of a one-axis array is `at1` of its coordinate. -/
theorem at1_eq {n : ℕ} (j : (⟨1, ![n]⟩ : Shape).Idx) : at1 (n := n) (j 0) = j := by
  funext a; obtain rfl : a = 0 := Subsingleton.elim _ _; rfl

/-- The sixteen words a tile reads at trip `k`. -/
def vec (ws : Vec F S20000 .i32) (k : ℕ) : Vec F S16 .i32 :=
  fun x => if h : 16 * k + (x 0).val < 20000 then ws (at1 ⟨16 * k + (x 0).val, h⟩) else 0#32

variable [FloatOps F]

/-- One trip of the counting loop: the counts of a vector's distinct words are added at those words. -/
def bump (v : Vec F S16 .i32) (g : Vec F S10000 .f32) : Vec F S10000 .f32 :=
  if h : k0_chk1 v then storeIdx g ![v] (k0_pay4 v) (k0_pay3 v) true (k0_idx1_inb v h) else g

/-- A tile's histogram after its first `n` trips. -/
def histN (ws : Vec F S20000 .i32) : ℕ → Vec F S10000 .f32
  | 0 => fun _ => Scalar.ofBits .f32 0x00000000#32
  | n + 1 => bump (vec ws n) (histN ws n)

/-- The words of tile `w`, out of all destination indices. -/
def wordsOf (g : Vec F S640000 .i32) (w : Fin 32) : Vec F S20000 .i32 :=
  fun j => g (at1 ⟨20000 * w.val + (j 0).val, by have h : (j 0).val < 20000 := (j 0).isLt; have := w.isLt; omega⟩)

/-- What the call leaves: row `w` is tile `w`'s histogram after all its trips. -/
def OUT (g : Vec F S640000 .i32) : Vec F S32x10000 .f32 :=
  fun j => histN (wordsOf g (j 0)) 1250 (at1 (j 1))

end Cert.Proof.Hist

end
-- ==== Proof.Tile.lean ====
/-
  One tile of the histogram call, at a symbolic SparseCore and vector subcore: what it takes, what it leaves.
-/
module

public import proofs.«01_k».proof.Proof.Setup
public import Idealize.ShloMosaic.Lib.Pipeline.Value

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the pipelines' rounds and the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

local notation "xV" => (Memref.whole Cert.KernelIdeal.main_v3_scv : Memref Cert.KernelIdeal.sig Kind.scVector Space.hbm Cert.KernelIdeal.S640000 EltTy.i32)
local notation "oV" => (Memref.whole Cert.KernelIdeal.main_v4_scv : Memref Cert.KernelIdeal.sig Kind.scVector Space.hbm Cert.KernelIdeal.S32x10000 EltTy.f32)
local notation "sD" => (Memref.whole Cert.KernelIdeal.cc0_scratch0 : Memref Cert.KernelIdeal.sig Kind.scVector Space.vmem Cert.KernelIdeal.S20000 EltTy.i32)
local notation "sH" => (Memref.whole Cert.KernelIdeal.cc0_scratch1 : Memref Cert.KernelIdeal.sig Kind.scVector Space.vmem Cert.KernelIdeal.S10000 EltTy.f32)

abbrev setX (w : Fin 32) : Finset S640000.Idx := ((xV).view.slice (partX w)).set
abbrev setO (w : Fin 32) : Finset S32x10000.Idx := ((oV).view.slice (partO w)).set

variable [FloatOps F]

/-- Tile `w`'s words, and its row of the histograms. -/
abbrev xPart (d : Dev nD) (w : Fin 32) (g : Buf (Elt F) (xLoc d)) : sProp 𝕄 := xLoc d ↦[setX w]{fullShare} g
abbrev oPart (d : Dev nD) (w : Fin 32) (f : Buf (Elt F) (oLoc d)) : sProp 𝕄 := oLoc d ↦[setO w]{fullShare} f

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wOf (Fin.cast bound_zero (L 0)) (Fin.cast bound_one (L 1))

abbrev rectX (L : grid0.Coords) : Rect S640000 := Rect.unit (s := S640000) (k0_off1 L) S20000.size (k0_off1_inb L)
abbrev xRow (L : grid0.Coords) : Memref sig .scVector .hbm S20000 .i32 := (xV).slice (rectX L) (fun _ => rfl)
abbrev rectO (L : grid0.Coords) : Rect S32x10000 := Rect.unit (s := S32x10000) (k0_off4 L) S1x10000.size (k0_off4_inb L)
abbrev oRow (L : grid0.Coords) : Memref sig .scVector .hbm S10000 .f32 := ((oV).slice (rectO L) (fun _ => rfl)).squeeze S10000 squeezes_S1x10000_S10000

omit [FloatOps F] in
/-- The first offset of the words a tile copies. -/
theorem off1_eq : k0_off1 L = ![20000 * (wL L).val] := by
  rw [k0_off1_eq]
  congr 1
  show 320000 * (L 0).val + 20000 * (L 1).val = 20000 * (16 * (L 0).val + (L 1).val)
  omega
omit [FloatOps F] in
theorem off4_eq : k0_off4 L = ![(wL L).val, 0] := by
  rw [k0_off4_eq]; rfl

omit [FloatOps F] in
theorem rectX_eq : rectX L = partX (wL L) := by
  unfold rectX partX Rect.part Rect.block
  congr 1 <;> funext a
  · rw [off1_eq]
    match a with
    | 0 => simp [Shape.partIx, Shape.partSize]; omega
  · match a with
    | 0 => simp [Shape.partSize]
omit [FloatOps F] in
theorem rectO_eq : rectO L = partO (wL L) := by
  unfold rectO partO Rect.part Rect.block
  congr 1 <;> funext a
  · rw [off4_eq]
    match a with
    | 0 => simp [Shape.partIx, Shape.partSize]
    | 1 => simp [Shape.partIx, Shape.partSize]
  · match a with
    | 0 => simp [Shape.partSize]
    | 1 => simp [Shape.partSize]

omit [FloatOps F] in
theorem set_xRow : (xRow L).view.set = setX (wL L) := by
  show ((xV).view.slice (rectX L)).set = ((xV).view.slice (partX (wL L))).set
  exact rectX_eq L ▸ rfl
omit [FloatOps F] in
theorem set_oRow : (oRow L).view.set = setO (wL L) := by
  show (((oV).view.slice (rectO L)).reshape S10000 squeezes_S1x10000_S10000.numel_eq).set = ((oV).view.slice (partO (wL L))).set
  rw [View.set_reshape]
  exact rectO_eq L ▸ rfl

omit [FloatOps F] in
theorem pts_xRow (f : Buf (Elt F) (xLoc d)) :
    ((xRow L).view.loc (V d (cV L) (jV L)) ↦[(xRow L).view.set]{fullShare} f : sProp 𝕄) = xLoc d ↦[setX (wL L)]{fullShare} f := by
  rw [set_xRow]
omit [FloatOps F] in
theorem pts_oRow (f : Buf (Elt F) (oLoc d)) :
    ((oRow L).view.loc (V d (cV L) (jV L)) ↦[(oRow L).view.set]{fullShare} f : sProp 𝕄) = oLoc d ↦[setO (wL L)]{fullShare} f := by
  rw [set_oRow]
omit [FloatOps F] in
theorem pts_sD (f : Buf (Elt F) ((V d (cV L) (jV L)).loc cc0_scratch0)) :
    ((sD).view.loc (V d (cV L) (jV L)) ↦{fullShare} f : sProp 𝕄) = (V d (cV L) (jV L)).loc cc0_scratch0 ↦{fullShare} f := rfl
omit [FloatOps F] in
theorem pts_sH (f : Buf (Elt F) ((V d (cV L) (jV L)).loc cc0_scratch1)) :
    ((sH).view.loc (V d (cV L) (jV L)) ↦{fullShare} f : sProp 𝕄) = (V d (cV L) (jV L)).loc cc0_scratch1 ↦{fullShare} f := rfl
omit [FloatOps F] in
theorem pts_sH_whole (f : Buf (Elt F) ((V d (cV L) (jV L)).loc cc0_scratch1)) :
    (((sH).access (.whole S10000)).loc (V d (cV L) (jV L)) ↦[((sH).access (.whole S10000)).set]{fullShare} f : sProp 𝕄)
      = ((sH).view.loc (V d (cV L) (jV L)) ↦{fullShare} f : sProp 𝕄) := by
  rw [show ((sH).access (.whole S10000)).set = Finset.univ from Memref.set_access_whole (cc0_scratch1 : Ref sig .scVector)]

/-- The two scoped DMA cells: the words' copy in, the histogram's copy out. -/
abbrev cellIn (d : Dev nD) (c : Fin τ.nSC) (i : Fin τ.nSub) : GSem nD τ sig := (V d c i, .dma cc0_scoped0.sem)
abbrev cellOut (d : Dev nD) (c : Fin τ.nSC) (i : Fin τ.nSub) : GSem nD τ sig := (V d c i, .dma cc0_scoped1.sem)

omit [FloatOps F] in
/-- A tile's own semaphores: the two cells and the others. -/
theorem ownSems0_V :
    (ownSems0 (V d (cV L) (jV L)) : sProp 𝕄)
      = iprop(semVal (cellIn d (cV L) (jV L)) 0 ∗ semVal (cellOut d (cV L) (jV L)) 0
          ∗ bigSep (((ownCells (V d (cV L) (jV L))).erase (cellIn d (cV L) (jV L))).erase (cellOut d (cV L) (jV L))) fun g => semVal g 0) := by
  unfold SparseCore.Cfg.ownSems0
  rw [SparseCore.bigSep_erase' ((mem_ownCells (g := cellIn d (cV L) (jV L))).mpr ⟨rfl, by
      show (SemLoc.dma cc0_scoped0.sem : SemLoc sig).isScoped .scVector = true; decide⟩),
    SparseCore.bigSep_erase' (Finset.mem_erase.mpr ⟨by simp [cellIn, cellOut]; decide, (mem_ownCells (g := cellOut d (cV L) (jV L))).mpr ⟨rfl, by
      show (SemLoc.dma cc0_scoped1.sem : SemLoc sig).isScoped .scVector = true; decide⟩⟩)]

omit [FloatOps F] in
/-- A tile's own buffers: the two scratches, each at some contents, and the others. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- After `n` trips of the clearing loop the first `16 n` counts are zero. -/
def Cleared (n : ℕ) (f : Vec F S10000 .f32) : Prop :=
  ∀ j : S10000.Idx, (j 0).val < 16 * n → f j = Scalar.ofBits .f32 0x00000000#32

/-- The clearing loop's invariant. -/
def inv1 (n : Nat) (_ : Unit) : sProp 𝕄 :=
  iprop(∃ f : Buf (Elt F) ((V d (cV L) (jV L)).loc cc0_scratch1), ⌜Cleared (F := F) n f⌝ ∗ ((sH).view.loc (V d (cV L) (jV L)) ↦{fullShare} f))

/-- The counting loop's invariant: the tile's words in place, the histogram after `n` trips. -/
def inv2 (ws : Vec F S20000 .i32) (n : Nat) (_ : Unit) : sProp 𝕄 :=
  iprop(((sD).view.loc (V d (cV L) (jV L)) ↦{fullShare} (ws : Buf (Elt F) ((V d (cV L) (jV L)).loc cc0_scratch0)))
    ∗ ((sH).view.loc (V d (cV L) (jV L)) ↦{fullShare} (histN ws n : Buf (Elt F) ((V d (cV L) (jV L)).loc cc0_scratch1))))

/-- One trip's store clears sixteen more counts. -/
theorem cleared_succ (k : Fin k0_t1_loop.trips) (f : Buf (Elt F) ((V d (cV L) (jV L)).loc cc0_scratch1)) (hf : Cleared (F := F) k.val f) :
    Cleared (F := F) (k.val + 1) ((sH).view.writes (Elt F) f [⟨Rect.unit (s := S10000) (k0_off2 k) S16.size (k0_off2_inb k), k0_pay1⟩]) := by
  intro j hj
  rw [View.writes_singleton]
  have e := congrFun (View.write_whole_slice_unit (Val := Elt F) cc0_scratch1 (k0_off2 k) S16.size (k0_off2_inb k) f k0_pay1) j
  refine e.trans ?_
  unfold updateSlice
  split
  · rfl
  · next hout =>
    refine hf j ?_
    by_contra hlt
    refine hout fun (a : Fin 1) => ?_
    obtain rfl : a = 0 := Subsingleton.elim _ _
    have e2 : k0_off2 k 0 = 16 * k.val := congrFun (k0_off2_eq k) 0
    show k0_off2 k 0 ≤ (j 0).val ∧ (j 0).val < k0_off2 k 0 + 16
    omega

omit [FloatOps F] in
/-- What the copy in brings: the tile's words. -/
theorem words_read (gx : Buf (Elt F) (xLoc d)) : (xRow L).view.read (Elt F) gx = wordsOf (F := F) gx (wL L) := by
  funext j
  rw [View.read_apply]
  show gx _ = gx _
  congr 1
  funext (a : Fin 1)
  obtain rfl : a = 0 := Subsingleton.elim _ _
  apply Fin.ext
  have e : k0_off1 L 0 = 20000 * (wL L).val := congrFun (off1_eq L) 0
  show k0_off1 L 0 + 1 * (j 0).val = 20000 * (wL L).val + (j 0).val
  omega

omit [FloatOps F] in
/-- What a trip loads: its sixteen words. -/
theorem vec_read (k : Fin k0_t2_loop.trips) (ws : Vec F S20000 .i32) :
    (sD).view.readAt (Elt F) (Rect.unit (s := S20000) (k0_off3 k) S16.size (k0_off3_inb k)).toLoadRect ws = vec (F := F) ws k.val := by
  funext x
  have hk : k.val < 1250 := k.isLt
  have hx : (x 0).val < 16 := (x 0).isLt
  rw [View.readAt_apply]
  unfold vec
  rw [dif_pos (by omega)]
  show ws _ = ws _
  congr 1
  funext (a : Fin 1)
  obtain rfl : a = 0 := Subsingleton.elim _ _
  apply Fin.ext
  have e : k0_off3 k 0 = 16 * k.val := congrFun (k0_off3_eq k) 0
  show k0_off3 k 0 + 1 * (x 0).val = 16 * k.val + (x 0).val
  omega

omit [FloatOps F] in
/-- A vector of a tile's words is in range where the words are. -/
theorem chk_vec (ws : Vec F S20000 .i32) (hws : ∀ j, (ws j : BitVec 32).toNat < 10000) (k : ℕ) : k0_chk1 (vec (F := F) ws k) := by
  intro a x
  obtain rfl : a = 0 := Subsingleton.elim _ _
  show (vec ws k x : BitVec 32).toNat < 10000
  unfold vec
  split
  · exact hws _
  · decide

/-- What a trip's masked addition leaves is the next histogram. -/
theorem histN_succ (ws : Vec F S20000 .i32) (k : ℕ) (h : k0_chk1 (vec (F := F) ws k)) :
    histN ws (k + 1) = storeIdx (histN ws k) ![vec ws k] (k0_pay4 (vec ws k)) (k0_pay3 (vec ws k)) true (k0_idx1_inb (vec ws k) h) := by
  show bump _ _ = _
  unfold bump
  rw [dif_pos h]

/-- The same, as the indexed store writes it over the whole scratch. -/
theorem trip_value (ws : Vec F S20000 .i32) (k : ℕ) (v : Vec F S16 .i32) (hv : v = vec ws k) (h : k0_chk1 v) :
    ((sH).access (.whole S10000)).write (Elt F) (histN ws k) (storeIdx (((sH).access (.whole S10000)).read (Elt F) (histN ws k))
        ![v] (k0_pay4 v) (k0_pay3 v) true (k0_idx1_inb v h)) Finset.univ = histN ws (k + 1) := by
  subst hv
  rw [histN_succ ws k h]
  exact (Memref.write_access_whole_univ (Elt F) (cc0_scratch1 : Ref sig .scVector) _ _).trans
    (congrArg (fun g : Vec F S10000 .f32 => storeIdx g ![vec ws k] (k0_pay4 (vec ws k)) (k0_pay3 (vec ws k)) true (k0_idx1_inb (vec ws k) h))
      (Memref.read_access_whole (Elt F) (cc0_scratch1 : Ref sig .scVector) (histN ws k)))

/-- What the copy out leaves in the tile's row. -/
theorem row_value (gx : Buf (Elt F) (xLoc d)) (g0 : Buf (Elt F) (oLoc d)) :
    ∀ i ∈ (oRow L).view.set, (oRow L).view.writes (Elt F) g0 [⟨Rect.whole S10000, histN (wordsOf (F := F) gx (wL L)) 1250⟩] i = OUT gx i := by
  intro i hi
  obtain ⟨j, -, rfl⟩ := Finset.mem_map.mp hi
  have hr := congrFun (View.read_writes_whole (oRow L).view g0 (histN (wordsOf (F := F) gx (wL L)) 1250)) j
  rw [View.read_apply, cast_eq] at hr
  refine hr.trans ?_
  have hc := Shape.reshapeEquiv_cons_one (n := 1) (d := ![10000]) squeezes_S1x10000_S10000.numel_eq j
  have e0 : (oRow L).view.emb j 0 = wL L := by
    apply Fin.ext
    have e : k0_off4 L 0 = (wL L).val := congrFun (off4_eq L) 0
    have h0 : (Shape.reshapeEquiv squeezes_S1x10000_S10000.numel_eq j 0).val = 0 := by
      have := (Shape.reshapeEquiv (s := S1x10000) squeezes_S1x10000_S10000.numel_eq j 0).isLt
      exact Nat.lt_one_iff.mp this
    show k0_off4 L 0 + 1 * (Shape.reshapeEquiv squeezes_S1x10000_S10000.numel_eq j 0).val = (wL L).val
    omega
  have e1 : (oRow L).view.emb j 1 = j 0 := by
    apply Fin.ext
    have e : k0_off4 L 1 = 0 := congrFun (off4_eq L) 1
    have h1 : (Shape.reshapeEquiv squeezes_S1x10000_S10000.numel_eq j 1).val = (j 0).val := by
      rw [hc]; rfl
    show k0_off4 L 1 + 1 * (Shape.reshapeEquiv squeezes_S1x10000_S10000.numel_eq j 1).val = (j 0).val
    omega
  show _ = histN (wordsOf gx ((oRow L).view.emb j 0)) 1250 (at1 ((oRow L).view.emb j 1))
  rw [e0, e1, at1_eq]

/-- The task at a symbolic tile: its histogram lands in its row. -/
theorem tile_body (gx : Buf (Elt F) (xLoc d)) (g0 : Buf (Elt F) (oLoc d)) (hin : ∀ j, (gx j : BitVec 32).toNat < 10000)
    (hF : (K (F := F)).Facts) (O : CellTallies nD τ sig (HIx 1)) (W : Waits sig (HIx 1)) (hO : ∀ g, O g none = 0) :
    iprop(levAts (K (F := F)).L (K (F := F)).lev ∗ emp
        ∗ (xPart d (wL L) gx ∗ oPart d (wL L) g0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) oV (Memref.isWhole_whole _)
            sD (Memref.isWhole_whole _) sH (Memref.isWhole_whole _) cc0_scoped0 cc0_scoped1)
          fun _ => iprop((xPart d (wL L) gx ∗ oPart d (wL L) (OUT gx))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fd, Hd⟩, ⟨%fh, Hh⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRow (F := F) d L _).symm) $$ Hx
  ihave Ho' := (Entails.of_eq (pts_oRow (F := F) d L _).symm) $$ Ho
  ihave Hd' := (Entails.of_eq (pts_sD (F := F) d L _).symm) $$ Hd
  ihave Hh' := (Entails.of_eq (pts_sH (F := F) d L _).symm) $$ Hh
  sl_exec
  sl_for (inv1 (F := F) d L) $$ [Hh']
  case region =>
    intro k _
    unfold inv1
    iintro ⟨%f, %hf, Hh⟩
    sl_exec
    sl_step
    iexists _; isplitr
    swap; · iexact Hh
    ipureintro
    exact cleared_succ d L k f hf
  · unfold inv1
    iexists _; isplitr
    swap; · iexact Hh'
    ipureintro; intro j hj; omega
  iintro %_ HI
  unfold inv1
  icases HI with ⟨%f, %hf, Hh⟩
  have hw : (xRow L).view.read (Elt F) gx = wordsOf (F := F) gx (wL L) := words_read d L gx
  have hws : ∀ j, (wordsOf (F := F) gx (wL L) j : BitVec 32).toNat < 10000 := fun j => hin _
  have h0 : f = histN (wordsOf (F := F) gx (wL L)) 0 := funext fun j => hf j (show (j 0).val < 10000 from (j 0).isLt)
  subst h0
  ihave Hd := (Entails.of_eq (show ((sD).view.loc (V d (cV L) (jV L)) ↦{fullShare}
        View.write (Elt F) (sD).view fd (tile_body.sl.dma0 d L gx) Finset.univ : sProp 𝕄)
      = ((sD).view.loc (V d (cV L) (jV L)) ↦{fullShare} (wordsOf (F := F) gx (wL L) : Buf (Elt F) ((V d (cV L) (jV L)).loc cc0_scratch0))) from
    congrArg _ ((View.write_whole_univ cc0_scratch0 fd _).trans hw))) $$ Hd'
  sl_for (inv2 (F := F) d L (wordsOf gx (wL L))) $$ [Hd Hh]
  case region =>
    intro k _
    unfold inv2
    iintro ⟨Hd, Hh⟩
    sl_exec
    have hv := vec_read (F := F) k (wordsOf gx (wL L))
    have hc := hv ▸ chk_vec (F := F) (wordsOf gx (wL L)) hws k.val
    rw [wp_assume_of _ _ _ _ hc]
    ihave Hh := (Entails.of_eq (pts_sH_whole (F := F) d L _).symm) $$ Hh
    iapply (SparseCore.wp_vectorStoreIdx 𝒱₀ (V d (cV L) (jV L)) none Set.univ (base := sH)) $$ Hh
    iintro Hh
    ihave Hh := (Entails.of_eq (congrArg _ (trip_value (F := F) (wordsOf gx (wL L)) k.val _ hv hc))) $$ Hh
    ihave Hh := (Entails.of_eq (pts_sH_whole (F := F) d L _)) $$ Hh
    sl_step
    isplitl [Hd]; · iexact Hd
    iexact Hh
  · unfold inv2
    isplitl [Hd]; · iexact Hd
    iexact Hh
  iintro %_ HI
  unfold inv2
  icases HI with ⟨Hd, Hh⟩
  sl_exec
  sl_step
  isplitl [Hx' Ho']
  · isplitl [Hx']; · iapply (Entails.of_eq (pts_xRow (F := F) d L _)); iexact Hx'
    iapply (Entails.of_eq (pts_oRow (F := F) d L _))
    iapply (Entails.of_eq (pointsTo_congr (row_value (F := F) d L gx g0)))
    iexact Ho'
  isplitl [Hd Hh Hbufs]
  · isplitl [Hd]; · iexists _; iexact Hd
    isplitl [Hh]; · iexists _; iexact Hh
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Tile

end Cert.Proof.Hist

end
-- ==== Proof.RegionRule.lean ====
/-
  A TensorCore call inside a program with a SparseCore call: its rule, over the buffers the TensorCore holds, keeping
  the bound on the waits that the TensorCore has recorded.
-/
module

public import proofs.«01_k».proof.Proof.Tile
public import Idealize.ShloMosaic.Lib.Pipeline.RegionArraysS

@[expose] public section

noncomputable section

namespace Cert.Proof.Hist

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat PLaunchFacts BodyObligationLoose RegionSeg arrRef arrRefs scopedRest cellsGhost toksInit afterRegion)

variable {F : FTy → Type}

local notation "𝕄" => MT nD τ sig (HIx 1) (Elt F) ℕ UU ℕ

/-- The pipelines' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-- No pipeline prefetches a table: the one admissible contents. -/
abbrev adm : (p : Fin 3) → (pcfgs (F := F) p).Adm := fun q => (cfgs q).toPCfg_adm

/-- What the TensorCore owes when no SparseCore call is left, its recorded waits all at or below level `b`. -/
abbrev owesBelow (b : ℕ) (c : Dev nD) : sProp 𝕄 :=
  iprop(∃ Wd, ⌜(K (F := F)).WBelow (SparseCore.T c) Wd b⌝ ∗ owes (c : Thread nD τ) (0 : CellTallies nD τ sig (HIx 1)) Wd)

/-- Proof data of every pipeline on every core. -/
abbrev Dats : Type := (p : Fin 3) → (c : Dev nD) → Dat τ (Elt F) (HIx 1) ℕ UU ℕ (Pipeline.pin (pcfgs (F := F)) adm p) c

variable [FloatOps F]

section Rule

variable (pdats : Dats (F := F)) (p : Fin 3) (kit : PLaunchFacts (nD := nD) (τ := τ) (pcfgs (F := F)) p) (b : ℕ)
  (hbody : ∀ c, BodyObligationLoose (pdats p c) (defs₀ (F := F)) 𝒱₀ none Set.univ)
  (howed : ∀ c t, (pdats p c).owed t = 0)
  (hrec : ∀ c t, (pdats p c).recorded t = {x | (K (F := F)).lev (SparseCore.T c, x.1) x.2 ≤ b})
  (hshare : ∀ c w, (pdats p c).share w = fullShare)
  (hΦ : ∀ c t, (pdats p c).Φ t = scopedRest (pcfgs (F := F) p).spec c)
  (S : Finset (DevRef τ sig)) (W : Dev nD → Valuation τ sig (Elt F))
  (hW : ∀ c w, (pdats p c).arrAt w 0 = W c (Proc.devRef .tc (arrRef (pcfgs (F := F) p).spec w)))

/-- The region's record: entered with its arrays at `W`, left with them as the pipeline's proof data say; the other
    buffers of `S` go round it. -/
def region : RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.hwaits_of_owed_zero (pcfgs (F := F)) adm pdats none _ _ p howed c
  pre c := iprop(StableHlo.held (c : Thread nD τ) (arrRefs (pcfgs (F := F) p).spec) (W c)
    ∗ StableHlo.held (c : Thread nD τ) (S \ arrRefs (pcfgs (F := F) p).spec) (W c) ∗ owesBelow b c)
  post c := iprop(StableHlo.held (c : Thread nD τ) (arrRefs (pcfgs (F := F) p).spec) (afterRegion (pdats p c) (W c))
    ∗ StableHlo.held (c : Thread nD τ) (S \ arrRefs (pcfgs (F := F) p).spec) (W c) ∗ owesBelow b c)
  X _ := iprop(emp)
  Y _ := iprop(emp)
  Z c := StableHlo.held (c : Thread nD τ) (S \ arrRefs (pcfgs (F := F) p).spec) (W c)
  hentry c := by
    rw [Pipeline.ownSems0_none, Pipeline.prefHeld_of_none _ rfl,
      ← Pipeline.arrays_held (pcfgs (F := F)) adm pdats p kit c (hshare c) ((pdats p c).arrAt · 0) (W c) (hW c)]
    iintro ⟨⟨Ha, HR, ⟨%Wd, %hWd, HO⟩⟩, -, -⟩
    imodintro
    isplitl [Ha]; · iexact Ha
    isplitr; · iempintro
    isplitl [HO]
    · unfold Pipeline.Dat.owesAt Pipeline.owesWithin Pipeline.Dat.bound
      rw [howed c 0, hrec c 0]
      iexists Wd; isplitr
      · ipureintro; exact fun x hx => Or.inl (hWd x hx)
      iexact HO
    isplitr; · iempintro
    iexact HR
  hin c := by
    rw [hΦ c 0]
    iintro ⟨-, -, Hr⟩; iexact Hr
  hout c := by
    rw [hΦ c, Pipeline.ownSems0_none]
    iintro Hr
    isplitr; · iempintro
    isplitr; · iempintro
    iexact Hr
  hexit c := by
    rw [Pipeline.arrays_held (pcfgs (F := F)) adm pdats p kit c (hshare c) ((pdats p c).arrAt · _) (afterRegion (pdats p c) (W c))
      (fun w => (Pipeline.afterRegion_arr (pdats p c) (W c) kit.win.arr_inj w).symm)]
    unfold Pipeline.Dat.owesAt Pipeline.owesWithin Pipeline.Dat.bound
    rw [howed c, hrec c]
    iintro ⟨Ha, ⟨%Wd, %hWd, HO⟩, -, HR⟩
    imodintro
    isplitl [Ha]; · iexact Ha
    isplitl [HR]; · iexact HR
    iexists Wd; isplitr
    · ipureintro
      intro x hx
      rcases hWd hx with h | ⟨w, s, h⟩
      · exact h
      · rw [h]; exact Nat.zero_le _
    iexact HO

include kit hbody howed hrec hshare hΦ hW in
/-- A TensorCore call runs from the buffers of `S` held at `W` to the same buffers held with the call's results in
    place, the TensorCore's recorded waits still at or below `b`. -/
theorem wp_region (hS : arrRefs (pcfgs (F := F) p).spec ⊆ S) (d : Dev nD) {α : Type}
    (k : PUnit → Prog (TpuEff nD τ sig (Elt F) (SparseCore.Sig (ΛP (F := F)) 1) .tc) α) (Q : α → sProp 𝕄) :
    iprop(boundary (SparseCore.T d) ∗ StableHlo.held (SparseCore.T d) S (W d) ∗ owesBelow b d
        ∗ levAts (K (F := F)).L (K (F := F)).lev
        ∗ cellsGhost (Pipeline.pin (pcfgs (F := F)) adm) EP p d ∗ toksInit (Pipeline.pin (pcfgs (F := F)) adm) EP p d
        ∗ (iprop(boundary (SparseCore.T d) ∗ StableHlo.held (SparseCore.T d) S (afterRegion (pdats p d) (W d)) ∗ owesBelow b d)
            -∗ wp frame (wpE ((K (F := F)).defs D) 𝒱 (SparseCore.T d) none) Set.univ (k ⟨⟩) Q))
      ⊢ wp frame (wpE ((K (F := F)).defs D) 𝒱 (SparseCore.T d) none) Set.univ
          (Prog.lift (.customCall (SparseCore.inner (Pipeline.entry p)) ()) >>= k) Q := by
  rw [wp_bind]
  refine (show _ ⊢ _ from ?_).trans ((K (F := F)).wp_liftProg D 𝒱 (SparseCore.T d) Set.univ none (Prog.lift (.customCall (Pipeline.entry p) ()))
    (fun r => wp frame (wpE ((K (F := F)).defs D) 𝒱 (SparseCore.T d) none) Set.univ (k r) Q))
  refine (show _ ⊢ _ from ?_).trans (RegionSeg.wp (pcfgs (F := F)) adm pdats none (kit.cellOf_inj adm) EP defs₀ 𝒱₀ (K (F := F)).L (K (F := F)).lev
    (region pdats p kit b hbody howed hrec hshare hΦ S W hW) d none (fun u hu => nomatch hu) _ _)
  rw [StableHlo.held_sub_split (SparseCore.T d) hS (W d), StableHlo.held_sub_split (SparseCore.T d) hS (afterRegion (pdats p d) (W d)),
    StableHlo.held_congr (SparseCore.T d) (S := S \ arrRefs (pcfgs (F := F) p).spec) (V := afterRegion (pdats p d) (W d)) (V' := W d)
      (Pipeline.afterRegion_off (pdats p d) (W d) S)]
  have hpre : iprop(StableHlo.held (SparseCore.T d) (arrRefs (pcfgs (F := F) p).spec) (W d)
      ∗ StableHlo.held (SparseCore.T d) (S \ arrRefs (pcfgs (F := F) p).spec) (W d) ∗ owesBelow b d)
    ⊢ (region pdats p kit b hbody howed hrec hshare hΦ S W hW).pre d := .rfl
  have hpost : (region pdats p kit b hbody howed hrec hshare hΦ S W hW).post d
    ⊢ iprop(StableHlo.held (SparseCore.T d) (arrRefs (pcfgs (F := F) p).spec) (afterRegion (pdats p d) (W d))
      ∗ StableHlo.held (SparseCore.T d) (S \ arrRefs (pcfgs (F := F) p).spec) (W d) ∗ owesBelow b d) := .rfl
  iintro ⟨Hb, ⟨Ha, Hr⟩, HO, HL, Hg, Ht, Hk⟩
  isplitl [Hk]
  · iintro ⟨Hb, Hp⟩
    rw [wp_ret]
    imodintro
    ihave Hp := hpost $$ Hp
    icases Hp with ⟨Ha, Hr, HO⟩
    iapply Hk
    isplitl [Hb]; · iexact Hb
    isplitl [Ha Hr]
    · isplitl [Ha]; · iexact Ha
      iexact Hr
    iexact HO
  isplitl [Hb]; · iexact Hb
  isplitl [Ha Hr HO]
  · iapply hpre
    isplitl [Ha]; · iexact Ha
    isplitl [Hr]; · iexact Hr
    iexact HO
  isplitl [HL]; · iexact HL
  isplitl [Hg]; · iexact Hg
  iexact Ht

end Rule

end Cert.Proof.Hist

end
-- ==== Proof.RegionBase.lean ====
/-
  What the three TensorCore calls share: their staging semaphores and cells, the reads and writes of whole staging buffers,
  and the cutting of a column range out of one.
-/
module

public import proofs.«01_k».proof.Proof.RegionRule
public import Idealize.ShloMosaic.Lib.Pipeline.FrameBody
public import Idealize.ShloMosaic.Lib.Pipeline.Value

@[expose] public section

set_option maxRecDepth 16384

noncomputable section

namespace Cert.Proof.Hist

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat arrRef arrRefs scopedRest afterRegion BodyObligation)

variable {F : FTy → Type}

local notation "𝕄" => MT nD τ sig (HIx 1) (Elt F) ℕ UU ℕ

/-- The calls' staging semaphores. -/
abbrev semTab : Fin 3 → List (DmaSem sig) :=
  fun | 0 => Pipeline.specSems spec1 | 1 => Pipeline.specSems spec2 | 2 => Pipeline.specSems spec3 | ⟨_ + 3, h⟩ => absurd h (Nat.not_lt.2 (Nat.le_add_left _ _))
/-- No two staging buffers of one call complete on one semaphore. -/
theorem semTab_nodup : ∀ p : Fin 3, (semTab p).Nodup := by decide
/-- No two calls share a staging semaphore. -/
theorem semTab_disjoint : ∀ p p' : Fin 3, p ≠ p' → (semTab p).Forall (· ∉ semTab p') := by decide
/-- The staging cells are pairwise distinct. -/
theorem cells_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semTab_nodup semTab_disjoint

/-- One call's proof data, on every core. -/
abbrev DatAt (p : Fin 3) : Type := (c : Dev nD) → Dat τ (Elt F) (HIx 1) ℕ UU ℕ (Pipeline.pin (pcfgs (F := F)) adm p) c

variable [FloatOps F]

/-- Reading a whole buffer through the rectangle at the origin returns it. -/
theorem ld_self {s : Shape} {e : EltTy} {off : Fin s.rank → ℕ} (h : off = fun _ => 0) (inb) (x : s.Idx → Elt F e) :
    View.ld x (Rect.unit off s.size inb) = x := View.ld_unit_zero h inb x
/-- Loading a whole view through the rectangle at the origin reads it. -/
theorem readAt_self {sp : Space} {s : Shape} {e : EltTy} (v : View sig .tc sp s e) {off : Fin s.rank → ℕ} (h : off = fun _ => 0) (inb) (f) :
    v.readAt (Elt F) (Rect.unit off s.size inb).toLoadRect f = v.read (Elt F) f := ld_self h inb (v.read (Elt F) f)
/-- The two offsets of a whole access are zero. -/
theorem off2 : (![0, 0] : Fin 2 → ℕ) = fun _ => 0 := by decide
/-- One store through the rectangle at the origin, read back, is the value stored. -/
theorem store_whole {sp : Space} {s : Shape} {e : EltTy} (v : View sig .tc sp s e) {off : Fin s.rank → ℕ} (h : off = fun _ => 0) (inb)
    (f) (w : s.Idx → Elt F e) : v.read (Elt F) (v.writes (Elt F) f [⟨Rect.unit off s.size inb, w⟩]) = w :=
  (View.read_writes_eq_canon _ _ _ (fun y => ⟨_, List.mem_singleton_self _, by
    subst h; exact (Rect.set_whole s) ▸ Finset.mem_univ y⟩)).trans (View.canon_unit_zero h inb w)

end Cert.Proof.Hist

end
-- ==== Proof.RegionA.lean ====
/-
  The first TensorCore call: its launch facts, its body's triple, its proof data over any contents of the buffers it is
  entered with, and the contents it leaves.
-/
module

public import proofs.«01_k».proof.Proof.RegionBase

@[expose] public section

set_option maxRecDepth 16384

noncomputable section

namespace Cert.Proof.Hist.A

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat arrRef arrRefs scopedRest afterRegion BodyObligation)

variable {F : FTy → Type}

local notation "𝕄" => MT nD τ sig (HIx 1) (Elt F) ℕ UU ℕ

/-! ## Launch facts -/

/-- The windows' arrays and staging buffers are distinct buffers of the right scopes. -/
theorem winFacts : Pipeline.WinFacts spec1 := by decide
/-- No window's block is empty. -/
theorem block_pos : ∀ w : Fin 11, 0 < (spec1 w).block.numel := by decide
/-- The windows' arrays are whole buffers. -/
theorem arr_whole : ∀ w : Fin 11, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | ⟨_ + 11, h⟩ => absurd h (Nat.not_lt.2 (Nat.le_add_left _ _))
/-- The staging memrefs are whole buffers. -/
theorem stage_whole : ∀ (w : Fin 11) (s : Fin (spec1 w).nbuf), ((spec1 w).stage s).IsWhole := fun | 0 => fun _ => Memref.isWhole_whole _ | 1 => fun _ => Memref.isWhole_whole _ | 2 => fun _ => Memref.isWhole_whole _ | 3 => fun _ => Memref.isWhole_whole _ | 4 => fun _ => Memref.isWhole_whole _ | 5 => fun _ => Memref.isWhole_whole _ | 6 => fun _ => Memref.isWhole_whole _ | 7 => fun _ => Memref.isWhole_whole _ | 8 => fun _ => Memref.isWhole_whole _ | 9 => fun _ => Memref.isWhole_whole _ | 10 => fun _ => Memref.isWhole_whole _ | ⟨_ + 11, h⟩ => absurd h (Nat.not_lt.2 (Nat.le_add_left _ _))
/-- What the call's rule takes of the layout. -/
theorem kit : Pipeline.PLaunchFacts (nD := nD) (τ := τ) (pcfgs (F := F)) 0 :=
  (⟨cells_inj, winFacts, block_pos, arr_whole, stage_whole⟩ : Pipeline.LaunchFacts (nD := nD) (τ := τ) cfgs 0).toP
/-- The windows' arrays are unscoped. -/
theorem arr_unscoped : ∀ w : Fin 11, (Pipeline.arrRef spec1 w).isScoped = false := by decide

/-- The windows conjoined one by one. -/
theorem bigSep_windows {M : Type} [URA M] (Φ : Fin 11 → sProp M) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ

variable [FloatOps F]

/-! ## The body -/

/-- The dense layer's first result, from its operands in the call's order. -/
abbrev pbOf (x0 : Vec F S10000x128 .f32) (x1 : Vec F S10000x128 .f32) (x2 : Vec F S10000x32 .f32) (x3 : Vec F S128x128 .f32) (x4 : Vec F S1x128 .f32) (x5 : Vec F S128x128 .f32) (x6 : Vec F S128x64 .f32) (x7 : Vec F S1x64 .f32) (x8 : Vec F S128x64 .f32) : Vec F S10000x128 .f32 := k1_pay2 x2 x1 x3 x4 x0 x5 x6 x8 x7

set_option maxHeartbeats 4000000 in
/-- The body on whole staging buffers leaves the inputs as they were and its results in the rest. -/
theorem sound_kernel (c : Dev nD) (E : Set ℕ) (a0 : Memref sig .tc .vmem S10000x128 .f32) (h0 : a0.IsWhole) (a1 : Memref sig .tc .vmem S10000x128 .f32) (h1 : a1.IsWhole) (a2 : Memref sig .tc .vmem S10000x32 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x64 .f32) (h6 : a6.IsWhole) (a7 : Memref sig .tc .vmem S1x64 .f32) (h7 : a7.IsWhole) (a8 : Memref sig .tc .vmem S128x64 .f32) (h8 : a8.IsWhole) (a9 : Memref sig .tc .vmem S10000x128 .f32) (h9 : a9.IsWhole) (a10 : Memref sig .tc .vmem S10000x1 .f32) (h10 : a10.IsWhole)
    (x0 : Vec F S10000x128 .f32) (x1 : Vec F S10000x128 .f32) (x2 : Vec F S10000x32 .f32) (x3 : Vec F S128x128 .f32) (x4 : Vec F S1x128 .f32) (x5 : Vec F S128x128 .f32) (x6 : Vec F S128x64 .f32) (x7 : Vec F S1x64 .f32) (x8 : Vec F S128x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (pbOf x0 x1 x2 x3 x4 x5 x6 x7 x8) ∗ owns (c : Thread nD τ) a10 fullShare (k1_pay1 x2)) -∗ Q ⟨⟩))
      ⊢ wp frame (wpE (defs₀ (F := F)) 𝒱₀ c none) E (cc1__tc_a_body a0 h0 a1 h1 a2 h2 a3 h3 a4 h4 a5 h5 a6 h6 a7 h7 a8 h8 a9 h9 a10 h10) Q := by
  simp only [cc1__tc_a_body_eq_skeleton]; unfold cc1__tc_a_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (store_whole _ off2 _ _ _).trans ?_
    unfold pbOf
    congr 1 <;> exact readAt_self _ off2 _ _
  iexists _; isplitr
  swap; · iexact H10
  ipureintro
  refine (store_whole _ off2 _ _ _).trans ?_
  exact congrArg k1_pay1 (readAt_self _ off2 _ _)

/-! ## The proof data -/

section Data

variable (b : ℕ) (W : Dev nD → Valuation τ sig (Elt F))

/-- Window `w`'s block at point `t` of the contents the call is entered with. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (arrRef spec1 w)))

/-- The call's proof data: each input's buffer at its block, each output's at what the body leaves; nothing owed. -/
def dats : DatAt (F := F) 0 := fun c =>
  { A := fun w => W c (Proc.devRef .tc (arrRef spec1 w))
    after := fun w t => match w with
      | ⟨0, _⟩ => iblk W c 0 t
      | ⟨1, _⟩ => iblk W c 1 t
      | ⟨2, _⟩ => iblk W c 2 t
      | ⟨3, _⟩ => iblk W c 3 t
      | ⟨4, _⟩ => iblk W c 4 t
      | ⟨5, _⟩ => iblk W c 5 t
      | ⟨6, _⟩ => iblk W c 6 t
      | ⟨7, _⟩ => iblk W c 7 t
      | ⟨8, _⟩ => iblk W c 8 t
      | ⟨9, _⟩ => pbOf (iblk W c 0 t) (iblk W c 1 t) (iblk W c 2 t) (iblk W c 3 t) (iblk W c 4 t) (iblk W c 5 t) (iblk W c 6 t) (iblk W c 7 t) (iblk W c 8 t)
      | ⟨10, _⟩ => k1_pay1 (iblk W c 2 t)
    Φ := fun _ => scopedRest spec1 c
    q := fun _ => fullShare
    owed := fun _ => 0
    recorded := fun _ => {x | (K (F := F)).lev (SparseCore.T c, x.1) x.2 ≤ b} }

/-- The data's arrays are the contents on entry. -/
theorem A_eq (c : Dev nD) (w : Fin cfg1.W) : (dats b W c).A w = W c (Proc.devRef .tc (arrRef spec1 w)) := by
  dsimp only [dats]

/-- Window 0 after the body. -/
theorem after_0 (c : Dev nD) (t : Fin cfg1.N) : (dats b W c).after 0 t = iblk W c 0 t := rfl
/-- Window 1 after the body. -/
theorem after_1 (c : Dev nD) (t : Fin cfg1.N) : (dats b W c).after 1 t = iblk W c 1 t := rfl
/-- Window 2 after the body. -/
theorem after_2 (c : Dev nD) (t : Fin cfg1.N) : (dats b W c).after 2 t = iblk W c 2 t := rfl
/-- Window 3 after the body. -/
theorem after_3 (c : Dev nD) (t : Fin cfg1.N) : (dats b W c).after 3 t = iblk W c 3 t := rfl
/-- Window 4 after the body. -/
theorem after_4 (c : Dev nD) (t : Fin cfg1.N) : (dats b W c).after 4 t = iblk W c 4 t := rfl
/-- Window 5 after the body. -/
theorem after_5 (c : Dev nD) (t : Fin cfg1.N) : (dats b W c).after 5 t = iblk W c 5 t := rfl
/-- Window 6 after the body. -/
theorem after_6 (c : Dev nD) (t : Fin cfg1.N) : (dats b W c).after 6 t = iblk W c 6 t := rfl
/-- Window 7 after the body. -/
theorem after_7 (c : Dev nD) (t : Fin cfg1.N) : (dats b W c).after 7 t = iblk W c 7 t := rfl
/-- Window 8 after the body. -/
theorem after_8 (c : Dev nD) (t : Fin cfg1.N) : (dats b W c).after 8 t = iblk W c 8 t := rfl
/-- Window 9 after the body. -/
theorem after_9 (c : Dev nD) (t : Fin cfg1.N) : (dats b W c).after 9 t = pbOf (iblk W c 0 t) (iblk W c 1 t) (iblk W c 2 t) (iblk W c 3 t) (iblk W c 4 t) (iblk W c 5 t) (iblk W c 6 t) (iblk W c 7 t) (iblk W c 8 t) := rfl
/-- Window 10 after the body. -/
theorem after_10 (c : Dev nD) (t : Fin cfg1.N) : (dats b W c).after 10 t = k1_pay1 (iblk W c 2 t) := rfl

/-- Input window 0's buffer holds its block before the body. -/
theorem before_0 (c : Dev nD) (t : Fin cfg1.N) (d) : (dats b W c).before 0 t d = iblk W c 0 t :=
  ((dats b W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's buffer holds its block before the body. -/
theorem before_1 (c : Dev nD) (t : Fin cfg1.N) (d) : (dats b W c).before 1 t d = iblk W c 1 t :=
  ((dats b W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's buffer holds its block before the body. -/
theorem before_2 (c : Dev nD) (t : Fin cfg1.N) (d) : (dats b W c).before 2 t d = iblk W c 2 t :=
  ((dats b W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's buffer holds its block before the body. -/
theorem before_3 (c : Dev nD) (t : Fin cfg1.N) (d) : (dats b W c).before 3 t d = iblk W c 3 t :=
  ((dats b W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's buffer holds its block before the body. -/
theorem before_4 (c : Dev nD) (t : Fin cfg1.N) (d) : (dats b W c).before 4 t d = iblk W c 4 t :=
  ((dats b W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's buffer holds its block before the body. -/
theorem before_5 (c : Dev nD) (t : Fin cfg1.N) (d) : (dats b W c).before 5 t d = iblk W c 5 t :=
  ((dats b W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Input window 6's buffer holds its block before the body. -/
theorem before_6 (c : Dev nD) (t : Fin cfg1.N) (d) : (dats b W c).before 6 t d = iblk W c 6 t :=
  ((dats b W c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- Input window 7's buffer holds its block before the body. -/
theorem before_7 (c : Dev nD) (t : Fin cfg1.N) (d) : (dats b W c).before 7 t d = iblk W c 7 t :=
  ((dats b W c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- Input window 8's buffer holds its block before the body. -/
theorem before_8 (c : Dev nD) (t : Fin cfg1.N) (d) : (dats b W c).before 8 t d = iblk W c 8 t :=
  ((dats b W c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-- What the body is called with at point `t`, the windows one by one. -/
def bodyPre (c : Dev nD) (t : Fin cfg1.N) : sProp 𝕄 :=
  iprop((dats b W c).Φ t.castSucc ∗ (dats b W c).owesAt none t.castSucc
    ∗ (∃ d, owns (c : Thread nD τ) ((cfg1.win 0).stage (cfg1.slots t 0)) fullShare ((dats b W c).before 0 t d)) ∗ (∃ d, owns (c : Thread nD τ) ((cfg1.win 1).stage (cfg1.slots t 1)) fullShare ((dats b W c).before 1 t d)) ∗ (∃ d, owns (c : Thread nD τ) ((cfg1.win 2).stage (cfg1.slots t 2)) fullShare ((dats b W c).before 2 t d)) ∗ (∃ d, owns (c : Thread nD τ) ((cfg1.win 3).stage (cfg1.slots t 3)) fullShare ((dats b W c).before 3 t d)) ∗ (∃ d, owns (c : Thread nD τ) ((cfg1.win 4).stage (cfg1.slots t 4)) fullShare ((dats b W c).before 4 t d)) ∗ (∃ d, owns (c : Thread nD τ) ((cfg1.win 5).stage (cfg1.slots t 5)) fullShare ((dats b W c).before 5 t d)) ∗ (∃ d, owns (c : Thread nD τ) ((cfg1.win 6).stage (cfg1.slots t 6)) fullShare ((dats b W c).before 6 t d)) ∗ (∃ d, owns (c : Thread nD τ) ((cfg1.win 7).stage (cfg1.slots t 7)) fullShare ((dats b W c).before 7 t d)) ∗ (∃ d, owns (c : Thread nD τ) ((cfg1.win 8).stage (cfg1.slots t 8)) fullShare ((dats b W c).before 8 t d)) ∗ (∃ d, owns (c : Thread nD τ) ((cfg1.win 9).stage (cfg1.slots t 9)) fullShare ((dats b W c).before 9 t d)) ∗ (∃ d, owns (c : Thread nD τ) ((cfg1.win 10).stage (cfg1.slots t 10)) fullShare ((dats b W c).before 10 t d)))
/-- What it returns. -/
def bodyPost (c : Dev nD) (t : Fin cfg1.N) : sProp 𝕄 :=
  iprop((dats b W c).Φ t.succ ∗ (dats b W c).owesAt none t.succ
    ∗ owns (c : Thread nD τ) ((cfg1.win 0).stage (cfg1.slots t 0)) fullShare ((dats b W c).after 0 t) ∗ owns (c : Thread nD τ) ((cfg1.win 1).stage (cfg1.slots t 1)) fullShare ((dats b W c).after 1 t) ∗ owns (c : Thread nD τ) ((cfg1.win 2).stage (cfg1.slots t 2)) fullShare ((dats b W c).after 2 t) ∗ owns (c : Thread nD τ) ((cfg1.win 3).stage (cfg1.slots t 3)) fullShare ((dats b W c).after 3 t) ∗ owns (c : Thread nD τ) ((cfg1.win 4).stage (cfg1.slots t 4)) fullShare ((dats b W c).after 4 t) ∗ owns (c : Thread nD τ) ((cfg1.win 5).stage (cfg1.slots t 5)) fullShare ((dats b W c).after 5 t) ∗ owns (c : Thread nD τ) ((cfg1.win 6).stage (cfg1.slots t 6)) fullShare ((dats b W c).after 6 t) ∗ owns (c : Thread nD τ) ((cfg1.win 7).stage (cfg1.slots t 7)) fullShare ((dats b W c).after 7 t) ∗ owns (c : Thread nD τ) ((cfg1.win 8).stage (cfg1.slots t 8)) fullShare ((dats b W c).after 8 t) ∗ owns (c : Thread nD τ) ((cfg1.win 9).stage (cfg1.slots t 9)) fullShare ((dats b W c).after 9 t) ∗ owns (c : Thread nD τ) ((cfg1.win 10).stage (cfg1.slots t 10)) fullShare ((dats b W c).after 10 t))

/-- The body as the call runs it at point `t`. -/
abbrev bodyAt (t : Fin cfg1.N) : Prog (TpuEff nD τ sig (Elt F) Λ₀ .tc) PUnit :=
  cc1__tc_a_body (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (win1_4.stage (cfg1.slots t 4)) (hstage1_4 0) (win1_5.stage (cfg1.slots t 5)) (hstage1_5 0) (win1_6.stage (cfg1.slots t 6)) (hstage1_6 0) (win1_7.stage (cfg1.slots t 7)) (hstage1_7 0) (win1_8.stage (cfg1.slots t 8)) (hstage1_8 0) (win1_9.stage (cfg1.slots t 9)) (hstage1_9 0) (win1_10.stage (cfg1.slots t 10)) (hstage1_10 0)

set_option maxHeartbeats 4000000 in
/-- The body at any point: the inputs hold their blocks, so its triple applies. -/
theorem sound_body (c : Dev nD) (t : Fin cfg1.N) :
    bodyPre b W c t ⊢ wp frame (wpE (defs₀ (F := F)) 𝒱₀ c none) Set.univ (bodyAt t) (fun _ => bodyPost b W c t) := by
  unfold bodyPre bodyPost bodyAt
  simp only [before_0, before_1, before_2, before_3, before_4, before_5, before_6, before_7, before_8]
  rw [show (dats b W c).Φ t.succ = (dats b W c).Φ t.castSucc from rfl,
    show (dats b W c).owesAt none t.succ = (dats b W c).owesAt none t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's label is its printed body. -/
theorem body_row (t : Fin cfg1.N) : defs₀ (F := F) .tc cfg1.body (cfg1.bodyArgs t (cfg1.slots t)) = bodyAt t := rfl

/-- The body obligation of the call. -/
theorem body_obligation (c : Dev nD) : BodyObligation (dats b W c) (defs₀ (F := F)) 𝒱₀ none Set.univ := fun t => by
  rw [bigSep_windows, bigSep_windows]
  exact triple_restated (sound_body b W c t) (congrArg (fun q => wp frame (wpE (defs₀ (F := F)) 𝒱₀ c none) Set.univ q) (body_row t).symm) .rfl fun _ => .rfl

/-- Every window's array is held whole. -/
theorem share_full (c : Dev nD) (w) : (dats b W c).share w = fullShare := (dats b W c).share_full (fun _ => rfl) w

/-! ## The contents it leaves -/

/-- Window 0's block is its whole array. -/
theorem iblk_0 (c : Dev nD) (t : Fin cfg1.N) : iblk W c 0 t = W c (Proc.devRef .tc main_arg0) :=
  funext fun x => congrArg (W c (Proc.devRef .tc main_arg0)) (funext fun a => Fin.ext (win1_0.rect_emb_val_of_index_zero t a rfl x))
/-- Window 1's block is its whole array. -/
theorem iblk_1 (c : Dev nD) (t : Fin cfg1.N) : iblk W c 1 t = W c (Proc.devRef .tc main_v14) :=
  funext fun x => congrArg (W c (Proc.devRef .tc main_v14)) (funext fun a => Fin.ext (win1_1.rect_emb_val_of_index_zero t a rfl x))
/-- Window 2's block is its whole array. -/
theorem iblk_2 (c : Dev nD) (t : Fin cfg1.N) : iblk W c 2 t = W c (Proc.devRef .tc main_v15) :=
  funext fun x => congrArg (W c (Proc.devRef .tc main_v15)) (funext fun a => Fin.ext (win1_2.rect_emb_val_of_index_zero t a rfl x))
/-- Window 3's block is its whole array. -/
theorem iblk_3 (c : Dev nD) (t : Fin cfg1.N) : iblk W c 3 t = W c (Proc.devRef .tc main_arg5) :=
  funext fun x => congrArg (W c (Proc.devRef .tc main_arg5)) (funext fun a => Fin.ext (win1_3.rect_emb_val_of_index_zero t a rfl x))
/-- Window 4's block is its whole array. -/
theorem iblk_4 (c : Dev nD) (t : Fin cfg1.N) : iblk W c 4 t = W c (Proc.devRef .tc main_v16) :=
  funext fun x => congrArg (W c (Proc.devRef .tc main_v16)) (funext fun a => Fin.ext (win1_4.rect_emb_val_of_index_zero t a rfl x))
/-- Window 5's block is its whole array. -/
theorem iblk_5 (c : Dev nD) (t : Fin cfg1.N) : iblk W c 5 t = W c (Proc.devRef .tc main_arg7) :=
  funext fun x => congrArg (W c (Proc.devRef .tc main_arg7)) (funext fun a => Fin.ext (win1_5.rect_emb_val_of_index_zero t a rfl x))
/-- Window 6's block is its whole array. -/
theorem iblk_6 (c : Dev nD) (t : Fin cfg1.N) : iblk W c 6 t = W c (Proc.devRef .tc main_arg8) :=
  funext fun x => congrArg (W c (Proc.devRef .tc main_arg8)) (funext fun a => Fin.ext (win1_6.rect_emb_val_of_index_zero t a rfl x))
/-- Window 7's block is its whole array. -/
theorem iblk_7 (c : Dev nD) (t : Fin cfg1.N) : iblk W c 7 t = W c (Proc.devRef .tc main_v17) :=
  funext fun x => congrArg (W c (Proc.devRef .tc main_v17)) (funext fun a => Fin.ext (win1_7.rect_emb_val_of_index_zero t a rfl x))
/-- Window 8's block is its whole array. -/
theorem iblk_8 (c : Dev nD) (t : Fin cfg1.N) : iblk W c 8 t = W c (Proc.devRef .tc main_arg10) :=
  funext fun x => congrArg (W c (Proc.devRef .tc main_arg10)) (funext fun a => Fin.ext (win1_8.rect_emb_val_of_index_zero t a rfl x))

/-- The grid has one point. -/
theorem N_one : cfg1.N = 1 := by decide

/-- Window 9's block of an array is the array. -/
theorem read_9 (f : Vec F S10000x128 .f32) (t : Fin grid1.N) : (win1_9.blk t).view.read (Elt F) f = f :=
  funext fun x => congrArg f (funext fun a => Fin.ext (win1_9.rect_emb_val_of_index_zero t a rfl x))
/-- Window 9 is written back at the grid's point. -/
theorem flush_9 : ∀ t : Fin grid1.N, win1_9.flush t = true := by decide +kernel

/-- The call leaves the body's result in `main_v18_0`. -/
theorem after_main_v18_0 (c : Dev nD) : afterRegion (dats b W c) (W c) (Proc.devRef .tc main_v18_0) = pbOf (W c (Proc.devRef .tc main_arg0)) (W c (Proc.devRef .tc main_v14)) (W c (Proc.devRef .tc main_v15)) (W c (Proc.devRef .tc main_arg5)) (W c (Proc.devRef .tc main_v16)) (W c (Proc.devRef .tc main_arg7)) (W c (Proc.devRef .tc main_arg8)) (W c (Proc.devRef .tc main_v17)) (W c (Proc.devRef .tc main_arg10)) := by
  have hdis : ∀ t t' : Fin cfg1.N, (cfg1.win 9).flush t = true → (cfg1.win 9).flush t' = true → t ≠ t' →
      Disjoint ((cfg1.win 9).blk t).view.set ((cfg1.win 9).blk t').view.set :=
    fun t t' _ _ hne => absurd (Fin.ext (by have := t.isLt; have := t'.isLt; have := N_one; omega)) hne
  have hN : 0 < cfg1.N := by decide
  have h := (dats b W c).read_blk_arrAt_eq_flushed 9 hdis cfg1.N ⟨0, hN⟩ hN (flush_9 _)
  have e := Pipeline.afterRegion_arr (dats b W c) (W c) winFacts.arr_inj 9
  refine e.trans ?_
  refine Eq.trans ?_ (h.trans ?_)
  · exact (read_9 _ _).symm
  · show (cfg1.win 9).cut (cfg1.grid.coords ⟨0, hN⟩) ((dats b W c).after 9 ⟨0, hN⟩) = _
    rw [after_9, iblk_0, iblk_1, iblk_2, iblk_3, iblk_4, iblk_5, iblk_6, iblk_7, iblk_8]
    rfl

/-- Window 10's block of an array is the array. -/
theorem read_10 (f : Vec F S10000x1 .f32) (t : Fin grid1.N) : (win1_10.blk t).view.read (Elt F) f = f :=
  funext fun x => congrArg f (funext fun a => Fin.ext (win1_10.rect_emb_val_of_index_zero t a rfl x))
/-- Window 10 is written back at the grid's point. -/
theorem flush_10 : ∀ t : Fin grid1.N, win1_10.flush t = true := by decide +kernel

/-- The call leaves the body's result in `main_v18_1`. -/
theorem after_main_v18_1 (c : Dev nD) : afterRegion (dats b W c) (W c) (Proc.devRef .tc main_v18_1) = k1_pay1 (W c (Proc.devRef .tc main_v15)) := by
  have hdis : ∀ t t' : Fin cfg1.N, (cfg1.win 10).flush t = true → (cfg1.win 10).flush t' = true → t ≠ t' →
      Disjoint ((cfg1.win 10).blk t).view.set ((cfg1.win 10).blk t').view.set :=
    fun t t' _ _ hne => absurd (Fin.ext (by have := t.isLt; have := t'.isLt; have := N_one; omega)) hne
  have hN : 0 < cfg1.N := by decide
  have h := (dats b W c).read_blk_arrAt_eq_flushed 10 hdis cfg1.N ⟨0, hN⟩ hN (flush_10 _)
  have e := Pipeline.afterRegion_arr (dats b W c) (W c) winFacts.arr_inj 10
  refine e.trans ?_
  refine Eq.trans ?_ (h.trans ?_)
  · exact (read_10 _ _).symm
  · show (cfg1.win 10).cut (cfg1.grid.coords ⟨0, hN⟩) ((dats b W c).after 10 ⟨0, hN⟩) = _
    rw [after_10, iblk_2]
    rfl

/-- The call leaves every buffer but its results as it found it. -/
theorem after_keeps (c : Dev nD) (r : Ref sig .tc) (h9 : r ≠ main_v18_0) (h10 : r ≠ main_v18_1) :
    afterRegion (dats b W c) (W c) (Proc.devRef .tc r) = W c (Proc.devRef .tc r) :=
  Pipeline.afterRegion_keeps (dats b W c) (W c) winFacts.arr_inj (fun w => A_eq b W c w) r
    (fun w hw => by
      subst hw
      match w, h9, h10 with
      | ⟨0, _⟩, _, _ => rfl
      | ⟨1, _⟩, _, _ => rfl
      | ⟨2, _⟩, _, _ => rfl
      | ⟨3, _⟩, _, _ => rfl
      | ⟨4, _⟩, _, _ => rfl
      | ⟨5, _⟩, _, _ => rfl
      | ⟨6, _⟩, _, _ => rfl
      | ⟨7, _⟩, _, _ => rfl
      | ⟨8, _⟩, _, _ => rfl
      | ⟨9, _⟩, h, _ => exact absurd rfl h
      | ⟨10, _⟩, _, h => exact absurd rfl h
      | ⟨_ + 11, hlt⟩, _, _ => exact absurd hlt (Nat.not_lt.2 (Nat.le_add_left _ _)))

/-- Nothing is owed, -/
theorem dats_owed (c : Dev nD) (t) : (dats b W c).owed t = 0 := by dsimp only [dats]
/-- and the recorded waits are those at or below the bound. -/
theorem dats_recorded (c : Dev nD) (t) : (dats b W c).recorded t = {x | (K (F := F)).lev (SparseCore.T c, x.1) x.2 ≤ b} := by dsimp only [dats]

end Data

end Cert.Proof.Hist.A

end
-- ==== Proof.RegionB.lean ====
/-
  The second TensorCore call: its launch facts, its body's triple, its proof data over any contents of the buffers it is
  entered with, and the contents it leaves.
-/
module

public import proofs.«01_k».proof.Proof.RegionBase

@[expose] public section

set_option maxRecDepth 16384

noncomputable section

namespace Cert.Proof.Hist.B

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat arrRef arrRefs scopedRest afterRegion BodyObligation)

variable {F : FTy → Type}

local notation "𝕄" => MT nD τ sig (HIx 1) (Elt F) ℕ UU ℕ

/-! ## Launch facts -/

/-- The windows' arrays and staging buffers are distinct buffers of the right scopes. -/
theorem winFacts : Pipeline.WinFacts spec2 := by decide
/-- No window's block is empty. -/
theorem block_pos : ∀ w : Fin 17, 0 < (spec2 w).block.numel := by decide
/-- The windows' arrays are whole buffers. -/
theorem arr_whole : ∀ w : Fin 17, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | ⟨_ + 17, h⟩ => absurd h (Nat.not_lt.2 (Nat.le_add_left _ _))
/-- The staging memrefs are whole buffers. -/
theorem stage_whole : ∀ (w : Fin 17) (s : Fin (spec2 w).nbuf), ((spec2 w).stage s).IsWhole := fun | 0 => fun _ => Memref.isWhole_whole _ | 1 => fun _ => Memref.isWhole_whole _ | 2 => fun _ => Memref.isWhole_whole _ | 3 => fun _ => Memref.isWhole_whole _ | 4 => fun _ => Memref.isWhole_whole _ | 5 => fun _ => Memref.isWhole_whole _ | 6 => fun _ => Memref.isWhole_whole _ | 7 => fun _ => Memref.isWhole_whole _ | 8 => fun _ => Memref.isWhole_whole _ | 9 => fun _ => Memref.isWhole_whole _ | 10 => fun _ => Memref.isWhole_whole _ | 11 => fun _ => Memref.isWhole_whole _ | 12 => fun _ => Memref.isWhole_whole _ | 13 => fun _ => Memref.isWhole_whole _ | 14 => fun _ => Memref.isWhole_whole _ | 15 => fun _ => Memref.isWhole_whole _ | 16 => fun _ => Memref.isWhole_whole _ | ⟨_ + 17, h⟩ => absurd h (Nat.not_lt.2 (Nat.le_add_left _ _))
/-- What the call's rule takes of the layout. -/
theorem kit : Pipeline.PLaunchFacts (nD := nD) (τ := τ) (pcfgs (F := F)) 1 :=
  (⟨cells_inj, winFacts, block_pos, arr_whole, stage_whole⟩ : Pipeline.LaunchFacts (nD := nD) (τ := τ) cfgs 1).toP
/-- The windows' arrays are unscoped. -/
theorem arr_unscoped : ∀ w : Fin 17, (Pipeline.arrRef spec2 w).isScoped = false := by decide

/-- The windows conjoined one by one. -/
theorem bigSep_windows {M : Type} [URA M] (Φ : Fin 17 → sProp M) : bigSep Finset.univ Φ = iprop(Φ (0 : Fin 17) ∗ Φ (1 : Fin 17) ∗ Φ (2 : Fin 17) ∗ Φ (3 : Fin 17) ∗ Φ (4 : Fin 17) ∗ Φ (5 : Fin 17) ∗ Φ (6 : Fin 17) ∗ Φ (7 : Fin 17) ∗ Φ (8 : Fin 17) ∗ Φ (9 : Fin 17) ∗ Φ (10 : Fin 17) ∗ Φ (11 : Fin 17) ∗ Φ (12 : Fin 17) ∗ Φ (13 : Fin 17) ∗ Φ (14 : Fin 17) ∗ Φ (15 : Fin 17) ∗ Φ (16 : Fin 17)) :=
  bigSep_univ_eq_bigSepL [(0 : Fin 17), (1 : Fin 17), (2 : Fin 17), (3 : Fin 17), (4 : Fin 17), (5 : Fin 17), (6 : Fin 17), (7 : Fin 17), (8 : Fin 17), (9 : Fin 17), (10 : Fin 17), (11 : Fin 17), (12 : Fin 17), (13 : Fin 17), (14 : Fin 17), (15 : Fin 17), (16 : Fin 17)] (by decide) (by decide) Φ

variable [FloatOps F]

/-! ## The body -/

/-- The right half of the first call's result. -/
abbrev rightOf (x1 : Vec F S10000x128 .f32) : Vec F S10000x64 .f32 :=
  View.ld x1 (Rect.unit (s := S10000x128) ![0, 64] S10000x64.size inb_S10000x128_S10000x64_0_64)
/-- The large graph's second layer, padded to 128 columns. -/
abbrev padOf (x0 : Vec F S10000x64 .f32) (x1 : Vec F S10000x128 .f32) (x2 : Vec F S10000x1 .f32) : Vec F S10000x128 .f32 := k2_pay4 x0 x2 (rightOf x1)
/-- The small graph's two layers, padded to 256 rows. -/
abbrev smallOf (x3 x4 : Vec F S3184x1 .i32) (x5 : Vec F S256x128 .f32) (x6 : Vec F S128x128 .f32) (x7 : Vec F S1x128 .f32) (x8 : Vec F S128x128 .f32) (x9 : Vec F S128x64 .f32) (x10 : Vec F S1x64 .f32) (x11 : Vec F S128x64 .f32) : Vec F S256x64 .f32 :=
  k2_pay9 (k2_pay5 x3 x4) (k2_pay6 x3 x4) (k2_pay7 x5) (k2_pay8 x3 x4 x5) x6 x7 x8 x9 x10 x11
/-- The sort keys. -/
abbrev keyOf (x0 : Vec F S10000x64 .f32) (x1 : Vec F S10000x128 .f32) (x2 : Vec F S10000x1 .f32) (x3 x4 : Vec F S3184x1 .i32) (x5 : Vec F S256x128 .f32) (x6 : Vec F S128x128 .f32) (x7 : Vec F S1x128 .f32) (x8 : Vec F S128x128 .f32) (x9 : Vec F S128x64 .f32) (x10 : Vec F S1x64 .f32) (x11 : Vec F S128x64 .f32) : Vec F S10000x1 .f32 :=
  k2_pay1 (k2_pay3 x0 x2 (rightOf x1)) (k2_pay10 (k2_pay5 x3 x4) (k2_pay6 x3 x4) (k2_pay7 x5) (k2_pay8 x3 x4 x5) x6 x7 x8 x9 x10 x11) (k2_pay11 (k2_pay3 x0 x2 (rightOf x1)) (k2_pay5 x3 x4) (k2_pay6 x3 x4) (k2_pay7 x5) (k2_pay8 x3 x4 x5) x6 x7 x8 x9 x10 x11)

set_option maxHeartbeats 8000000 in
/-- The body on whole staging buffers leaves the inputs as they were and its results in the rest. -/
theorem sound_kernel (c : Dev nD) (E : Set ℕ) (a0 : Memref sig .tc .vmem S10000x64 .f32) (h0 : a0.IsWhole) (a1 : Memref sig .tc .vmem S10000x128 .f32) (h1 : a1.IsWhole) (a2 : Memref sig .tc .vmem S10000x1 .f32) (h2 : a2.IsWhole) (a3 : Memref sig .tc .vmem S3184x1 .i32) (h3 : a3.IsWhole) (a4 : Memref sig .tc .vmem S3184x1 .i32) (h4 : a4.IsWhole) (a5 : Memref sig .tc .vmem S256x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S128x64 .f32) (h9 : a9.IsWhole) (a10 : Memref sig .tc .vmem S1x64 .f32) (h10 : a10.IsWhole) (a11 : Memref sig .tc .vmem S128x64 .f32) (h11 : a11.IsWhole) (a12 : Memref sig .tc .vmem S10000x1 .i32) (h12 : a12.IsWhole) (a13 : Memref sig .tc .vmem S10000x128 .f32) (h13 : a13.IsWhole) (a14 : Memref sig .tc .vmem S256x64 .f32) (h14 : a14.IsWhole) (a15 : Memref sig .tc .vmem S10000x1 .f32) (h15 : a15.IsWhole) (a16 : Memref sig .tc .vmem S1x16 .f32) (h16 : a16.IsWhole)
    (x0 : Vec F S10000x64 .f32) (x1 : Vec F S10000x128 .f32) (x2 : Vec F S10000x1 .f32) (x3 : Vec F S3184x1 .i32) (x4 : Vec F S3184x1 .i32) (x5 : Vec F S256x128 .f32) (x6 : Vec F S128x128 .f32) (x7 : Vec F S1x128 .f32) (x8 : Vec F S128x128 .f32) (x9 : Vec F S128x64 .f32) (x10 : Vec F S1x64 .f32) (x11 : Vec F S128x64 .f32) (x12 : Vec F S10000x1 .i32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (padOf x0 x1 x2) ∗ owns (c : Thread nD τ) a14 fullShare (smallOf x3 x4 x5 x6 x7 x8 x9 x10 x11) ∗ owns (c : Thread nD τ) a15 fullShare (keyOf x0 x1 x2 x3 x4 x5 x6 x7 x8 x9 x10 x11) ∗ owns (c : Thread nD τ) a16 fullShare (k2_pay2 x12)) -∗ Q ⟨⟩))
      ⊢ wp frame (wpE (defs₀ (F := F)) 𝒱₀ c none) E (cc2__tc_b_body a0 h0 a1 h1 a2 h2 a3 h3 a4 h4 a5 h5 a6 h6 a7 h7 a8 h8 a9 h9 a10 h10 a11 h11 a12 h12 a13 h13 a14 h14 a15 h15 a16 h16) Q := by
  simp only [cc2__tc_b_body_eq_skeleton]; unfold cc2__tc_b_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (store_whole _ off2 _ _ _).trans ?_
    rw [← readAt_self a0.view off2 inb_S10000x64_S10000x64_0_0 f0, ← readAt_self a2.view off2 inb_S10000x1_S10000x1_0_0 f2]
    exact rfl
  isplitl [H14]
  · iexists _; isplitr
    swap; · iexact H14
    ipureintro
    refine (store_whole _ off2 _ _ _).trans ?_
    rw [← readAt_self a3.view off2 inb_S3184x1_S3184x1_0_0 f3, ← readAt_self a4.view off2 inb_S3184x1_S3184x1_0_0 f4, ← readAt_self a5.view off2 inb_S256x128_S256x128_0_0 f5, ← readAt_self a6.view off2 inb_S128x128_S128x128_0_0 f6, ← readAt_self a7.view off2 inb_S1x128_S1x128_0_0 f7, ← readAt_self a8.view off2 inb_S128x128_S128x128_0_0 f8, ← readAt_self a9.view off2 inb_S128x64_S128x64_0_0 f9, ← readAt_self a10.view off2 inb_S1x64_S1x64_0_0 f10, ← readAt_self a11.view off2 inb_S128x64_S128x64_0_0 f11]
    exact rfl
  isplitl [H15]
  · iexists _; isplitr
    swap; · iexact H15
    ipureintro
    refine (store_whole _ off2 _ _ _).trans ?_
    rw [← readAt_self a0.view off2 inb_S10000x64_S10000x64_0_0 f0, ← readAt_self a2.view off2 inb_S10000x1_S10000x1_0_0 f2, ← readAt_self a3.view off2 inb_S3184x1_S3184x1_0_0 f3, ← readAt_self a4.view off2 inb_S3184x1_S3184x1_0_0 f4, ← readAt_self a5.view off2 inb_S256x128_S256x128_0_0 f5, ← readAt_self a6.view off2 inb_S128x128_S128x128_0_0 f6, ← readAt_self a7.view off2 inb_S1x128_S1x128_0_0 f7, ← readAt_self a8.view off2 inb_S128x128_S128x128_0_0 f8, ← readAt_self a9.view off2 inb_S128x64_S128x64_0_0 f9, ← readAt_self a10.view off2 inb_S1x64_S1x64_0_0 f10, ← readAt_self a11.view off2 inb_S128x64_S128x64_0_0 f11]
    exact rfl
  iexists _; isplitr
  swap; · iexact H16
  ipureintro
  refine (store_whole _ off2 _ _ _).trans ?_
  exact congrArg k2_pay2 (readAt_self _ off2 _ _)

/-! ## The proof data -/

section Data

variable (b : ℕ) (W : Dev nD → Valuation τ sig (Elt F))

/-- Window `w`'s block at point `t` of the contents the call is entered with. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (arrRef spec2 w)))

/-- The call's proof data: each input's buffer at its block, each output's at what the body leaves; nothing owed. -/
def dats : DatAt (F := F) 1 := fun c =>
  { A := fun w => W c (Proc.devRef .tc (arrRef spec2 w))
    after := fun w t => match w with
      | ⟨0, _⟩ => iblk W c 0 t
      | ⟨1, _⟩ => iblk W c 1 t
      | ⟨2, _⟩ => iblk W c 2 t
      | ⟨3, _⟩ => iblk W c 3 t
      | ⟨4, _⟩ => iblk W c 4 t
      | ⟨5, _⟩ => iblk W c 5 t
      | ⟨6, _⟩ => iblk W c 6 t
      | ⟨7, _⟩ => iblk W c 7 t
      | ⟨8, _⟩ => iblk W c 8 t
      | ⟨9, _⟩ => iblk W c 9 t
      | ⟨10, _⟩ => iblk W c 10 t
      | ⟨11, _⟩ => iblk W c 11 t
      | ⟨12, _⟩ => iblk W c 12 t
      | ⟨13, _⟩ => padOf (iblk W c 0 t) (iblk W c 1 t) (iblk W c 2 t)
      | ⟨14, _⟩ => smallOf (iblk W c 3 t) (iblk W c 4 t) (iblk W c 5 t) (iblk W c 6 t) (iblk W c 7 t) (iblk W c 8 t) (iblk W c 9 t) (iblk W c 10 t) (iblk W c 11 t)
      | ⟨15, _⟩ => keyOf (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t)
      | ⟨16, _⟩ => k2_pay2 (iblk W c 12 t)
      | ⟨_ + 17, h⟩ => absurd h (Nat.not_lt.2 (Nat.le_add_left _ _))
    Φ := fun _ => scopedRest spec2 c
    q := fun _ => fullShare
    owed := fun _ => 0
    recorded := fun _ => {x | (K (F := F)).lev (SparseCore.T c, x.1) x.2 ≤ b} }

/-- The data's arrays are the contents on entry. -/
theorem A_eq (c : Dev nD) (w : Fin cfg2.W) : (dats b W c).A w = W c (Proc.devRef .tc (arrRef spec2 w)) := by
  dsimp only [dats]

/-- Window 0 after the body. -/
theorem after_0 (c : Dev nD) (t : Fin cfg2.N) : (dats b W c).after 0 t = iblk W c 0 t := rfl
/-- Window 1 after the body. -/
theorem after_1 (c : Dev nD) (t : Fin cfg2.N) : (dats b W c).after 1 t = iblk W c 1 t := rfl
/-- Window 2 after the body. -/
theorem after_2 (c : Dev nD) (t : Fin cfg2.N) : (dats b W c).after 2 t = iblk W c 2 t := rfl
/-- Window 3 after the body. -/
theorem after_3 (c : Dev nD) (t : Fin cfg2.N) : (dats b W c).after 3 t = iblk W c 3 t := rfl
/-- Window 4 after the body. -/
theorem after_4 (c : Dev nD) (t : Fin cfg2.N) : (dats b W c).after 4 t = iblk W c 4 t := rfl
/-- Window 5 after the body. -/
theorem after_5 (c : Dev nD) (t : Fin cfg2.N) : (dats b W c).after 5 t = iblk W c 5 t := rfl
/-- Window 6 after the body. -/
theorem after_6 (c : Dev nD) (t : Fin cfg2.N) : (dats b W c).after 6 t = iblk W c 6 t := rfl
/-- Window 7 after the body. -/
theorem after_7 (c : Dev nD) (t : Fin cfg2.N) : (dats b W c).after 7 t = iblk W c 7 t := rfl
/-- Window 8 after the body. -/
theorem after_8 (c : Dev nD) (t : Fin cfg2.N) : (dats b W c).after 8 t = iblk W c 8 t := rfl
/-- Window 9 after the body. -/
theorem after_9 (c : Dev nD) (t : Fin cfg2.N) : (dats b W c).after 9 t = iblk W c 9 t := rfl
/-- Window 10 after the body. -/
theorem after_10 (c : Dev nD) (t : Fin cfg2.N) : (dats b W c).after 10 t = iblk W c 10 t := rfl
/-- Window 11 after the body. -/
theorem after_11 (c : Dev nD) (t : Fin cfg2.N) : (dats b W c).after 11 t = iblk W c 11 t := rfl
/-- Window 12 after the body. -/
theorem after_12 (c : Dev nD) (t : Fin cfg2.N) : (dats b W c).after 12 t = iblk W c 12 t := rfl
/-- Window 13 after the body. -/
theorem after_13 (c : Dev nD) (t : Fin cfg2.N) : (dats b W c).after 13 t = padOf (iblk W c 0 t) (iblk W c 1 t) (iblk W c 2 t) := rfl
/-- Window 14 after the body. -/
theorem after_14 (c : Dev nD) (t : Fin cfg2.N) : (dats b W c).after 14 t = smallOf (iblk W c 3 t) (iblk W c 4 t) (iblk W c 5 t) (iblk W c 6 t) (iblk W c 7 t) (iblk W c 8 t) (iblk W c 9 t) (iblk W c 10 t) (iblk W c 11 t) := rfl
/-- Window 15 after the body. -/
theorem after_15 (c : Dev nD) (t : Fin cfg2.N) : (dats b W c).after 15 t = keyOf (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) := rfl
/-- Window 16 after the body. -/
theorem after_16 (c : Dev nD) (t : Fin cfg2.N) : (dats b W c).after 16 t = k2_pay2 (iblk W c 12 t) := rfl

/-- Input window 0's buffer holds its block before the body. -/
theorem before_0 (c : Dev nD) (t : Fin cfg2.N) (d) : (dats b W c).before 0 t d = iblk W c 0 t :=
  ((dats b W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's buffer holds its block before the body. -/
theorem before_1 (c : Dev nD) (t : Fin cfg2.N) (d) : (dats b W c).before 1 t d = iblk W c 1 t :=
  ((dats b W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's buffer holds its block before the body. -/
theorem before_2 (c : Dev nD) (t : Fin cfg2.N) (d) : (dats b W c).before 2 t d = iblk W c 2 t :=
  ((dats b W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's buffer holds its block before the body. -/
theorem before_3 (c : Dev nD) (t : Fin cfg2.N) (d) : (dats b W c).before 3 t d = iblk W c 3 t :=
  ((dats b W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's buffer holds its block before the body. -/
theorem before_4 (c : Dev nD) (t : Fin cfg2.N) (d) : (dats b W c).before 4 t d = iblk W c 4 t :=
  ((dats b W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's buffer holds its block before the body. -/
theorem before_5 (c : Dev nD) (t : Fin cfg2.N) (d) : (dats b W c).before 5 t d = iblk W c 5 t :=
  ((dats b W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Input window 6's buffer holds its block before the body. -/
theorem before_6 (c : Dev nD) (t : Fin cfg2.N) (d) : (dats b W c).before 6 t d = iblk W c 6 t :=
  ((dats b W c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- Input window 7's buffer holds its block before the body. -/
theorem before_7 (c : Dev nD) (t : Fin cfg2.N) (d) : (dats b W c).before 7 t d = iblk W c 7 t :=
  ((dats b W c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- Input window 8's buffer holds its block before the body. -/
theorem before_8 (c : Dev nD) (t : Fin cfg2.N) (d) : (dats b W c).before 8 t d = iblk W c 8 t :=
  ((dats b W c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- Input window 9's buffer holds its block before the body. -/
theorem before_9 (c : Dev nD) (t : Fin cfg2.N) (d) : (dats b W c).before 9 t d = iblk W c 9 t :=
  ((dats b W c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
/-- Input window 10's buffer holds its block before the body. -/
theorem before_10 (c : Dev nD) (t : Fin cfg2.N) (d) : (dats b W c).before 10 t d = iblk W c 10 t :=
  ((dats b W c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
/-- Input window 11's buffer holds its block before the body. -/
theorem before_11 (c : Dev nD) (t : Fin cfg2.N) (d) : (dats b W c).before 11 t d = iblk W c 11 t :=
  ((dats b W c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
/-- Input window 12's buffer holds its block before the body. -/
theorem before_12 (c : Dev nD) (t : Fin cfg2.N) (d) : (dats b W c).before 12 t d = iblk W c 12 t :=
  ((dats b W c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)

/-- What the body is called with at point `t`, the windows one by one. -/
def bodyPre (c : Dev nD) (t : Fin cfg2.N) : sProp 𝕄 :=
  iprop((dats b W c).Φ t.castSucc ∗ (dats b W c).owesAt none t.castSucc
    ∗ (∃ d, owns (c : Thread nD τ) ((cfg2.win 0).stage (cfg2.slots t 0)) fullShare ((dats b W c).before 0 t d)) ∗ (∃ d, owns (c : Thread nD τ) ((cfg2.win 1).stage (cfg2.slots t 1)) fullShare ((dats b W c).before 1 t d)) ∗ (∃ d, owns (c : Thread nD τ) ((cfg2.win 2).stage (cfg2.slots t 2)) fullShare ((dats b W c).before 2 t d)) ∗ (∃ d, owns (c : Thread nD τ) ((cfg2.win 3).stage (cfg2.slots t 3)) fullShare ((dats b W c).before 3 t d)) ∗ (∃ d, owns (c : Thread nD τ) ((cfg2.win 4).stage (cfg2.slots t 4)) fullShare ((dats b W c).before 4 t d)) ∗ (∃ d, owns (c : Thread nD τ) ((cfg2.win 5).stage (cfg2.slots t 5)) fullShare ((dats b W c).before 5 t d)) ∗ (∃ d, owns (c : Thread nD τ) ((cfg2.win 6).stage (cfg2.slots t 6)) fullShare ((dats b W c).before 6 t d)) ∗ (∃ d, owns (c : Thread nD τ) ((cfg2.win 7).stage (cfg2.slots t 7)) fullShare ((dats b W c).before 7 t d)) ∗ (∃ d, owns (c : Thread nD τ) ((cfg2.win 8).stage (cfg2.slots t 8)) fullShare ((dats b W c).before 8 t d)) ∗ (∃ d, owns (c : Thread nD τ) ((cfg2.win 9).stage (cfg2.slots t 9)) fullShare ((dats b W c).before 9 t d)) ∗ (∃ d, owns (c : Thread nD τ) ((cfg2.win 10).stage (cfg2.slots t 10)) fullShare ((dats b W c).before 10 t d)) ∗ (∃ d, owns (c : Thread nD τ) ((cfg2.win 11).stage (cfg2.slots t 11)) fullShare ((dats b W c).before 11 t d)) ∗ (∃ d, owns (c : Thread nD τ) ((cfg2.win 12).stage (cfg2.slots t 12)) fullShare ((dats b W c).before 12 t d)) ∗ (∃ d, owns (c : Thread nD τ) ((cfg2.win 13).stage (cfg2.slots t 13)) fullShare ((dats b W c).before 13 t d)) ∗ (∃ d, owns (c : Thread nD τ) ((cfg2.win 14).stage (cfg2.slots t 14)) fullShare ((dats b W c).before 14 t d)) ∗ (∃ d, owns (c : Thread nD τ) ((cfg2.win 15).stage (cfg2.slots t 15)) fullShare ((dats b W c).before 15 t d)) ∗ (∃ d, owns (c : Thread nD τ) ((cfg2.win 16).stage (cfg2.slots t 16)) fullShare ((dats b W c).before 16 t d)))
/-- What it returns. -/
def bodyPost (c : Dev nD) (t : Fin cfg2.N) : sProp 𝕄 :=
  iprop((dats b W c).Φ t.succ ∗ (dats b W c).owesAt none t.succ
    ∗ owns (c : Thread nD τ) ((cfg2.win 0).stage (cfg2.slots t 0)) fullShare ((dats b W c).after 0 t) ∗ owns (c : Thread nD τ) ((cfg2.win 1).stage (cfg2.slots t 1)) fullShare ((dats b W c).after 1 t) ∗ owns (c : Thread nD τ) ((cfg2.win 2).stage (cfg2.slots t 2)) fullShare ((dats b W c).after 2 t) ∗ owns (c : Thread nD τ) ((cfg2.win 3).stage (cfg2.slots t 3)) fullShare ((dats b W c).after 3 t) ∗ owns (c : Thread nD τ) ((cfg2.win 4).stage (cfg2.slots t 4)) fullShare ((dats b W c).after 4 t) ∗ owns (c : Thread nD τ) ((cfg2.win 5).stage (cfg2.slots t 5)) fullShare ((dats b W c).after 5 t) ∗ owns (c : Thread nD τ) ((cfg2.win 6).stage (cfg2.slots t 6)) fullShare ((dats b W c).after 6 t) ∗ owns (c : Thread nD τ) ((cfg2.win 7).stage (cfg2.slots t 7)) fullShare ((dats b W c).after 7 t) ∗ owns (c : Thread nD τ) ((cfg2.win 8).stage (cfg2.slots t 8)) fullShare ((dats b W c).after 8 t) ∗ owns (c : Thread nD τ) ((cfg2.win 9).stage (cfg2.slots t 9)) fullShare ((dats b W c).after 9 t) ∗ owns (c : Thread nD τ) ((cfg2.win 10).stage (cfg2.slots t 10)) fullShare ((dats b W c).after 10 t) ∗ owns (c : Thread nD τ) ((cfg2.win 11).stage (cfg2.slots t 11)) fullShare ((dats b W c).after 11 t) ∗ owns (c : Thread nD τ) ((cfg2.win 12).stage (cfg2.slots t 12)) fullShare ((dats b W c).after 12 t) ∗ owns (c : Thread nD τ) ((cfg2.win 13).stage (cfg2.slots t 13)) fullShare ((dats b W c).after 13 t) ∗ owns (c : Thread nD τ) ((cfg2.win 14).stage (cfg2.slots t 14)) fullShare ((dats b W c).after 14 t) ∗ owns (c : Thread nD τ) ((cfg2.win 15).stage (cfg2.slots t 15)) fullShare ((dats b W c).after 15 t) ∗ owns (c : Thread nD τ) ((cfg2.win 16).stage (cfg2.slots t 16)) fullShare ((dats b W c).after 16 t))

/-- The body as the call runs it at point `t`. -/
abbrev bodyAt (t : Fin cfg2.N) : Prog (TpuEff nD τ sig (Elt F) Λ₀ .tc) PUnit :=
  cc2__tc_b_body (win2_0.stage (cfg2.slots t 0)) (hstage2_0 0) (win2_1.stage (cfg2.slots t 1)) (hstage2_1 0) (win2_2.stage (cfg2.slots t 2)) (hstage2_2 0) (win2_3.stage (cfg2.slots t 3)) (hstage2_3 0) (win2_4.stage (cfg2.slots t 4)) (hstage2_4 0) (win2_5.stage (cfg2.slots t 5)) (hstage2_5 0) (win2_6.stage (cfg2.slots t 6)) (hstage2_6 0) (win2_7.stage (cfg2.slots t 7)) (hstage2_7 0) (win2_8.stage (cfg2.slots t 8)) (hstage2_8 0) (win2_9.stage (cfg2.slots t 9)) (hstage2_9 0) (win2_10.stage (cfg2.slots t 10)) (hstage2_10 0) (win2_11.stage (cfg2.slots t 11)) (hstage2_11 0) (win2_12.stage (cfg2.slots t 12)) (hstage2_12 0) (win2_13.stage (cfg2.slots t 13)) (hstage2_13 0) (win2_14.stage (cfg2.slots t 14)) (hstage2_14 0) (win2_15.stage (cfg2.slots t 15)) (hstage2_15 0) (win2_16.stage (cfg2.slots t 16)) (hstage2_16 0)

set_option maxHeartbeats 4000000 in
/-- The body at any point: the inputs hold their blocks, so its triple applies. -/
theorem sound_body (c : Dev nD) (t : Fin cfg2.N) :
    bodyPre b W c t ⊢ wp frame (wpE (defs₀ (F := F)) 𝒱₀ c none) Set.univ (bodyAt t) (fun _ => bodyPost b W c t) := by
  unfold bodyPre bodyPost bodyAt
  simp only [before_0, before_1, before_2, before_3, before_4, before_5, before_6, before_7, before_8, before_9, before_10, before_11, before_12]
  rw [show (dats b W c).Φ t.succ = (dats b W c).Φ t.castSucc from rfl,
    show (dats b W c).owesAt none t.succ = (dats b W c).owesAt none t.castSucc from rfl,
    after_0, after_1, after_2, after_3, after_4, after_5, after_6, after_7, after_8, after_9, after_10, after_11, after_12, after_13, after_14, after_15, after_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ _ _ _ _ _ _ _ _ _ _ _ _ _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) (iblk W c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's label is its printed body. -/
theorem body_row (t : Fin cfg2.N) : defs₀ (F := F) .tc cfg2.body (cfg2.bodyArgs t (cfg2.slots t)) = bodyAt t := rfl

/-- The body obligation of the call. -/
theorem body_obligation (c : Dev nD) : BodyObligation (dats b W c) (defs₀ (F := F)) 𝒱₀ none Set.univ := fun t => by
  rw [bigSep_windows, bigSep_windows]
  exact triple_restated (sound_body b W c t) (congrArg (fun q => wp frame (wpE (defs₀ (F := F)) 𝒱₀ c none) Set.univ q) (body_row t).symm) .rfl fun _ => .rfl

/-- Every window's array is held whole. -/
theorem share_full (c : Dev nD) (w) : (dats b W c).share w = fullShare := (dats b W c).share_full (fun _ => rfl) w

/-! ## The contents it leaves -/

/-- Window 0's block is its whole array. -/
theorem iblk_0 (c : Dev nD) (t : Fin cfg2.N) : iblk W c 0 t = W c (Proc.devRef .tc main_v34) :=
  funext fun x => congrArg (W c (Proc.devRef .tc main_v34)) (funext fun a => Fin.ext (win2_0.rect_emb_val_of_index_zero t a rfl x))
/-- Window 1's block is its whole array. -/
theorem iblk_1 (c : Dev nD) (t : Fin cfg2.N) : iblk W c 1 t = W c (Proc.devRef .tc main_v18_0) :=
  funext fun x => congrArg (W c (Proc.devRef .tc main_v18_0)) (funext fun a => Fin.ext (win2_1.rect_emb_val_of_index_zero t a rfl x))
/-- Window 2's block is its whole array. -/
theorem iblk_2 (c : Dev nD) (t : Fin cfg2.N) : iblk W c 2 t = W c (Proc.devRef .tc main_v18_1) :=
  funext fun x => congrArg (W c (Proc.devRef .tc main_v18_1)) (funext fun a => Fin.ext (win2_2.rect_emb_val_of_index_zero t a rfl x))
/-- Window 3's block is its whole array. -/
theorem iblk_3 (c : Dev nD) (t : Fin cfg2.N) : iblk W c 3 t = W c (Proc.devRef .tc main_v40) :=
  funext fun x => congrArg (W c (Proc.devRef .tc main_v40)) (funext fun a => Fin.ext (win2_3.rect_emb_val_of_index_zero t a rfl x))
/-- Window 4's block is its whole array. -/
theorem iblk_4 (c : Dev nD) (t : Fin cfg2.N) : iblk W c 4 t = W c (Proc.devRef .tc main_v43) :=
  funext fun x => congrArg (W c (Proc.devRef .tc main_v43)) (funext fun a => Fin.ext (win2_4.rect_emb_val_of_index_zero t a rfl x))
/-- Window 5's block is its whole array. -/
theorem iblk_5 (c : Dev nD) (t : Fin cfg2.N) : iblk W c 5 t = W c (Proc.devRef .tc main_v37) :=
  funext fun x => congrArg (W c (Proc.devRef .tc main_v37)) (funext fun a => Fin.ext (win2_5.rect_emb_val_of_index_zero t a rfl x))
/-- Window 6's block is its whole array. -/
theorem iblk_6 (c : Dev nD) (t : Fin cfg2.N) : iblk W c 6 t = W c (Proc.devRef .tc main_arg5) :=
  funext fun x => congrArg (W c (Proc.devRef .tc main_arg5)) (funext fun a => Fin.ext (win2_6.rect_emb_val_of_index_zero t a rfl x))
/-- Window 7's block is its whole array. -/
theorem iblk_7 (c : Dev nD) (t : Fin cfg2.N) : iblk W c 7 t = W c (Proc.devRef .tc main_v45) :=
  funext fun x => congrArg (W c (Proc.devRef .tc main_v45)) (funext fun a => Fin.ext (win2_7.rect_emb_val_of_index_zero t a rfl x))
/-- Window 8's block is its whole array. -/
theorem iblk_8 (c : Dev nD) (t : Fin cfg2.N) : iblk W c 8 t = W c (Proc.devRef .tc main_arg7) :=
  funext fun x => congrArg (W c (Proc.devRef .tc main_arg7)) (funext fun a => Fin.ext (win2_8.rect_emb_val_of_index_zero t a rfl x))
/-- Window 9's block is its whole array. -/
theorem iblk_9 (c : Dev nD) (t : Fin cfg2.N) : iblk W c 9 t = W c (Proc.devRef .tc main_arg8) :=
  funext fun x => congrArg (W c (Proc.devRef .tc main_arg8)) (funext fun a => Fin.ext (win2_9.rect_emb_val_of_index_zero t a rfl x))
/-- Window 10's block is its whole array. -/
theorem iblk_10 (c : Dev nD) (t : Fin cfg2.N) : iblk W c 10 t = W c (Proc.devRef .tc main_v46) :=
  funext fun x => congrArg (W c (Proc.devRef .tc main_v46)) (funext fun a => Fin.ext (win2_10.rect_emb_val_of_index_zero t a rfl x))
/-- Window 11's block is its whole array. -/
theorem iblk_11 (c : Dev nD) (t : Fin cfg2.N) : iblk W c 11 t = W c (Proc.devRef .tc main_arg10) :=
  funext fun x => congrArg (W c (Proc.devRef .tc main_arg10)) (funext fun a => Fin.ext (win2_11.rect_emb_val_of_index_zero t a rfl x))
/-- Window 12's block is its whole array. -/
theorem iblk_12 (c : Dev nD) (t : Fin cfg2.N) : iblk W c 12 t = W c (Proc.devRef .tc main_v44) :=
  funext fun x => congrArg (W c (Proc.devRef .tc main_v44)) (funext fun a => Fin.ext (win2_12.rect_emb_val_of_index_zero t a rfl x))

/-- The grid has one point. -/
theorem N_one : cfg2.N = 1 := by decide

/-- Window 13's block of an array is the array. -/
theorem read_13 (f : Vec F S10000x128 .f32) (t : Fin grid2.N) : (win2_13.blk t).view.read (Elt F) f = f :=
  funext fun x => congrArg f (funext fun a => Fin.ext (win2_13.rect_emb_val_of_index_zero t a rfl x))
/-- Window 13 is written back at the grid's point. -/
theorem flush_13 : ∀ t : Fin grid2.N, win2_13.flush t = true := by decide +kernel

/-- The call leaves the body's result in `main_v47_0`. -/
theorem after_main_v47_0 (c : Dev nD) : afterRegion (dats b W c) (W c) (Proc.devRef .tc main_v47_0) = padOf (W c (Proc.devRef .tc main_v34)) (W c (Proc.devRef .tc main_v18_0)) (W c (Proc.devRef .tc main_v18_1)) := by
  have hdis : ∀ t t' : Fin cfg2.N, (cfg2.win 13).flush t = true → (cfg2.win 13).flush t' = true → t ≠ t' →
      Disjoint ((cfg2.win 13).blk t).view.set ((cfg2.win 13).blk t').view.set :=
    fun t t' _ _ hne => absurd (Fin.ext (by have := t.isLt; have := t'.isLt; have := N_one; omega)) hne
  have hN : 0 < cfg2.N := by decide
  have h := (dats b W c).read_blk_arrAt_eq_flushed 13 hdis cfg2.N ⟨0, hN⟩ hN (flush_13 _)
  have e := Pipeline.afterRegion_arr (dats b W c) (W c) winFacts.arr_inj 13
  refine e.trans ?_
  refine Eq.trans ?_ (h.trans ?_)
  · exact (read_13 _ _).symm
  · show (cfg2.win 13).cut (cfg2.grid.coords ⟨0, hN⟩) ((dats b W c).after 13 ⟨0, hN⟩) = _
    rw [after_13, iblk_0, iblk_1, iblk_2]
    rfl

/-- Window 14's block of an array is the array. -/
theorem read_14 (f : Vec F S256x64 .f32) (t : Fin grid2.N) : (win2_14.blk t).view.read (Elt F) f = f :=
  funext fun x => congrArg f (funext fun a => Fin.ext (win2_14.rect_emb_val_of_index_zero t a rfl x))
/-- Window 14 is written back at the grid's point. -/
theorem flush_14 : ∀ t : Fin grid2.N, win2_14.flush t = true := by decide +kernel

/-- The call leaves the body's result in `main_v47_1`. -/
theorem after_main_v47_1 (c : Dev nD) : afterRegion (dats b W c) (W c) (Proc.devRef .tc main_v47_1) = smallOf (W c (Proc.devRef .tc main_v40)) (W c (Proc.devRef .tc main_v43)) (W c (Proc.devRef .tc main_v37)) (W c (Proc.devRef .tc main_arg5)) (W c (Proc.devRef .tc main_v45)) (W c (Proc.devRef .tc main_arg7)) (W c (Proc.devRef .tc main_arg8)) (W c (Proc.devRef .tc main_v46)) (W c (Proc.devRef .tc main_arg10)) := by
  have hdis : ∀ t t' : Fin cfg2.N, (cfg2.win 14).flush t = true → (cfg2.win 14).flush t' = true → t ≠ t' →
      Disjoint ((cfg2.win 14).blk t).view.set ((cfg2.win 14).blk t').view.set :=
    fun t t' _ _ hne => absurd (Fin.ext (by have := t.isLt; have := t'.isLt; have := N_one; omega)) hne
  have hN : 0 < cfg2.N := by decide
  have h := (dats b W c).read_blk_arrAt_eq_flushed 14 hdis cfg2.N ⟨0, hN⟩ hN (flush_14 _)
  have e := Pipeline.afterRegion_arr (dats b W c) (W c) winFacts.arr_inj 14
  refine e.trans ?_
  refine Eq.trans ?_ (h.trans ?_)
  · exact (read_14 _ _).symm
  · show (cfg2.win 14).cut (cfg2.grid.coords ⟨0, hN⟩) ((dats b W c).after 14 ⟨0, hN⟩) = _
    rw [after_14, iblk_3, iblk_4, iblk_5, iblk_6, iblk_7, iblk_8, iblk_9, iblk_10, iblk_11]
    rfl

/-- Window 15's block of an array is the array. -/
theorem read_15 (f : Vec F S10000x1 .f32) (t : Fin grid2.N) : (win2_15.blk t).view.read (Elt F) f = f :=
  funext fun x => congrArg f (funext fun a => Fin.ext (win2_15.rect_emb_val_of_index_zero t a rfl x))
/-- Window 15 is written back at the grid's point. -/
theorem flush_15 : ∀ t : Fin grid2.N, win2_15.flush t = true := by decide +kernel

/-- The call leaves the body's result in `main_v47_2`. -/
theorem after_main_v47_2 (c : Dev nD) : afterRegion (dats b W c) (W c) (Proc.devRef .tc main_v47_2) = keyOf (W c (Proc.devRef .tc main_v34)) (W c (Proc.devRef .tc main_v18_0)) (W c (Proc.devRef .tc main_v18_1)) (W c (Proc.devRef .tc main_v40)) (W c (Proc.devRef .tc main_v43)) (W c (Proc.devRef .tc main_v37)) (W c (Proc.devRef .tc main_arg5)) (W c (Proc.devRef .tc main_v45)) (W c (Proc.devRef .tc main_arg7)) (W c (Proc.devRef .tc main_arg8)) (W c (Proc.devRef .tc main_v46)) (W c (Proc.devRef .tc main_arg10)) := by
  have hdis : ∀ t t' : Fin cfg2.N, (cfg2.win 15).flush t = true → (cfg2.win 15).flush t' = true → t ≠ t' →
      Disjoint ((cfg2.win 15).blk t).view.set ((cfg2.win 15).blk t').view.set :=
    fun t t' _ _ hne => absurd (Fin.ext (by have := t.isLt; have := t'.isLt; have := N_one; omega)) hne
  have hN : 0 < cfg2.N := by decide
  have h := (dats b W c).read_blk_arrAt_eq_flushed 15 hdis cfg2.N ⟨0, hN⟩ hN (flush_15 _)
  have e := Pipeline.afterRegion_arr (dats b W c) (W c) winFacts.arr_inj 15
  refine e.trans ?_
  refine Eq.trans ?_ (h.trans ?_)
  · exact (read_15 _ _).symm
  · show (cfg2.win 15).cut (cfg2.grid.coords ⟨0, hN⟩) ((dats b W c).after 15 ⟨0, hN⟩) = _
    rw [after_15, iblk_0, iblk_1, iblk_2, iblk_3, iblk_4, iblk_5, iblk_6, iblk_7, iblk_8, iblk_9, iblk_10, iblk_11]
    rfl

/-- Window 16's block of an array is the array. -/
theorem read_16 (f : Vec F S1x16 .f32) (t : Fin grid2.N) : (win2_16.blk t).view.read (Elt F) f = f :=
  funext fun x => congrArg f (funext fun a => Fin.ext (win2_16.rect_emb_val_of_index_zero t a rfl x))
/-- Window 16 is written back at the grid's point. -/
theorem flush_16 : ∀ t : Fin grid2.N, win2_16.flush t = true := by decide +kernel

/-- The call leaves the body's result in `main_v47_3`. -/
theorem after_main_v47_3 (c : Dev nD) : afterRegion (dats b W c) (W c) (Proc.devRef .tc main_v47_3) = k2_pay2 (W c (Proc.devRef .tc main_v44)) := by
  have hdis : ∀ t t' : Fin cfg2.N, (cfg2.win 16).flush t = true → (cfg2.win 16).flush t' = true → t ≠ t' →
      Disjoint ((cfg2.win 16).blk t).view.set ((cfg2.win 16).blk t').view.set :=
    fun t t' _ _ hne => absurd (Fin.ext (by have := t.isLt; have := t'.isLt; have := N_one; omega)) hne
  have hN : 0 < cfg2.N := by decide
  have h := (dats b W c).read_blk_arrAt_eq_flushed 16 hdis cfg2.N ⟨0, hN⟩ hN (flush_16 _)
  have e := Pipeline.afterRegion_arr (dats b W c) (W c) winFacts.arr_inj 16
  refine e.trans ?_
  refine Eq.trans ?_ (h.trans ?_)
  · exact (read_16 _ _).symm
  · show (cfg2.win 16).cut (cfg2.grid.coords ⟨0, hN⟩) ((dats b W c).after 16 ⟨0, hN⟩) = _
    rw [after_16, iblk_12]
    rfl

/-- The call leaves every buffer but its results as it found it. -/
theorem after_keeps (c : Dev nD) (r : Ref sig .tc) (h13 : r ≠ main_v47_0) (h14 : r ≠ main_v47_1) (h15 : r ≠ main_v47_2) (h16 : r ≠ main_v47_3) :
    afterRegion (dats b W c) (W c) (Proc.devRef .tc r) = W c (Proc.devRef .tc r) :=
  Pipeline.afterRegion_keeps (dats b W c) (W c) winFacts.arr_inj (fun w => A_eq b W c w) r
    (fun w hw => by
      subst hw
      match w, h13, h14, h15, h16 with
      | ⟨0, _⟩, _, _, _, _ => rfl
      | ⟨1, _⟩, _, _, _, _ => rfl
      | ⟨2, _⟩, _, _, _, _ => rfl
      | ⟨3, _⟩, _, _, _, _ => rfl
      | ⟨4, _⟩, _, _, _, _ => rfl
      | ⟨5, _⟩, _, _, _, _ => rfl
      | ⟨6, _⟩, _, _, _, _ => rfl
      | ⟨7, _⟩, _, _, _, _ => rfl
      | ⟨8, _⟩, _, _, _, _ => rfl
      | ⟨9, _⟩, _, _, _, _ => rfl
      | ⟨10, _⟩, _, _, _, _ => rfl
      | ⟨11, _⟩, _, _, _, _ => rfl
      | ⟨12, _⟩, _, _, _, _ => rfl
      | ⟨13, _⟩, h, _, _, _ => exact absurd rfl h
      | ⟨14, _⟩, _, h, _, _ => exact absurd rfl h
      | ⟨15, _⟩, _, _, h, _ => exact absurd rfl h
      | ⟨16, _⟩, _, _, _, h => exact absurd rfl h
      | ⟨_ + 17, hlt⟩, _, _, _, _ => exact absurd hlt (Nat.not_lt.2 (Nat.le_add_left _ _)))

/-- Nothing is owed, -/
theorem dats_owed (c : Dev nD) (t) : (dats b W c).owed t = 0 := by dsimp only [dats]
/-- and the recorded waits are those at or below the bound. -/
theorem dats_recorded (c : Dev nD) (t) : (dats b W c).recorded t = {x | (K (F := F)).lev (SparseCore.T c, x.1) x.2 ≤ b} := by dsimp only [dats]

end Data

end Cert.Proof.Hist.B

end
-- ==== Proof.RegionC.lean ====
/-
  The third TensorCore call: its launch facts, its body's triple, its proof data over any contents of the buffers it is
  entered with, and the contents it leaves.
-/
module

public import proofs.«01_k».proof.Proof.RegionBase

@[expose] public section

set_option maxRecDepth 16384

noncomputable section

namespace Cert.Proof.Hist.C

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat arrRef arrRefs scopedRest afterRegion BodyObligation)

variable {F : FTy → Type}

local notation "𝕄" => MT nD τ sig (HIx 1) (Elt F) ℕ UU ℕ

/-! ## Launch facts -/

/-- The windows' arrays and staging buffers are distinct buffers of the right scopes. -/
theorem winFacts : Pipeline.WinFacts spec3 := by decide
/-- No window's block is empty. -/
theorem block_pos : ∀ w : Fin 13, 0 < (spec3 w).block.numel := by decide
/-- The windows' arrays are whole buffers. -/
theorem arr_whole : ∀ w : Fin 13, (spec3 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | ⟨_ + 13, h⟩ => absurd h (Nat.not_lt.2 (Nat.le_add_left _ _))
/-- The staging memrefs are whole buffers. -/
theorem stage_whole : ∀ (w : Fin 13) (s : Fin (spec3 w).nbuf), ((spec3 w).stage s).IsWhole := fun | 0 => fun _ => Memref.isWhole_whole _ | 1 => fun _ => Memref.isWhole_whole _ | 2 => fun _ => Memref.isWhole_whole _ | 3 => fun _ => Memref.isWhole_whole _ | 4 => fun _ => Memref.isWhole_whole _ | 5 => fun _ => Memref.isWhole_whole _ | 6 => fun _ => Memref.isWhole_whole _ | 7 => fun _ => Memref.isWhole_whole _ | 8 => fun _ => Memref.isWhole_whole _ | 9 => fun _ => Memref.isWhole_whole _ | 10 => fun _ => Memref.isWhole_whole _ | 11 => fun _ => Memref.isWhole_whole _ | 12 => fun _ => Memref.isWhole_whole _ | ⟨_ + 13, h⟩ => absurd h (Nat.not_lt.2 (Nat.le_add_left _ _))
/-- What the call's rule takes of the layout. -/
theorem kit : Pipeline.PLaunchFacts (nD := nD) (τ := τ) (pcfgs (F := F)) 2 :=
  (⟨cells_inj, winFacts, block_pos, arr_whole, stage_whole⟩ : Pipeline.LaunchFacts (nD := nD) (τ := τ) cfgs 2).toP
/-- The windows' arrays are unscoped. -/
theorem arr_unscoped : ∀ w : Fin 13, (Pipeline.arrRef spec3 w).isScoped = false := by decide

/-- The windows conjoined one by one. -/
theorem bigSep_windows {M : Type} [URA M] (Φ : Fin 13 → sProp M) : bigSep Finset.univ Φ = iprop(Φ (0 : Fin 13) ∗ Φ (1 : Fin 13) ∗ Φ (2 : Fin 13) ∗ Φ (3 : Fin 13) ∗ Φ (4 : Fin 13) ∗ Φ (5 : Fin 13) ∗ Φ (6 : Fin 13) ∗ Φ (7 : Fin 13) ∗ Φ (8 : Fin 13) ∗ Φ (9 : Fin 13) ∗ Φ (10 : Fin 13) ∗ Φ (11 : Fin 13) ∗ Φ (12 : Fin 13)) :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) Φ

variable [FloatOps F]

/-! ## The body -/

/-- The bit patterns of the numbers 0 to 49. -/
def numBits : List (BitVec 32) := [0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32, 0x41A00000#32, 0x41A80000#32, 0x41B00000#32, 0x41B80000#32, 0x41C00000#32, 0x41C80000#32, 0x41D00000#32, 0x41D80000#32, 0x41E00000#32, 0x41E80000#32, 0x41F00000#32, 0x41F80000#32, 0x42000000#32, 0x42040000#32, 0x42080000#32, 0x420C0000#32, 0x42100000#32, 0x42140000#32, 0x42180000#32, 0x421C0000#32, 0x42200000#32, 0x42240000#32, 0x42280000#32, 0x422C0000#32, 0x42300000#32, 0x42340000#32, 0x42380000#32, 0x423C0000#32, 0x42400000#32, 0x42440000#32]

/-- Block `n` of the selected rows is within them. -/
theorem rows_inb (n : ℕ) (h : n < 50) : ∀ a, (![16 * n, 0] : Fin 2 → ℕ) a + S16x64.size a ≤ S1024x128.size a := by
  intro a
  match a with
  | 0 => show 16 * n + 16 ≤ 1024; omega
  | 1 => show 0 + 64 ≤ 128; omega
/-- Block `n` of the weights is within them. -/
theorem weights_inb (n : ℕ) (h : n < 50) : ∀ a, (![256 * n, 0] : Fin 2 → ℕ) a + S256x128.size a ≤ S12800x128.size a := by
  intro a
  match a with
  | 0 => show 256 * n + 256 ≤ 12800; omega
  | 1 => show 0 + 128 ≤ 128; omega
/-- The rows selected `n`-th in every graph. -/
abbrev rowsAt (x0 : Vec F S1024x128 .f32) (n : ℕ) (h : n < 50) : Vec F S16x64 .f32 :=
  View.ld x0 (Rect.unit (s := S1024x128) ![16 * n, 0] S16x64.size (rows_inb n h))
/-- The weights that meet them. -/
abbrev weightsAt (x3 : Vec F S12800x128 .f32) (n : ℕ) (h : n < 50) : Vec F S256x128 .f32 :=
  View.ld x3 (Rect.unit (s := S12800x128) ![256 * n, 0] S256x128.size (weights_inb n h))
/-- The distances of the `n`-th selected rows to the small graph's nodes, zero in the graphs with no more than `n` nodes. -/
def distAt (v4 : FVec F S1x256 .f32) (v5 : FVec F S64x256 .f32) (v7 : FVec F S16x1 .f32) (n : ℕ) (v36 : Vec F S16x64 .f32) : FVec F S16x256 .f32 :=
  have v37 : FVec F S16x64 .f32 := shapeCast S16x64 v36 shapeCasts_S16x64_S16x64
  have v38 : FVec F S16x64 .f32 := mulf v37 v37
  have v39 : FVec F S16 .f32 := multiReduction .add [1] S16 v38 0x00000000#32 reduces_S16x64_S16 (.inl rfl) rfl
  have v40 : FVec F S16x1 .f32 := shapeCast S16x1 v39 shapeCasts_S16_S16x1
  have v41 : FVec F S16x256 .f32 := broadcastTo S16x256 v40 broadcasts_S16x1_S16x256
  have v42 : FVec F S16x256 .f32 := broadcastTo S16x256 v4 broadcasts_S1x256_S16x256
  have v44 : FVec F S16x256 .f32 := matmul dot_S16x64_S64x256_S16x256_1_0_0_1_n_n none v37 v5 (constant S16x256 .f32 0x00000000#32)
  have v46 : FVec F S16x256 .f32 := mulf (broadcast S16x256 (Scalar.ofBits .f32 0x40000000#32)) v44
  have v47 : FVec F S16x256 .f32 := subf (addf v41 v42) v46
  have v49 : FVec F S16x256 .f32 := maximumf v47 (broadcast S16x256 (Scalar.ofBits .f32 0x00000000#32))
  have v51 : FVec F S16x256 .f32 := addf v49 (broadcast S16x256 (Scalar.ofBits .f32 0x2B8CBCCC#32))
  have v54 : IVec S16x1 1 := cmpf .ogt v7 (broadcast S16x1 (Scalar.ofBits .f32 (numBits.getD n 0#32)))
  have v56 : IVec S16x256 1 := broadcastTo S16x256 (shapeCast S16x1 v54 shapeCasts_S16x1_S16x1) broadcasts_S16x1_S16x256
  select v56 (sqrt v51) (broadcast S16x256 (Scalar.ofBits .f32 0x00000000#32))

/-- The first classifier layer's sum over the first `n` selected rows. -/
def accAt (x0 : Vec F S1024x128 .f32) (x1 : Vec F S256x64 .f32) (x2 : Vec F S16x1 .f32) (x3 : Vec F S12800x128 .f32) : (n : ℕ) → n ≤ 50 → FVec F S16x128 .f32
  | 0, _ => broadcast S16x128 (Scalar.ofBits .f32 0x00000000#32)
  | n + 1, h => addf (accAt x0 x1 x2 x3 n (Nat.le_of_succ_le h))
      (matmul dot_S16x256_S256x128_S16x128_1_0_0_1_n_n none
        (distAt (k3_pay2 x1) (k3_pay3 x1) (k3_pay4 x2) n (rowsAt x0 n h))
        (shapeCast S256x128 (weightsAt x3 n h) shapeCasts_S256x128_S256x128) (constant S16x128 .f32 0x00000000#32))

/-- The classifier's later layers, from the first one's sum. -/
def headOf (acc : FVec F S16x128 .f32) (x4 x5 x6 : Vec F S1x128 .f32) (x7 : Vec F S128x64 .f32) (x8 x9 x10 : Vec F S1x64 .f32) (x11 : Vec F S64x128 .f32) : Vec F S16x128 .f32 :=
  have c1 : FVec F S16x128 .f32 := addf acc (broadcastTo S16x128 (shapeCast S1x128 x4 shapeCasts_S1x128_S1x128) broadcasts_S1x128_S16x128)
  k3_pay96 (k3_pay91 c1 (k3_pay89 x5) (k3_pay90 x6) x7 x8) (k3_pay92 x9) (k3_pay93 x10)
    (k3_pay94 c1 (k3_pay89 x5) (k3_pay90 x6) x7 x8) (k3_pay95 c1 (k3_pay89 x5) (k3_pay90 x6) x7 x8) x11

/-- The classifier. -/
def classOf (x0 : Vec F S1024x128 .f32) (x1 : Vec F S256x64 .f32) (x2 : Vec F S16x1 .f32) (x3 : Vec F S12800x128 .f32) (x4 x5 x6 : Vec F S1x128 .f32) (x7 : Vec F S128x64 .f32) (x8 x9 x10 : Vec F S1x64 .f32) (x11 : Vec F S64x128 .f32) : Vec F S16x128 .f32 :=
  headOf (accAt x0 x1 x2 x3 50 (Nat.le_refl 50)) x4 x5 x6 x7 x8 x9 x10 x11

set_option maxHeartbeats 40000000 in
/-- The body on whole staging buffers leaves the inputs as they were and its results in the rest. -/
theorem sound_kernel (c : Dev nD) (E : Set ℕ) (a0 : Memref sig .tc .vmem S1024x128 .f32) (h0 : a0.IsWhole) (a1 : Memref sig .tc .vmem S256x64 .f32) (h1 : a1.IsWhole) (a2 : Memref sig .tc .vmem S16x1 .f32) (h2 : a2.IsWhole) (a3 : Memref sig .tc .vmem S12800x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S128x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S64x128 .f32) (h11 : a11.IsWhole) (a12 : Memref sig .tc .vmem S16x128 .f32) (h12 : a12.IsWhole)
    (x0 : Vec F S1024x128 .f32) (x1 : Vec F S256x64 .f32) (x2 : Vec F S16x1 .f32) (x3 : Vec F S12800x128 .f32) (x4 : Vec F S1x128 .f32) (x5 : Vec F S1x128 .f32) (x6 : Vec F S1x128 .f32) (x7 : Vec F S128x64 .f32) (x8 : Vec F S1x64 .f32) (x9 : Vec F S1x64 .f32) (x10 : Vec F S1x64 .f32) (x11 : Vec F S64x128 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ (∃ d, owns (c : Thread nD τ) a12 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (classOf x0 x1 x2 x3 x4 x5 x6 x7 x8 x9 x10 x11)) -∗ Q ⟨⟩))
      ⊢ wp frame (wpE (defs₀ (F := F)) 𝒱₀ c none) E (cc3__tc_c_body a0 h0 a1 h1 a2 h2 a3 h3 a4 h4 a5 h5 a6 h6 a7 h7 a8 h8 a9 h9 a10 h10 a11 h11 a12 h12) Q := by
  simp only [cc3__tc_c_body_eq_skeleton]; unfold cc3__tc_c_body_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton, k3_part14_eq_skeleton, k3_part15_eq_skeleton, k3_part16_eq_skeleton, k3_part17_eq_skeleton, k3_part18_eq_skeleton, k3_part19_eq_skeleton, k3_part20_eq_skeleton, k3_part21_eq_skeleton, k3_part22_eq_skeleton, k3_part23_eq_skeleton, k3_part24_eq_skeleton, k3_part25_eq_skeleton, k3_part26_eq_skeleton, k3_part27_eq_skeleton, k3_part28_eq_skeleton, k3_part29_eq_skeleton, k3_part30_eq_skeleton, k3_part31_eq_skeleton, k3_part32_eq_skeleton, k3_part33_eq_skeleton, k3_part34_eq_skeleton, k3_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (store_whole _ off2 _ _ _).trans ?_
  rw [← readAt_self a1.view off2 inb_S256x64_S256x64_0_0 f1, ← readAt_self a2.view off2 inb_S16x1_S16x1_0_0 f2, ← readAt_self a4.view off2 inb_S1x128_S1x128_0_0 f4, ← readAt_self a5.view off2 inb_S1x128_S1x128_0_0 f5, ← readAt_self a6.view off2 inb_S1x128_S1x128_0_0 f6, ← readAt_self a7.view off2 inb_S128x64_S128x64_0_0 f7, ← readAt_self a8.view off2 inb_S1x64_S1x64_0_0 f8, ← readAt_self a9.view off2 inb_S1x64_S1x64_0_0 f9, ← readAt_self a10.view off2 inb_S1x64_S1x64_0_0 f10, ← readAt_self a11.view off2 inb_S64x128_S64x128_0_0 f11]
  exact rfl

/-! ## The proof data -/

section Data

variable (b : ℕ) (W : Dev nD → Valuation τ sig (Elt F))

/-- Window `w`'s block at point `t` of the contents the call is entered with. -/
def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (arrRef spec3 w)))

/-- The call's proof data: each input's buffer at its block, each output's at what the body leaves; nothing owed. -/
def dats : DatAt (F := F) 2 := fun c =>
  { A := fun w => W c (Proc.devRef .tc (arrRef spec3 w))
    after := fun w t => match w with
      | ⟨0, _⟩ => iblk W c 0 t
      | ⟨1, _⟩ => iblk W c 1 t
      | ⟨2, _⟩ => iblk W c 2 t
      | ⟨3, _⟩ => iblk W c 3 t
      | ⟨4, _⟩ => iblk W c 4 t
      | ⟨5, _⟩ => iblk W c 5 t
      | ⟨6, _⟩ => iblk W c 6 t
      | ⟨7, _⟩ => iblk W c 7 t
      | ⟨8, _⟩ => iblk W c 8 t
      | ⟨9, _⟩ => iblk W c 9 t
      | ⟨10, _⟩ => iblk W c 10 t
      | ⟨11, _⟩ => iblk W c 11 t
      | ⟨12, _⟩ => classOf (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t)
    Φ := fun _ => scopedRest spec3 c
    q := fun _ => fullShare
    owed := fun _ => 0
    recorded := fun _ => {x | (K (F := F)).lev (SparseCore.T c, x.1) x.2 ≤ b} }

/-- The data's arrays are the contents on entry. -/
theorem A_eq (c : Dev nD) (w : Fin cfg3.W) : (dats b W c).A w = W c (Proc.devRef .tc (arrRef spec3 w)) := by
  dsimp only [dats]

/-- Window 0 after the body. -/
theorem after_0 (c : Dev nD) (t : Fin cfg3.N) : (dats b W c).after 0 t = iblk W c 0 t := rfl
/-- Window 1 after the body. -/
theorem after_1 (c : Dev nD) (t : Fin cfg3.N) : (dats b W c).after 1 t = iblk W c 1 t := rfl
/-- Window 2 after the body. -/
theorem after_2 (c : Dev nD) (t : Fin cfg3.N) : (dats b W c).after 2 t = iblk W c 2 t := rfl
/-- Window 3 after the body. -/
theorem after_3 (c : Dev nD) (t : Fin cfg3.N) : (dats b W c).after 3 t = iblk W c 3 t := rfl
/-- Window 4 after the body. -/
theorem after_4 (c : Dev nD) (t : Fin cfg3.N) : (dats b W c).after 4 t = iblk W c 4 t := rfl
/-- Window 5 after the body. -/
theorem after_5 (c : Dev nD) (t : Fin cfg3.N) : (dats b W c).after 5 t = iblk W c 5 t := rfl
/-- Window 6 after the body. -/
theorem after_6 (c : Dev nD) (t : Fin cfg3.N) : (dats b W c).after 6 t = iblk W c 6 t := rfl
/-- Window 7 after the body. -/
theorem after_7 (c : Dev nD) (t : Fin cfg3.N) : (dats b W c).after 7 t = iblk W c 7 t := rfl
/-- Window 8 after the body. -/
theorem after_8 (c : Dev nD) (t : Fin cfg3.N) : (dats b W c).after 8 t = iblk W c 8 t := rfl
/-- Window 9 after the body. -/
theorem after_9 (c : Dev nD) (t : Fin cfg3.N) : (dats b W c).after 9 t = iblk W c 9 t := rfl
/-- Window 10 after the body. -/
theorem after_10 (c : Dev nD) (t : Fin cfg3.N) : (dats b W c).after 10 t = iblk W c 10 t := rfl
/-- Window 11 after the body. -/
theorem after_11 (c : Dev nD) (t : Fin cfg3.N) : (dats b W c).after 11 t = iblk W c 11 t := rfl
/-- Window 12 after the body. -/
theorem after_12 (c : Dev nD) (t : Fin cfg3.N) : (dats b W c).after 12 t = classOf (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) := rfl

/-- Input window 0's buffer holds its block before the body. -/
theorem before_0 (c : Dev nD) (t : Fin cfg3.N) (d) : (dats b W c).before 0 t d = iblk W c 0 t :=
  ((dats b W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's buffer holds its block before the body. -/
theorem before_1 (c : Dev nD) (t : Fin cfg3.N) (d) : (dats b W c).before 1 t d = iblk W c 1 t :=
  ((dats b W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's buffer holds its block before the body. -/
theorem before_2 (c : Dev nD) (t : Fin cfg3.N) (d) : (dats b W c).before 2 t d = iblk W c 2 t :=
  ((dats b W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's buffer holds its block before the body. -/
theorem before_3 (c : Dev nD) (t : Fin cfg3.N) (d) : (dats b W c).before 3 t d = iblk W c 3 t :=
  ((dats b W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's buffer holds its block before the body. -/
theorem before_4 (c : Dev nD) (t : Fin cfg3.N) (d) : (dats b W c).before 4 t d = iblk W c 4 t :=
  ((dats b W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's buffer holds its block before the body. -/
theorem before_5 (c : Dev nD) (t : Fin cfg3.N) (d) : (dats b W c).before 5 t d = iblk W c 5 t :=
  ((dats b W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Input window 6's buffer holds its block before the body. -/
theorem before_6 (c : Dev nD) (t : Fin cfg3.N) (d) : (dats b W c).before 6 t d = iblk W c 6 t :=
  ((dats b W c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- Input window 7's buffer holds its block before the body. -/
theorem before_7 (c : Dev nD) (t : Fin cfg3.N) (d) : (dats b W c).before 7 t d = iblk W c 7 t :=
  ((dats b W c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- Input window 8's buffer holds its block before the body. -/
theorem before_8 (c : Dev nD) (t : Fin cfg3.N) (d) : (dats b W c).before 8 t d = iblk W c 8 t :=
  ((dats b W c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- Input window 9's buffer holds its block before the body. -/
theorem before_9 (c : Dev nD) (t : Fin cfg3.N) (d) : (dats b W c).before 9 t d = iblk W c 9 t :=
  ((dats b W c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
/-- Input window 10's buffer holds its block before the body. -/
theorem before_10 (c : Dev nD) (t : Fin cfg3.N) (d) : (dats b W c).before 10 t d = iblk W c 10 t :=
  ((dats b W c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
/-- Input window 11's buffer holds its block before the body. -/
theorem before_11 (c : Dev nD) (t : Fin cfg3.N) (d) : (dats b W c).before 11 t d = iblk W c 11 t :=
  ((dats b W c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)

/-- What the body is called with at point `t`, the windows one by one. -/
def bodyPre (c : Dev nD) (t : Fin cfg3.N) : sProp 𝕄 :=
  iprop((dats b W c).Φ t.castSucc ∗ (dats b W c).owesAt none t.castSucc
    ∗ (∃ d, owns (c : Thread nD τ) ((cfg3.win 0).stage (cfg3.slots t 0)) fullShare ((dats b W c).before 0 t d)) ∗ (∃ d, owns (c : Thread nD τ) ((cfg3.win 1).stage (cfg3.slots t 1)) fullShare ((dats b W c).before 1 t d)) ∗ (∃ d, owns (c : Thread nD τ) ((cfg3.win 2).stage (cfg3.slots t 2)) fullShare ((dats b W c).before 2 t d)) ∗ (∃ d, owns (c : Thread nD τ) ((cfg3.win 3).stage (cfg3.slots t 3)) fullShare ((dats b W c).before 3 t d)) ∗ (∃ d, owns (c : Thread nD τ) ((cfg3.win 4).stage (cfg3.slots t 4)) fullShare ((dats b W c).before 4 t d)) ∗ (∃ d, owns (c : Thread nD τ) ((cfg3.win 5).stage (cfg3.slots t 5)) fullShare ((dats b W c).before 5 t d)) ∗ (∃ d, owns (c : Thread nD τ) ((cfg3.win 6).stage (cfg3.slots t 6)) fullShare ((dats b W c).before 6 t d)) ∗ (∃ d, owns (c : Thread nD τ) ((cfg3.win 7).stage (cfg3.slots t 7)) fullShare ((dats b W c).before 7 t d)) ∗ (∃ d, owns (c : Thread nD τ) ((cfg3.win 8).stage (cfg3.slots t 8)) fullShare ((dats b W c).before 8 t d)) ∗ (∃ d, owns (c : Thread nD τ) ((cfg3.win 9).stage (cfg3.slots t 9)) fullShare ((dats b W c).before 9 t d)) ∗ (∃ d, owns (c : Thread nD τ) ((cfg3.win 10).stage (cfg3.slots t 10)) fullShare ((dats b W c).before 10 t d)) ∗ (∃ d, owns (c : Thread nD τ) ((cfg3.win 11).stage (cfg3.slots t 11)) fullShare ((dats b W c).before 11 t d)) ∗ (∃ d, owns (c : Thread nD τ) ((cfg3.win 12).stage (cfg3.slots t 12)) fullShare ((dats b W c).before 12 t d)))
/-- What it returns. -/
def bodyPost (c : Dev nD) (t : Fin cfg3.N) : sProp 𝕄 :=
  iprop((dats b W c).Φ t.succ ∗ (dats b W c).owesAt none t.succ
    ∗ owns (c : Thread nD τ) ((cfg3.win 0).stage (cfg3.slots t 0)) fullShare ((dats b W c).after 0 t) ∗ owns (c : Thread nD τ) ((cfg3.win 1).stage (cfg3.slots t 1)) fullShare ((dats b W c).after 1 t) ∗ owns (c : Thread nD τ) ((cfg3.win 2).stage (cfg3.slots t 2)) fullShare ((dats b W c).after 2 t) ∗ owns (c : Thread nD τ) ((cfg3.win 3).stage (cfg3.slots t 3)) fullShare ((dats b W c).after 3 t) ∗ owns (c : Thread nD τ) ((cfg3.win 4).stage (cfg3.slots t 4)) fullShare ((dats b W c).after 4 t) ∗ owns (c : Thread nD τ) ((cfg3.win 5).stage (cfg3.slots t 5)) fullShare ((dats b W c).after 5 t) ∗ owns (c : Thread nD τ) ((cfg3.win 6).stage (cfg3.slots t 6)) fullShare ((dats b W c).after 6 t) ∗ owns (c : Thread nD τ) ((cfg3.win 7).stage (cfg3.slots t 7)) fullShare ((dats b W c).after 7 t) ∗ owns (c : Thread nD τ) ((cfg3.win 8).stage (cfg3.slots t 8)) fullShare ((dats b W c).after 8 t) ∗ owns (c : Thread nD τ) ((cfg3.win 9).stage (cfg3.slots t 9)) fullShare ((dats b W c).after 9 t) ∗ owns (c : Thread nD τ) ((cfg3.win 10).stage (cfg3.slots t 10)) fullShare ((dats b W c).after 10 t) ∗ owns (c : Thread nD τ) ((cfg3.win 11).stage (cfg3.slots t 11)) fullShare ((dats b W c).after 11 t) ∗ owns (c : Thread nD τ) ((cfg3.win 12).stage (cfg3.slots t 12)) fullShare ((dats b W c).after 12 t))

/-- The body as the call runs it at point `t`. -/
abbrev bodyAt (t : Fin cfg3.N) : Prog (TpuEff nD τ sig (Elt F) Λ₀ .tc) PUnit :=
  cc3__tc_c_body (win3_0.stage (cfg3.slots t 0)) (hstage3_0 0) (win3_1.stage (cfg3.slots t 1)) (hstage3_1 0) (win3_2.stage (cfg3.slots t 2)) (hstage3_2 0) (win3_3.stage (cfg3.slots t 3)) (hstage3_3 0) (win3_4.stage (cfg3.slots t 4)) (hstage3_4 0) (win3_5.stage (cfg3.slots t 5)) (hstage3_5 0) (win3_6.stage (cfg3.slots t 6)) (hstage3_6 0) (win3_7.stage (cfg3.slots t 7)) (hstage3_7 0) (win3_8.stage (cfg3.slots t 8)) (hstage3_8 0) (win3_9.stage (cfg3.slots t 9)) (hstage3_9 0) (win3_10.stage (cfg3.slots t 10)) (hstage3_10 0) (win3_11.stage (cfg3.slots t 11)) (hstage3_11 0) (win3_12.stage (cfg3.slots t 12)) (hstage3_12 0)

set_option maxHeartbeats 4000000 in
/-- The body at any point: the inputs hold their blocks, so its triple applies. -/
theorem sound_body (c : Dev nD) (t : Fin cfg3.N) :
    bodyPre b W c t ⊢ wp frame (wpE (defs₀ (F := F)) 𝒱₀ c none) Set.univ (bodyAt t) (fun _ => bodyPost b W c t) := by
  unfold bodyPre bodyPost bodyAt
  simp only [before_0, before_1, before_2, before_3, before_4, before_5, before_6, before_7, before_8, before_9, before_10, before_11]
  rw [show (dats b W c).Φ t.succ = (dats b W c).Φ t.castSucc from rfl,
    show (dats b W c).owesAt none t.succ = (dats b W c).owesAt none t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body's label is its printed body. -/
theorem body_row (t : Fin cfg3.N) : defs₀ (F := F) .tc cfg3.body (cfg3.bodyArgs t (cfg3.slots t)) = bodyAt t := rfl

/-- The body obligation of the call. -/
theorem body_obligation (c : Dev nD) : BodyObligation (dats b W c) (defs₀ (F := F)) 𝒱₀ none Set.univ := fun t => by
  rw [bigSep_windows, bigSep_windows]
  exact triple_restated (sound_body b W c t) (congrArg (fun q => wp frame (wpE (defs₀ (F := F)) 𝒱₀ c none) Set.univ q) (body_row t).symm) .rfl fun _ => .rfl

/-- Every window's array is held whole. -/
theorem share_full (c : Dev nD) (w) : (dats b W c).share w = fullShare := (dats b W c).share_full (fun _ => rfl) w

/-! ## The contents it leaves -/

/-- Window 0's block is its whole array. -/
theorem iblk_0 (c : Dev nD) (t : Fin cfg3.N) : iblk W c 0 t = W c (Proc.devRef .tc main_v68) :=
  funext fun x => congrArg (W c (Proc.devRef .tc main_v68)) (funext fun a => Fin.ext (win3_0.rect_emb_val_of_index_zero t a rfl x))
/-- Window 1's block is its whole array. -/
theorem iblk_1 (c : Dev nD) (t : Fin cfg3.N) : iblk W c 1 t = W c (Proc.devRef .tc main_v47_1) :=
  funext fun x => congrArg (W c (Proc.devRef .tc main_v47_1)) (funext fun a => Fin.ext (win3_1.rect_emb_val_of_index_zero t a rfl x))
/-- Window 2's block is its whole array. -/
theorem iblk_2 (c : Dev nD) (t : Fin cfg3.N) : iblk W c 2 t = W c (Proc.devRef .tc main_v77) :=
  funext fun x => congrArg (W c (Proc.devRef .tc main_v77)) (funext fun a => Fin.ext (win3_2.rect_emb_val_of_index_zero t a rfl x))
/-- Window 3's block is its whole array. -/
theorem iblk_3 (c : Dev nD) (t : Fin cfg3.N) : iblk W c 3 t = W c (Proc.devRef .tc main_v73) :=
  funext fun x => congrArg (W c (Proc.devRef .tc main_v73)) (funext fun a => Fin.ext (win3_3.rect_emb_val_of_index_zero t a rfl x))
/-- Window 4's block is its whole array. -/
theorem iblk_4 (c : Dev nD) (t : Fin cfg3.N) : iblk W c 4 t = W c (Proc.devRef .tc main_v78) :=
  funext fun x => congrArg (W c (Proc.devRef .tc main_v78)) (funext fun a => Fin.ext (win3_4.rect_emb_val_of_index_zero t a rfl x))
/-- Window 5's block is its whole array. -/
theorem iblk_5 (c : Dev nD) (t : Fin cfg3.N) : iblk W c 5 t = W c (Proc.devRef .tc main_v79) :=
  funext fun x => congrArg (W c (Proc.devRef .tc main_v79)) (funext fun a => Fin.ext (win3_5.rect_emb_val_of_index_zero t a rfl x))
/-- Window 6's block is its whole array. -/
theorem iblk_6 (c : Dev nD) (t : Fin cfg3.N) : iblk W c 6 t = W c (Proc.devRef .tc main_v80) :=
  funext fun x => congrArg (W c (Proc.devRef .tc main_v80)) (funext fun a => Fin.ext (win3_6.rect_emb_val_of_index_zero t a rfl x))
/-- Window 7's block is its whole array. -/
theorem iblk_7 (c : Dev nD) (t : Fin cfg3.N) : iblk W c 7 t = W c (Proc.devRef .tc main_arg15) :=
  funext fun x => congrArg (W c (Proc.devRef .tc main_arg15)) (funext fun a => Fin.ext (win3_7.rect_emb_val_of_index_zero t a rfl x))
/-- Window 8's block is its whole array. -/
theorem iblk_8 (c : Dev nD) (t : Fin cfg3.N) : iblk W c 8 t = W c (Proc.devRef .tc main_v81) :=
  funext fun x => congrArg (W c (Proc.devRef .tc main_v81)) (funext fun a => Fin.ext (win3_8.rect_emb_val_of_index_zero t a rfl x))
/-- Window 9's block is its whole array. -/
theorem iblk_9 (c : Dev nD) (t : Fin cfg3.N) : iblk W c 9 t = W c (Proc.devRef .tc main_v82) :=
  funext fun x => congrArg (W c (Proc.devRef .tc main_v82)) (funext fun a => Fin.ext (win3_9.rect_emb_val_of_index_zero t a rfl x))
/-- Window 10's block is its whole array. -/
theorem iblk_10 (c : Dev nD) (t : Fin cfg3.N) : iblk W c 10 t = W c (Proc.devRef .tc main_v83) :=
  funext fun x => congrArg (W c (Proc.devRef .tc main_v83)) (funext fun a => Fin.ext (win3_10.rect_emb_val_of_index_zero t a rfl x))
/-- Window 11's block is its whole array. -/
theorem iblk_11 (c : Dev nD) (t : Fin cfg3.N) : iblk W c 11 t = W c (Proc.devRef .tc main_v76) :=
  funext fun x => congrArg (W c (Proc.devRef .tc main_v76)) (funext fun a => Fin.ext (win3_11.rect_emb_val_of_index_zero t a rfl x))

/-- The grid has one point. -/
theorem N_one : cfg3.N = 1 := by decide

/-- Window 12's block of an array is the array. -/
theorem read_12 (f : Vec F S16x128 .f32) (t : Fin grid3.N) : (win3_12.blk t).view.read (Elt F) f = f :=
  funext fun x => congrArg f (funext fun a => Fin.ext (win3_12.rect_emb_val_of_index_zero t a rfl x))
/-- Window 12 is written back at the grid's point. -/
theorem flush_12 : ∀ t : Fin grid3.N, win3_12.flush t = true := by decide +kernel

/-- The call leaves the body's result in `main_v84`. -/
theorem after_main_v84 (c : Dev nD) : afterRegion (dats b W c) (W c) (Proc.devRef .tc main_v84) = classOf (W c (Proc.devRef .tc main_v68)) (W c (Proc.devRef .tc main_v47_1)) (W c (Proc.devRef .tc main_v77)) (W c (Proc.devRef .tc main_v73)) (W c (Proc.devRef .tc main_v78)) (W c (Proc.devRef .tc main_v79)) (W c (Proc.devRef .tc main_v80)) (W c (Proc.devRef .tc main_arg15)) (W c (Proc.devRef .tc main_v81)) (W c (Proc.devRef .tc main_v82)) (W c (Proc.devRef .tc main_v83)) (W c (Proc.devRef .tc main_v76)) := by
  have hdis : ∀ t t' : Fin cfg3.N, (cfg3.win 12).flush t = true → (cfg3.win 12).flush t' = true → t ≠ t' →
      Disjoint ((cfg3.win 12).blk t).view.set ((cfg3.win 12).blk t').view.set :=
    fun t t' _ _ hne => absurd (Fin.ext (by have := t.isLt; have := t'.isLt; have := N_one; omega)) hne
  have hN : 0 < cfg3.N := by decide
  have h := (dats b W c).read_blk_arrAt_eq_flushed 12 hdis cfg3.N ⟨0, hN⟩ hN (flush_12 _)
  have e := Pipeline.afterRegion_arr (dats b W c) (W c) winFacts.arr_inj 12
  refine e.trans ?_
  refine Eq.trans ?_ (h.trans ?_)
  · exact (read_12 _ _).symm
  · show (cfg3.win 12).cut (cfg3.grid.coords ⟨0, hN⟩) ((dats b W c).after 12 ⟨0, hN⟩) = _
    rw [after_12, iblk_0, iblk_1, iblk_2, iblk_3, iblk_4, iblk_5, iblk_6, iblk_7, iblk_8, iblk_9, iblk_10, iblk_11]
    rfl

/-- The call leaves every buffer but its results as it found it. -/
theorem after_keeps (c : Dev nD) (r : Ref sig .tc) (h12 : r ≠ main_v84) :
    afterRegion (dats b W c) (W c) (Proc.devRef .tc r) = W c (Proc.devRef .tc r) :=
  Pipeline.afterRegion_keeps (dats b W c) (W c) winFacts.arr_inj (fun w => A_eq b W c w) r
    (fun w hw => by
      subst hw
      match w, h12 with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, _ => rfl
      | ⟨8, _⟩, _ => rfl
      | ⟨9, _⟩, _ => rfl
      | ⟨10, _⟩, _ => rfl
      | ⟨11, _⟩, _ => rfl
      | ⟨12, _⟩, h => exact absurd rfl h
      | ⟨_ + 13, hlt⟩, _ => exact absurd hlt (Nat.not_lt.2 (Nat.le_add_left _ _)))

/-- Nothing is owed, -/
theorem dats_owed (c : Dev nD) (t) : (dats b W c).owed t = 0 := by dsimp only [dats]
/-- and the recorded waits are those at or below the bound. -/
theorem dats_recorded (c : Dev nD) (t) : (dats b W c).recorded t = {x | (K (F := F)).lev (SparseCore.T c, x.1) x.2 ≤ b} := by dsimp only [dats]

end Data

end Cert.Proof.Hist.C

end
-- ==== Proof.Ops.lean ====
/-
  The host operations of the program, in the five runs the calls cut them into, and the program as those runs and the calls.
-/
module

public import proofs.«01_k».proof.Proof.RegionA
public import proofs.«01_k».proof.Proof.RegionB
public import proofs.«01_k».proof.Proof.RegionC

@[expose] public section

set_option maxRecDepth 16384

noncomputable section

namespace Cert.Proof.Hist

open Cert.KernelIdeal Cert.KernelIdeal.Gen

open Idealize.ShloMosaic
open Idealize.ShloMosaic.SparseCore (S V T)
open Idealize.SL.Sem

variable {F : FTy → Type}

/-- The TensorCore's unscoped buffers. -/
def ucRefs : Finset (DevRef τ sig) := (StableHlo.tcRefs τ sig).filter fun b => ¬ b.isScoped

/-- A host operation on TensorCore buffers touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

variable [FloatOps F]

/-- Before the histogram call: the two rows of the edge list. -/
def ops0 : List (HloOp τ sig (Elt F)) :=
  [(StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F))),
   (StableHlo.reshape main_v0 main_v1 (rfl : (.i32 : EltTy) = .i32) shapeCasts_S1x640000_S640000),
   (StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F))),
   (StableHlo.reshape main_v2 main_v3 (rfl : (.i32 : EltTy) = .i32) shapeCasts_S1x640000_S640000)]
/-- They touch unscoped buffers only, -/
theorem ops0_sub : ∀ op ∈ ops0 (F := F), op.bufs ⊆ ucRefs := by
  have h : ∀ op ∈ ops0 (F := F), op.bufs ⊆ StableHlo.tcRefs τ sig := List.forall_iff_forall_mem.mp (by
    simp only [ops0, List.Forall]
    exact ⟨StableHlo.unary_bufs_sub .., StableHlo.reshape_bufs_sub .., StableHlo.unary_bufs_sub .., StableHlo.reshape_bufs_sub ..⟩)
  exact fun op ho => sub_ucRefs op (h op ho)
/-- allocate nothing, -/
theorem ops0_fresh : ∀ op ∈ ops0 (F := F), op.fresh = ∅ := List.forall_iff_forall_mem.mp (by simp only [ops0, List.Forall]; repeat' constructor)
/-- and write these buffers. -/
def writes0 : List (Ref sig .tc) := [main_v0, main_v1, main_v2, main_v3]
/-- Every other buffer keeps its contents. -/
theorem keep0 (W : Valuation τ sig (Elt F)) (r : Ref sig .tc) (h : ∀ x ∈ writes0, r ≠ x) :
    StableHlo.after ops0 W (Proc.devRef .tc r) = W (Proc.devRef .tc r) := by
  refine StableHlo.after_of_forall_not_mem (b := Proc.devRef .tc r) _ _ (List.forall_iff_forall_mem.mp ?_)
  simp only [ops0, List.Forall, StableHlo.nullary_writes, StableHlo.unary_writes, StableHlo.binary_writes, StableHlo.ternary_writes,
    StableHlo.reshape_writes, Finset.mem_singleton]
  repeat' apply And.intro
  all_goals exact StableHlo.devRef_ne_of_ne (h _ (by simp [writes0]))

/-- Between the histogram call and the first TensorCore call: the gathered and summed messages, and the reshaped operands. -/
def ops1 : List (HloOp τ sig (Elt F)) :=
  [(StableHlo.nullary main_c (constantI S_ 32 0#32)),
   (StableHlo.unary main_c main_v5 (broadcastInDim S640000 ![] bcast_S_S640000 : (⟨S_, .i32⟩ : BufTy).Contents (Elt F) → (⟨S640000, .i32⟩ : BufTy).Contents (Elt F))),
   (StableHlo.binary main_v1 main_v5 main_v6 (cmpi .slt : (⟨S640000, .i32⟩ : BufTy).Contents (Elt F) → (⟨S640000, .i32⟩ : BufTy).Contents (Elt F) → (⟨S640000, .i1⟩ : BufTy).Contents (Elt F))),
   (StableHlo.nullary main_c_0 (constantI S_ 32 10000#32)),
   (StableHlo.unary main_c_0 main_v7 (broadcastInDim S640000 ![] bcast_S_S640000 : (⟨S_, .i32⟩ : BufTy).Contents (Elt F) → (⟨S640000, .i32⟩ : BufTy).Contents (Elt F))),
   (StableHlo.binary main_v1 main_v7 main_v8 (addi : (⟨S640000, .i32⟩ : BufTy).Contents (Elt F) → (⟨S640000, .i32⟩ : BufTy).Contents (Elt F) → (⟨S640000, .i32⟩ : BufTy).Contents (Elt F))),
   (StableHlo.ternary main_v6 main_v8 main_v1 main_v9 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))),
   (StableHlo.unary main_v9 main_v10 (broadcastInDim S640000x1 ![0] bcast_S640000_S640000x1_0 : (⟨S640000, .i32⟩ : BufTy).Contents (Elt F) → (⟨S640000x1, .i32⟩ : BufTy).Contents (Elt F))),
   (StableHlo.binary main_arg0 main_v10 main_v11 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F))),
   (StableHlo.nullary main_cst (constant S_ .f32 0x00000000#32)),
   (StableHlo.unary main_cst main_v12 (broadcastInDim S10000x128 ![] bcast_S_S10000x128 : (⟨S_, .f32⟩ : BufTy).Contents (Elt F) → (⟨S10000x128, .f32⟩ : BufTy).Contents (Elt F))),
   (StableHlo.unary main_v3 main_v13 (broadcastInDim S640000x1 ![0] bcast_S640000_S640000x1_0 : (⟨S640000, .i32⟩ : BufTy).Contents (Elt F) → (⟨S640000x1, .i32⟩ : BufTy).Contents (Elt F))),
   (StableHlo.ternary main_v12 main_v13 main_v11 main_v14 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F))),
   (StableHlo.unary main_v4 main_v15 ((transpose S10000x32 [1, 0] · transposes_S32x10000_S10000x32_1_0) : (⟨S32x10000, .f32⟩ : BufTy).Contents (Elt F) → (⟨S10000x32, .f32⟩ : BufTy).Contents (Elt F))),
   (StableHlo.reshape main_arg6 main_v16 (rfl : (.f32 : EltTy) = .f32) shapeCasts_S128_S1x128),
   (StableHlo.reshape main_arg9 main_v17 (rfl : (.f32 : EltTy) = .f32) shapeCasts_S64_S1x64)]
/-- They touch unscoped buffers only, -/
theorem ops1_sub : ∀ op ∈ ops1 (F := F), op.bufs ⊆ ucRefs := by
  have h : ∀ op ∈ ops1 (F := F), op.bufs ⊆ StableHlo.tcRefs τ sig := List.forall_iff_forall_mem.mp (by
    simp only [ops1, List.Forall]
    exact ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.reshape_bufs_sub ..⟩)
  exact fun op ho => sub_ucRefs op (h op ho)
/-- allocate nothing, -/
theorem ops1_fresh : ∀ op ∈ ops1 (F := F), op.fresh = ∅ := List.forall_iff_forall_mem.mp (by simp only [ops1, List.Forall]; repeat' constructor)
/-- and write these buffers. -/
def writes1 : List (Ref sig .tc) := [main_c, main_v5, main_v6, main_c_0, main_v7, main_v8, main_v9, main_v10, main_v11, main_cst, main_v12, main_v13, main_v14, main_v15, main_v16, main_v17]
/-- Every other buffer keeps its contents. -/
theorem keep1 (W : Valuation τ sig (Elt F)) (r : Ref sig .tc) (h : ∀ x ∈ writes1, r ≠ x) :
    StableHlo.after ops1 W (Proc.devRef .tc r) = W (Proc.devRef .tc r) := by
  refine StableHlo.after_of_forall_not_mem (b := Proc.devRef .tc r) _ _ (List.forall_iff_forall_mem.mp ?_)
  simp only [ops1, List.Forall, StableHlo.nullary_writes, StableHlo.unary_writes, StableHlo.binary_writes, StableHlo.ternary_writes,
    StableHlo.reshape_writes, Finset.mem_singleton]
  repeat' apply And.intro
  all_goals exact StableHlo.devRef_ne_of_ne (h _ (by simp [writes1]))

/-- Between the first and the second TensorCore call: the second layer's gathered and summed messages, the small graph's padded features and index columns. -/
def ops2 : List (HloOp τ sig (Elt F)) :=
  [(StableHlo.unary main_arg1 main_v19 ((extractStridedSlice S1x640000 ![0, 0] · slices_S2x640000_S1x640000_0_0) : (⟨S2x640000, .i32⟩ : BufTy).Contents (Elt F) → (⟨S1x640000, .i32⟩ : BufTy).Contents (Elt F))),
   (StableHlo.reshape main_v19 main_v20 (rfl : (.i32 : EltTy) = .i32) shapeCasts_S1x640000_S640000),
   (StableHlo.nullary main_c_1 (constantI S_ 32 0#32)),
   (StableHlo.unary main_c_1 main_v21 (broadcastInDim S640000 ![] bcast_S_S640000 : (⟨S_, .i32⟩ : BufTy).Contents (Elt F) → (⟨S640000, .i32⟩ : BufTy).Contents (Elt F))),
   (StableHlo.binary main_v20 main_v21 main_v22 (cmpi .slt : (⟨S640000, .i32⟩ : BufTy).Contents (Elt F) → (⟨S640000, .i32⟩ : BufTy).Contents (Elt F) → (⟨S640000, .i1⟩ : BufTy).Contents (Elt F))),
   (StableHlo.nullary main_c_2 (constantI S_ 32 10000#32)),
   (StableHlo.unary main_c_2 main_v23 (broadcastInDim S640000 ![] bcast_S_S640000 : (⟨S_, .i32⟩ : BufTy).Contents (Elt F) → (⟨S640000, .i32⟩ : BufTy).Contents (Elt F))),
   (StableHlo.binary main_v20 main_v23 main_v24 (addi : (⟨S640000, .i32⟩ : BufTy).Contents (Elt F) → (⟨S640000, .i32⟩ : BufTy).Contents (Elt F) → (⟨S640000, .i32⟩ : BufTy).Contents (Elt F))),
   (StableHlo.ternary main_v22 main_v24 main_v20 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))),
   (StableHlo.unary main_v25 main_v26 (broadcastInDim S640000x1 ![0] bcast_S640000_S640000x1_0 : (⟨S640000, .i32⟩ : BufTy).Contents (Elt F) → (⟨S640000x1, .i32⟩ : BufTy).Contents (Elt F))),
   (StableHlo.nullary main_c_3 (constantI S_ 32 0#32)),
   (StableHlo.unary main_c_3 main_v27 (broadcastInDim S640000x1 ![] bcast_S_S640000x1 : (⟨S_, .i32⟩ : BufTy).Contents (Elt F) → (⟨S640000x1, .i32⟩ : BufTy).Contents (Elt F))),
   (StableHlo.binary main_v26 main_v27 main_v28 ((fun a b => concatenate S640000x2 1 [⟨S640000x1, a⟩, ⟨S640000x1, b⟩] concatenates_S640000x1_S640000x1_S640000x2_d1) : (⟨S640000x1, .i32⟩ : BufTy).Contents (Elt F) → (⟨S640000x1, .i32⟩ : BufTy).Contents (Elt F) → (⟨S640000x2, .i32⟩ : BufTy).Contents (Elt F))),
   (StableHlo.binary main_v18_0 main_v28 main_v29 ((fun x i => Host.gather gather_S10000x128_S640000x2_S640000x64_1_0_n_n_01_1_164 x i) : (⟨S10000x128, .f32⟩ : BufTy).Contents (Elt F) → (⟨S640000x2, .i32⟩ : BufTy).Contents (Elt F) → (⟨S640000x64, .f32⟩ : BufTy).Contents (Elt F))),
   (StableHlo.unary main_arg1 main_v30 ((extractStridedSlice S1x640000 ![1, 0] · slices_S2x640000_S1x640000_1_0) : (⟨S2x640000, .i32⟩ : BufTy).Contents (Elt F) → (⟨S1x640000, .i32⟩ : BufTy).Contents (Elt F))),
   (StableHlo.reshape main_v30 main_v31 (rfl : (.i32 : EltTy) = .i32) shapeCasts_S1x640000_S640000),
   (StableHlo.nullary main_cst_4 (constant S_ .f32 0x00000000#32)),
   (StableHlo.unary main_cst_4 main_v32 (broadcastInDim S10000x64 ![] bcast_S_S10000x64 : (⟨S_, .f32⟩ : BufTy).Contents (Elt F) → (⟨S10000x64, .f32⟩ : BufTy).Contents (Elt F))),
   (StableHlo.unary main_v31 main_v33 (broadcastInDim S640000x1 ![0] bcast_S640000_S640000x1_0 : (⟨S640000, .i32⟩ : BufTy).Contents (Elt F) → (⟨S640000x1, .i32⟩ : BufTy).Contents (Elt F))),
   (StableHlo.ternary main_v32 main_v33 main_v29 main_v34 ((fun x i u => Host.scatterAdd scatter_S10000x64_S640000x1_S640000x64_1_0_0_1 x i u) : (⟨S10000x64, .f32⟩ : BufTy).Contents (Elt F) → (⟨S640000x1, .i32⟩ : BufTy).Contents (Elt F) → (⟨S640000x64, .f32⟩ : BufTy).Contents (Elt F) → (⟨S10000x64, .f32⟩ : BufTy).Contents (Elt F))),
   (StableHlo.nullary main_cst_5 (constant S_ .f32 0x00000000#32)),
   (StableHlo.unary main_cst_5 main_v35 (broadcastInDim S256x128 ![] bcast_S_S256x128 : (⟨S_, .f32⟩ : BufTy).Contents (Elt F) → (⟨S256x128, .f32⟩ : BufTy).Contents (Elt F))),
   (StableHlo.nullary main_c_6 (constantI S_ 32 0#32)),
   (StableHlo.unary main_c_6 main_v36 (broadcastInDim S1 ![] bcast_S_S1 : (⟨S_, .i32⟩ : BufTy).Contents (Elt F) → (⟨S1, .i32⟩ : BufTy).Contents (Elt F))),
   (StableHlo.ternary main_v35 main_v36 main_arg3 main_v37 ((fun x i u => Host.scatter scatter_S256x128_S1_S199x128_01_n_0_0 (fun _ b => b) x i u) : (⟨S256x128, .f32⟩ : BufTy).Contents (Elt F) → (⟨S1, .i32⟩ : BufTy).Contents (Elt F) → (⟨S199x128, .f32⟩ : BufTy).Contents (Elt F) → (⟨S256x128, .f32⟩ : BufTy).Contents (Elt F))),
   (StableHlo.unary main_arg4 main_v38 ((extractStridedSlice S1x3184 ![0, 0] · slices_S2x3184_S1x3184_0_0) : (⟨S2x3184, .i32⟩ : BufTy).Contents (Elt F) → (⟨S1x3184, .i32⟩ : BufTy).Contents (Elt F))),
   (StableHlo.reshape main_v38 main_v39 (rfl : (.i32 : EltTy) = .i32) shapeCasts_S1x3184_S3184),
   (StableHlo.reshape main_v39 main_v40 (rfl : (.i32 : EltTy) = .i32) shapeCasts_S3184_S3184x1),
   (StableHlo.unary main_arg4 main_v41 ((extractStridedSlice S1x3184 ![1, 0] · slices_S2x3184_S1x3184_1_0) : (⟨S2x3184, .i32⟩ : BufTy).Contents (Elt F) → (⟨S1x3184, .i32⟩ : BufTy).Contents (Elt F))),
   (StableHlo.reshape main_v41 main_v42 (rfl : (.i32 : EltTy) = .i32) shapeCasts_S1x3184_S3184),
   (StableHlo.reshape main_v42 main_v43 (rfl : (.i32 : EltTy) = .i32) shapeCasts_S3184_S3184x1),
   (StableHlo.reshape main_arg2 main_v44 (rfl : (.i32 : EltTy) = .i32) shapeCasts_S10000_S10000x1),
   (StableHlo.reshape main_arg6 main_v45 (rfl : (.f32 : EltTy) = .f32) shapeCasts_S128_S1x128),
   (StableHlo.reshape main_arg9 main_v46 (rfl : (.f32 : EltTy) = .f32) shapeCasts_S64_S1x64)]
/-- They touch unscoped buffers only, -/
theorem ops2_sub : ∀ op ∈ ops2 (F := F), op.bufs ⊆ ucRefs := by
  have h : ∀ op ∈ ops2 (F := F), op.bufs ⊆ StableHlo.tcRefs τ sig := List.forall_iff_forall_mem.mp (by
    simp only [ops2, List.Forall]
    exact ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub ..⟩)
  exact fun op ho => sub_ucRefs op (h op ho)
/-- allocate nothing, -/
theorem ops2_fresh : ∀ op ∈ ops2 (F := F), op.fresh = ∅ := List.forall_iff_forall_mem.mp (by simp only [ops2, List.Forall]; repeat' constructor)
/-- and write these buffers. -/
def writes2 : List (Ref sig .tc) := [main_v19, main_v20, main_c_1, main_v21, main_v22, main_c_2, main_v23, main_v24, main_v25, main_v26, main_c_3, main_v27, main_v28, main_v29, main_v30, main_v31, main_cst_4, main_v32, main_v33, main_v34, main_cst_5, main_v35, main_c_6, main_v36, main_v37, main_v38, main_v39, main_v40, main_v41, main_v42, main_v43, main_v44, main_v45, main_v46]
/-- Every other buffer keeps its contents. -/
theorem keep2 (W : Valuation τ sig (Elt F)) (r : Ref sig .tc) (h : ∀ x ∈ writes2, r ≠ x) :
    StableHlo.after ops2 W (Proc.devRef .tc r) = W (Proc.devRef .tc r) := by
  refine StableHlo.after_of_forall_not_mem (b := Proc.devRef .tc r) _ _ (List.forall_iff_forall_mem.mp ?_)
  simp only [ops2, List.Forall, StableHlo.nullary_writes, StableHlo.unary_writes, StableHlo.binary_writes, StableHlo.ternary_writes,
    StableHlo.reshape_writes, Finset.mem_singleton]
  repeat' apply And.intro
  all_goals exact StableHlo.devRef_ne_of_ne (h _ (by simp [writes2]))

/-- Between the second and the third TensorCore call: the keys masked by graph, the fifty largest of each, the rows they select, and the padded weights. -/
def ops3 : List (HloOp τ sig (Elt F)) :=
  [(StableHlo.reshape main_v47_2 main_v48 (rfl : (.f32 : EltTy) = .f32) shapeCasts_S10000x1_S10000),
   (StableHlo.unary main_arg2 main_v49 (broadcastInDim S1x10000 ![1] bcast_S10000_S1x10000_1 : (⟨S10000, .i32⟩ : BufTy).Contents (Elt F) → (⟨S1x10000, .i32⟩ : BufTy).Contents (Elt F))),
   (StableHlo.nullary main_v50 (iotaInDim S16 32 0)),
   (StableHlo.unary main_v50 main_v51 (broadcastInDim S16x1 ![0] bcast_S16_S16x1_0 : (⟨S16, .i32⟩ : BufTy).Contents (Elt F) → (⟨S16x1, .i32⟩ : BufTy).Contents (Elt F))),
   (StableHlo.unary main_v49 main_v52 (broadcastInDim S16x10000 ![0, 1] bcast_S1x10000_S16x10000_0_1 : (⟨S1x10000, .i32⟩ : BufTy).Contents (Elt F) → (⟨S16x10000, .i32⟩ : BufTy).Contents (Elt F))),
   (StableHlo.unary main_v51 main_v53 (broadcastInDim S16x10000 ![0, 1] bcast_S16x1_S16x10000_0_1 : (⟨S16x1, .i32⟩ : BufTy).Contents (Elt F) → (⟨S16x10000, .i32⟩ : BufTy).Contents (Elt F))),
   (StableHlo.binary main_v52 main_v53 main_v54 (cmpi .eq : (⟨S16x10000, .i32⟩ : BufTy).Contents (Elt F) → (⟨S16x10000, .i32⟩ : BufTy).Contents (Elt F) → (⟨S16x10000, .i1⟩ : BufTy).Contents (Elt F))),
   (StableHlo.unary main_v48 main_v55 (broadcastInDim S1x10000 ![1] bcast_S10000_S1x10000_1 : (⟨S10000, .f32⟩ : BufTy).Contents (Elt F) → (⟨S1x10000, .f32⟩ : BufTy).Contents (Elt F))),
   (StableHlo.nullary main_cst_7 (constant S_ .f32 0xFF800000#32)),
   (StableHlo.unary main_cst_7 main_call0_v0 (id : (⟨S_, .f32⟩ : BufTy).Contents (Elt F) → (⟨S_, .f32⟩ : BufTy).Contents (Elt F))),
   (StableHlo.unary main_v55 main_call0_v1 (broadcastInDim S16x10000 ![0, 1] bcast_S1x10000_S16x10000_0_1 : (⟨S1x10000, .f32⟩ : BufTy).Contents (Elt F) → (⟨S16x10000, .f32⟩ : BufTy).Contents (Elt F))),
   (StableHlo.unary main_call0_v0 main_call0_v2 (broadcastInDim S16x10000 ![] bcast_S_S16x10000 : (⟨S_, .f32⟩ : BufTy).Contents (Elt F) → (⟨S16x10000, .f32⟩ : BufTy).Contents (Elt F))),
   (StableHlo.ternary main_v54 main_call0_v1 main_call0_v2 main_v56 (select : (⟨S16x10000, .i1⟩ : BufTy).Contents (Elt F) → (⟨S16x10000, .f32⟩ : BufTy).Contents (Elt F) → (⟨S16x10000, .f32⟩ : BufTy).Contents (Elt F) → (⟨S16x10000, .f32⟩ : BufTy).Contents (Elt F))),
   (StableHlo.unary main_v56 main_values ((fun x => (Host.topK S16x50 1 (FloatOps.cmpfTotal .gt) x sliceFits_S16x10000_S16x50).1) : (⟨S16x10000, .f32⟩ : BufTy).Contents (Elt F) → (⟨S16x50, .f32⟩ : BufTy).Contents (Elt F))),
   (StableHlo.unary main_v56 main_indices ((fun x => (Host.topK S16x50 1 (FloatOps.cmpfTotal .gt) x sliceFits_S16x10000_S16x50).2) : (⟨S16x10000, .f32⟩ : BufTy).Contents (Elt F) → (⟨S16x50, .i32⟩ : BufTy).Contents (Elt F))),
   (StableHlo.unary main_indices main_v57 ((transpose S50x16 [1, 0] · transposes_S16x50_S50x16_1_0) : (⟨S16x50, .i32⟩ : BufTy).Contents (Elt F) → (⟨S50x16, .i32⟩ : BufTy).Contents (Elt F))),
   (StableHlo.reshape main_v57 main_v58 (rfl : (.i32 : EltTy) = .i32) shapeCasts_S50x16_S800),
   (StableHlo.nullary main_cst_8 (constant S_ .f32 0x00000000#32)),
   (StableHlo.unary main_cst_8 main_v59 (broadcastInDim S1024x128 ![] bcast_S_S1024x128 : (⟨S_, .f32⟩ : BufTy).Contents (Elt F) → (⟨S1024x128, .f32⟩ : BufTy).Contents (Elt F))),
   (StableHlo.nullary main_c_9 (constantI S_ 32 0#32)),
   (StableHlo.unary main_c_9 main_v60 (broadcastInDim S800 ![] bcast_S_S800 : (⟨S_, .i32⟩ : BufTy).Contents (Elt F) → (⟨S800, .i32⟩ : BufTy).Contents (Elt F))),
   (StableHlo.binary main_v58 main_v60 main_v61 (cmpi .slt : (⟨S800, .i32⟩ : BufTy).Contents (Elt F) → (⟨S800, .i32⟩ : BufTy).Contents (Elt F) → (⟨S800, .i1⟩ : BufTy).Contents (Elt F))),
   (StableHlo.nullary main_c_10 (constantI S_ 32 10000#32)),
   (StableHlo.unary main_c_10 main_v62 (broadcastInDim S800 ![] bcast_S_S800 : (⟨S_, .i32⟩ : BufTy).Contents (Elt F) → (⟨S800, .i32⟩ : BufTy).Contents (Elt F))),
   (StableHlo.binary main_v58 main_v62 main_v63 (addi : (⟨S800, .i32⟩ : BufTy).Contents (Elt F) → (⟨S800, .i32⟩ : BufTy).Contents (Elt F) → (⟨S800, .i32⟩ : BufTy).Contents (Elt F))),
   (StableHlo.ternary main_v61 main_v63 main_v58 main_v64 (select : (⟨S800, .i1⟩ : BufTy).Contents (Elt F) → (⟨S800, .i32⟩ : BufTy).Contents (Elt F) → (⟨S800, .i32⟩ : BufTy).Contents (Elt F) → (⟨S800, .i32⟩ : BufTy).Contents (Elt F))),
   (StableHlo.unary main_v64 main_v65 (broadcastInDim S800x1 ![0] bcast_S800_S800x1_0 : (⟨S800, .i32⟩ : BufTy).Contents (Elt F) → (⟨S800x1, .i32⟩ : BufTy).Contents (Elt F))),
   (StableHlo.binary main_v47_0 main_v65 main_v66 ((fun x i => Host.gather gather_S10000x128_S800x1_S800x128_1_0_n_n_0_1_1128 x i) : (⟨S10000x128, .f32⟩ : BufTy).Contents (Elt F) → (⟨S800x1, .i32⟩ : BufTy).Contents (Elt F) → (⟨S800x128, .f32⟩ : BufTy).Contents (Elt F))),
   (StableHlo.nullary main_c_11 (constantI S_ 32 0#32)),
   (StableHlo.unary main_c_11 main_v67 (broadcastInDim S1 ![] bcast_S_S1 : (⟨S_, .i32⟩ : BufTy).Contents (Elt F) → (⟨S1, .i32⟩ : BufTy).Contents (Elt F))),
   (StableHlo.ternary main_v59 main_v67 main_v66 main_v68 ((fun x i u => Host.scatter scatter_S1024x128_S1_S800x128_01_n_0_0 (fun _ b => b) x i u) : (⟨S1024x128, .f32⟩ : BufTy).Contents (Elt F) → (⟨S1, .i32⟩ : BufTy).Contents (Elt F) → (⟨S800x128, .f32⟩ : BufTy).Contents (Elt F) → (⟨S1024x128, .f32⟩ : BufTy).Contents (Elt F))),
   (StableHlo.nullary main_cst_12 (constant S_ .f32 0x00000000#32)),
   (StableHlo.unary main_cst_12 main_v69 (broadcastInDim S50x256x128 ![] bcast_S_S50x256x128 : (⟨S_, .f32⟩ : BufTy).Contents (Elt F) → (⟨S50x256x128, .f32⟩ : BufTy).Contents (Elt F))),
   (StableHlo.reshape main_arg11 main_v70 (rfl : (.f32 : EltTy) = .f32) shapeCasts_S9950x128_S50x199x128),
   (StableHlo.nullary main_c_13 (constantI S_ 32 0#32)),
   (StableHlo.unary main_c_13 main_v71 (broadcastInDim S1 ![] bcast_S_S1 : (⟨S_, .i32⟩ : BufTy).Contents (Elt F) → (⟨S1, .i32⟩ : BufTy).Contents (Elt F))),
   (StableHlo.ternary main_v69 main_v71 main_v70 main_v72 ((fun x i u => Host.scatter scatter_S50x256x128_S1_S50x199x128_012_n_1_0 (fun _ b => b) x i u) : (⟨S50x256x128, .f32⟩ : BufTy).Contents (Elt F) → (⟨S1, .i32⟩ : BufTy).Contents (Elt F) → (⟨S50x199x128, .f32⟩ : BufTy).Contents (Elt F) → (⟨S50x256x128, .f32⟩ : BufTy).Contents (Elt F))),
   (StableHlo.reshape main_v72 main_v73 (rfl : (.f32 : EltTy) = .f32) shapeCasts_S50x256x128_S12800x128),
   (StableHlo.nullary main_cst_14 (constant S_ .f32 0x00000000#32)),
   (StableHlo.unary main_cst_14 main_v74 (broadcastInDim S64x128 ![] bcast_S_S64x128 : (⟨S_, .f32⟩ : BufTy).Contents (Elt F) → (⟨S64x128, .f32⟩ : BufTy).Contents (Elt F))),
   (StableHlo.nullary main_c_15 (constantI S_ 32 0#32)),
   (StableHlo.unary main_c_15 main_v75 (broadcastInDim S1 ![] bcast_S_S1 : (⟨S_, .i32⟩ : BufTy).Contents (Elt F) → (⟨S1, .i32⟩ : BufTy).Contents (Elt F))),
   (StableHlo.ternary main_v74 main_v75 main_arg19 main_v76 ((fun x i u => Host.scatter scatter_S64x128_S1_S64x1_01_n_1_0 (fun _ b => b) x i u) : (⟨S64x128, .f32⟩ : BufTy).Contents (Elt F) → (⟨S1, .i32⟩ : BufTy).Contents (Elt F) → (⟨S64x1, .f32⟩ : BufTy).Contents (Elt F) → (⟨S64x128, .f32⟩ : BufTy).Contents (Elt F))),
   (StableHlo.reshape main_v47_3 main_v77 (rfl : (.f32 : EltTy) = .f32) shapeCasts_S1x16_S16x1),
   (StableHlo.reshape main_arg12 main_v78 (rfl : (.f32 : EltTy) = .f32) shapeCasts_S128_S1x128),
   (StableHlo.reshape main_arg13 main_v79 (rfl : (.f32 : EltTy) = .f32) shapeCasts_S128_S1x128),
   (StableHlo.reshape main_arg14 main_v80 (rfl : (.f32 : EltTy) = .f32) shapeCasts_S128_S1x128),
   (StableHlo.reshape main_arg16 main_v81 (rfl : (.f32 : EltTy) = .f32) shapeCasts_S64_S1x64),
   (StableHlo.reshape main_arg17 main_v82 (rfl : (.f32 : EltTy) = .f32) shapeCasts_S64_S1x64),
   (StableHlo.reshape main_arg18 main_v83 (rfl : (.f32 : EltTy) = .f32) shapeCasts_S64_S1x64)]
/-- They touch unscoped buffers only, -/
theorem ops3_sub : ∀ op ∈ ops3 (F := F), op.bufs ⊆ ucRefs := by
  have h : ∀ op ∈ ops3 (F := F), op.bufs ⊆ StableHlo.tcRefs τ sig := List.forall_iff_forall_mem.mp (by
    simp only [ops3, List.Forall]
    exact ⟨StableHlo.reshape_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.reshape_bufs_sub .., StableHlo.nullary_bufs_sub .., StableHlo.unary_bufs_sub .., StableHlo.ternary_bufs_sub .., StableHlo.reshape_bufs_sub .., StableHlo.nullary_bufs_sub .., StableHlo.unary_bufs_sub .., StableHlo.nullary_bufs_sub .., StableHlo.unary_bufs_sub .., StableHlo.ternary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩)
  exact fun op ho => sub_ucRefs op (h op ho)
/-- allocate nothing, -/
theorem ops3_fresh : ∀ op ∈ ops3 (F := F), op.fresh = ∅ := List.forall_iff_forall_mem.mp (by simp only [ops3, List.Forall]; repeat' constructor)
/-- and write these buffers. -/
def writes3 : List (Ref sig .tc) := [main_v48, main_v49, main_v50, main_v51, main_v52, main_v53, main_v54, main_v55, main_cst_7, main_call0_v0, main_call0_v1, main_call0_v2, main_v56, main_values, main_indices, main_v57, main_v58, main_cst_8, main_v59, main_c_9, main_v60, main_v61, main_c_10, main_v62, main_v63, main_v64, main_v65, main_v66, main_c_11, main_v67, main_v68, main_cst_12, main_v69, main_v70, main_c_13, main_v71, main_v72, main_v73, main_cst_14, main_v74, main_c_15, main_v75, main_v76, main_v77, main_v78, main_v79, main_v80, main_v81, main_v82, main_v83]
/-- Every other buffer keeps its contents. -/
theorem keep3 (W : Valuation τ sig (Elt F)) (r : Ref sig .tc) (h : ∀ x ∈ writes3, r ≠ x) :
    StableHlo.after ops3 W (Proc.devRef .tc r) = W (Proc.devRef .tc r) := by
  refine StableHlo.after_of_forall_not_mem (b := Proc.devRef .tc r) _ _ (List.forall_iff_forall_mem.mp ?_)
  simp only [ops3, List.Forall, StableHlo.nullary_writes, StableHlo.unary_writes, StableHlo.binary_writes, StableHlo.ternary_writes,
    StableHlo.reshape_writes, Finset.mem_singleton]
  repeat' apply And.intro
  all_goals exact StableHlo.devRef_ne_of_ne (h _ (by simp [writes3]))

/-- After the third TensorCore call: the column of results. -/
def ops4 : List (HloOp τ sig (Elt F)) :=
  [(StableHlo.unary main_v84 main_v85 ((extractStridedSlice S16x1 ![0, 0] · slices_S16x128_S16x1_0_0) : (⟨S16x128, .f32⟩ : BufTy).Contents (Elt F) → (⟨S16x1, .f32⟩ : BufTy).Contents (Elt F)))]
/-- They touch unscoped buffers only, -/
theorem ops4_sub : ∀ op ∈ ops4 (F := F), op.bufs ⊆ ucRefs := by
  have h : ∀ op ∈ ops4 (F := F), op.bufs ⊆ StableHlo.tcRefs τ sig := List.forall_iff_forall_mem.mp (by
    simp only [ops4, List.Forall]
    exact StableHlo.unary_bufs_sub ..)
  exact fun op ho => sub_ucRefs op (h op ho)
/-- allocate nothing, -/
theorem ops4_fresh : ∀ op ∈ ops4 (F := F), op.fresh = ∅ := List.forall_iff_forall_mem.mp (by simp only [ops4, List.Forall]; repeat' constructor)
/-- and write these buffers. -/
def writes4 : List (Ref sig .tc) := [main_v85]
/-- Every other buffer keeps its contents. -/
theorem keep4 (W : Valuation τ sig (Elt F)) (r : Ref sig .tc) (h : ∀ x ∈ writes4, r ≠ x) :
    StableHlo.after ops4 W (Proc.devRef .tc r) = W (Proc.devRef .tc r) := by
  refine StableHlo.after_of_forall_not_mem (b := Proc.devRef .tc r) _ _ (List.forall_iff_forall_mem.mp ?_)
  simp only [ops4, List.Forall, StableHlo.nullary_writes, StableHlo.unary_writes, StableHlo.binary_writes, StableHlo.ternary_writes,
    StableHlo.reshape_writes, Finset.mem_singleton]
  repeat' apply And.intro
  all_goals exact StableHlo.devRef_ne_of_ne (h _ (by simp [writes4]))

set_option maxHeartbeats 4000000 in
/-- The program is those operations around the four calls. -/
theorem main_eq (d : Dev nD) : main (F := F) d = (StableHlo.seq ops0 >>= fun _ => (K (F := F)).run d 0 >>= fun _ => StableHlo.seq ops1 >>= fun _ =>
    Prog.lift (.customCall (SparseCore.inner (Pipeline.entry 0)) ()) >>= fun _ => StableHlo.seq ops2 >>= fun _ =>
    Prog.lift (.customCall (SparseCore.inner (Pipeline.entry 1)) ()) >>= fun _ => StableHlo.seq ops3 >>= fun _ =>
    Prog.lift (.customCall (SparseCore.inner (Pipeline.entry 2)) ()) >>= fun _ => StableHlo.seq ops4 >>= fun _ => pure ⟨⟩) := rfl

end Cert.Proof.Hist

end
-- ==== Proof.Launch.lean ====
/-
  The program's launch: what the histogram call is handed and hands back, the host operations around it, the whole of the
  TensorCore's program, and the run with the contents it leaves.
-/
module

public import proofs.«01_k».proof.Proof.Ops

@[expose] public section

set_option maxRecDepth 16384

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit afterRegion arrRefs)

variable {F : FTy → Type}

local notation "𝕄" => MT nD τ sig (HIx 1) (Elt F) ℕ UU ℕ
local notation "xV" => (Memref.whole Cert.KernelIdeal.main_v3_scv : Memref Cert.KernelIdeal.sig Kind.scVector Space.hbm Cert.KernelIdeal.S640000 EltTy.i32)
local notation "oV" => (Memref.whole Cert.KernelIdeal.main_v4_scv : Memref Cert.KernelIdeal.sig Kind.scVector Space.hbm Cert.KernelIdeal.S32x10000 EltTy.f32)
local notation "sD" => (Memref.whole Cert.KernelIdeal.cc0_scratch0 : Memref Cert.KernelIdeal.sig Kind.scVector Space.vmem Cert.KernelIdeal.S20000 EltTy.i32)
local notation "sH" => (Memref.whole Cert.KernelIdeal.cc0_scratch1 : Memref Cert.KernelIdeal.sig Kind.scVector Space.vmem Cert.KernelIdeal.S10000 EltTy.f32)

/-! ## The buffers the TensorCore holds -/

/-- The launch's unscoped buffers at a valuation are that set held at it. -/
theorem unscoped_held (d : Dev nD) (W : Valuation τ sig (Elt F)) :
    (unscopedBufs d (fun b => W (Proc.devRef .tc b)) : sProp 𝕄) = StableHlo.held (T d) ucRefs W := by
  unfold unscopedBufs StableHlo.held ucRefs StableHlo.tcRefs
  rw [Finset.filter_map, bigSep_map]
  rfl

/-- An unscoped TensorCore reference is among the buffers held. -/
theorem mem_ucRefs (b : Ref sig .tc) (h : b.isScoped = false) : Proc.devRef .tc b ∈ ucRefs := by
  refine Finset.mem_filter.mpr ⟨Finset.mem_map.mpr ⟨b, Finset.mem_univ _, rfl⟩, ?_⟩
  intro h'
  have h2 : b.isScoped = true := h'
  rw [h] at h2; exact Bool.false_ne_true h2

variable [FloatOps F]

variable (m : (ℓ : Loc nD τ sig) → Buf (Elt F) ℓ) (ρ : Dev nD → PrngReg)

/-! ## The contents along the run -/

/-- At the launch. -/
def V0 (d : Dev nD) : Valuation τ sig (Elt F) := fun b => m (d, b)
/-- At the histogram call. -/
def V1 (d : Dev nD) : Valuation τ sig (Elt F) := StableHlo.after ops0 (V0 m d)
/-- The destination indices at the histogram call. -/
def gx (d : Dev nD) : Buf (Elt F) (xLoc d) := V1 m d (Proc.devRef .tc main_v3)
/-- What the histogram's buffer holds before the call. -/
def go0 (d : Dev nD) : Buf (Elt F) (oLoc d) := V1 m d (Proc.devRef .tc main_v4)
/-- After the histogram call. -/
def V2 (d : Dev nD) : Valuation τ sig (Elt F) := Function.update (V1 m d) (Proc.devRef .tc main_v4) (OUT (gx m d))
/-- At the first TensorCore call. -/
def V3 (d : Dev nD) : Valuation τ sig (Elt F) := StableHlo.after ops1 (V2 m d)
/-- The bound on the waits recorded before the TensorCore calls. -/
def lvl : ℕ := 8 * SparseCore.Cfg.Blocks.fst (Q := 1) (N := 1) 1
/-- After the first TensorCore call. -/
def V4 (d : Dev nD) : Valuation τ sig (Elt F) := afterRegion (A.dats lvl (V3 m) d) (V3 m d)
/-- At the second. -/
def V5 (d : Dev nD) : Valuation τ sig (Elt F) := StableHlo.after ops2 (V4 m d)
/-- After the second. -/
def V6 (d : Dev nD) : Valuation τ sig (Elt F) := afterRegion (B.dats lvl (V5 m) d) (V5 m d)
/-- At the third. -/
def V7 (d : Dev nD) : Valuation τ sig (Elt F) := StableHlo.after ops3 (V6 m d)
/-- After the third. -/
def V8 (d : Dev nD) : Valuation τ sig (Elt F) := afterRegion (C.dats lvl (V7 m) d) (V7 m d)
/-- At the end. -/
def V9 (d : Dev nD) : Valuation τ sig (Elt F) := StableHlo.after ops4 (V8 m d)

/-! ## What the handshakes carry -/

/-- The tile's number, from the launch's own counts. -/
abbrev wK (c : Fin ((K (F := F)).nCore 0)) (i : Fin ((K (F := F)).nSub 0)) : Fin 32 := wOf (Fin.cast nCore_zero c) (Fin.cast nSub_zero i)

/-- Each SparseCore is handed its sixteen tiles' words and rows, and each tile its own; they come back with the rows filled. -/
def P : (K (F := F)).Pay (nD := nD) (Val := Elt F) (Name := ℕ) (U := UU) where
  st := fun q d c => match q with
    | 0 => bigSep Finset.univ fun i : Fin ((K (F := F)).nSub 0) => iprop(xPart d (wK c i) (gx m d) ∗ oPart d (wK c i) (go0 m d))
  dn := fun q d c => match q with
    | 0 => bigSep Finset.univ fun i : Fin ((K (F := F)).nSub 0) => iprop(xPart d (wK c i) (gx m d) ∗ oPart d (wK c i) (OUT (gx m d)))
  go := fun q d c i => match q with
    | 0 => iprop(xPart d (wK c i) (gx m d) ∗ oPart d (wK c i) (go0 m d))
  td := fun q d c i => match q with
    | 0 => iprop(xPart d (wK c i) (gx m d) ∗ oPart d (wK c i) (OUT (gx m d)))
  x := fun _ _ => iprop(emp)

instance P_storable : (P (F := F) m).IsStorable where
  st q d c := match q with
    | 0 => (inferInstance : BI.Storable (upEmb : UEmb _ 𝕄) (bigSep Finset.univ fun i : Fin ((K (F := F)).nSub 0) => iprop(xPart d (wK c i) (gx m d) ∗ oPart d (wK c i) (go0 m d))))
  dn q d c := match q with
    | 0 => (inferInstance : BI.Storable (upEmb : UEmb _ 𝕄) (bigSep Finset.univ fun i : Fin ((K (F := F)).nSub 0) => iprop(xPart d (wK c i) (gx m d) ∗ oPart d (wK c i) (OUT (gx m d)))))
  go q d c i := match q with
    | 0 => (inferInstance : BI.Storable (upEmb : UEmb _ 𝕄) iprop(xPart d (wK c i) (gx m d) ∗ oPart d (wK c i) (go0 m d)))
  td q d c i := match q with
    | 0 => (inferInstance : BI.Storable (upEmb : UEmb _ 𝕄) iprop(xPart d (wK c i) (gx m d) ∗ oPart d (wK c i) (OUT (gx m d))))

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's task is the kernel at its coordinates. -/
theorem defs₀_vector (c : Fin τ.nSC) (s : Fin τ.nSub) :
    defs₀ (F := F) (.scVector c s) 0 ()
      = SparseCore.onTile hcore0 hsub0 (fun c s => cc0_k (coordsV c s)
          xV (Memref.isWhole_whole _) oV (Memref.isWhole_whole _) sD (Memref.isWhole_whole _) sH (Memref.isWhole_whole _)
          cc0_scoped0 cc0_scoped1) ⟨⟩ c s := rfl

section Run

variable (hin : ∀ d j, (gx m d j : BitVec 32).toNat < 10000)

include hin in
/-- Every tile's task: its words and its row, to its histogram. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (gx m d) (go0 m d) (hin d) hF O W hO

/-- A SparseCore's share is its tiles' shares. -/
theorem vecSplit : (K (F := F)).VecSplit' (P m) 0 := by
  intro d c
  show (bigSep Finset.univ fun i : Fin ((K (F := F)).nSub 0) => iprop(xPart d (wK c i) (gx m d) ∗ oPart d (wK c i) (go0 m d)))
    ⊢ |={Set.univ}=> iprop(
      (bigSep Finset.univ fun i : Fin ((K (F := F)).nSub 0) => iprop(xPart d (wK c i) (gx m d) ∗ oPart d (wK c i) (go0 m d)))
      ∗ ((bigSep Finset.univ fun i : Fin ((K (F := F)).nSub 0) => iprop(xPart d (wK c i) (gx m d) ∗ oPart d (wK c i) (OUT (gx m d))))
          -∗ bigSep Finset.univ fun i : Fin ((K (F := F)).nSub 0) => iprop(xPart d (wK c i) (gx m d) ∗ oPart d (wK c i) (OUT (gx m d)))))
  iintro H; imodintro
  isplitl [H]; · iexact H
  iintro H; iexact H

/-! ## The thirty-two parts, split and joined -/

omit [FloatOps F] in
theorem setX_eq (w : Fin 32) : setX w = (partX w).set := by
  show ((View.whole (main_v3_scv : Ref sig .scVector)).slice (partX w)).set = _
  rw [View.set_slice]; exact Finset.map_refl
omit [FloatOps F] in
theorem setX_disjoint : ∀ i ∈ (Finset.univ : Finset (Fin 32)), ∀ j ∈ (Finset.univ : Finset (Fin 32)), i ≠ j → Disjoint (setX i) (setX j) :=
  fun i _ j _ h => by rw [setX_eq, setX_eq]; exact Rect.part_disjoint hdivX h
omit [FloatOps F] in
theorem setX_cover : (Finset.univ : Finset (Fin 32)).biUnion setX = Finset.univ :=
  (Finset.biUnion_congr rfl fun i _ => setX_eq i).trans (Rect.biUnion_part hdivX)
omit [FloatOps F] in
theorem setO_eq (w : Fin 32) : setO w = (partO w).set := by
  show ((View.whole (main_v4_scv : Ref sig .scVector)).slice (partO w)).set = _
  rw [View.set_slice]; exact Finset.map_refl
omit [FloatOps F] in
theorem setO_disjoint : ∀ i ∈ (Finset.univ : Finset (Fin 32)), ∀ j ∈ (Finset.univ : Finset (Fin 32)), i ≠ j → Disjoint (setO i) (setO j) :=
  fun i _ j _ h => by rw [setO_eq, setO_eq]; exact Rect.part_disjoint hdivO h
omit [FloatOps F] in
theorem setO_cover : (Finset.univ : Finset (Fin 32)).biUnion setO = Finset.univ :=
  (Finset.biUnion_congr rfl fun i _ => setO_eq i).trans (Rect.biUnion_part hdivO)

omit [FloatOps F] in
/-- The destination indices whole are their thirty-two parts. -/
theorem x_parts (d : Dev nD) (f : Buf (Elt F) (xLoc d)) :
    (xLoc d ↦{fullShare} f : sProp 𝕄) = bigSep Finset.univ fun w : Fin 32 => xPart d w f := by
  unfold xPart
  rw [← pointsTo_biUnion Finset.univ (ℓ := xLoc d) setX setX_disjoint, setX_cover]; try rfl
omit [FloatOps F] in
/-- The histograms whole are their thirty-two rows. -/
theorem o_parts (d : Dev nD) (f : Buf (Elt F) (oLoc d)) :
    (oLoc d ↦{fullShare} f : sProp 𝕄) = bigSep Finset.univ fun w : Fin 32 => oPart d w f := by
  unfold oPart
  rw [← pointsTo_biUnion Finset.univ (ℓ := oLoc d) setO setO_disjoint, setO_cover]; try rfl

/-- The thirty-two tiles, by SparseCore and number. -/
def tiles : Fin ((K (F := F)).nCore 0) × Fin ((K (F := F)).nSub 0) ≃ Fin 32 where
  toFun p := wK p.1 p.2
  invFun w := (⟨w.val / 16, by have := w.isLt; show w.val / 16 < 2; omega⟩, ⟨w.val % 16, by show w.val % 16 < 16; omega⟩)
  left_inv p := by
    have h2 : p.2.val < 16 := p.2.isLt
    refine Prod.ext (Fin.ext ?_) (Fin.ext ?_)
    · show (16 * p.1.val + p.2.val) / 16 = p.1.val; omega
    · show (16 * p.1.val + p.2.val) % 16 = p.2.val; omega
  right_inv w := Fin.ext (by show 16 * (w.val / 16) + w.val % 16 = w.val; omega)

omit [FloatOps F] in
/-- A resource of every tile, gathered by SparseCore. -/
theorem by_core (Φ : Fin 32 → sProp 𝕄) :
    bigSep Finset.univ Φ = bigSep Finset.univ fun c : Fin ((K (F := F)).nCore 0) => bigSep Finset.univ fun i : Fin ((K (F := F)).nSub 0) => Φ (wK c i) := by
  rw [bigSep_univ_equiv (tiles (F := F)) Φ, bigSep_univ_prod]; rfl

/-- Both buffers whole are what the call takes, -/
theorem st_eq (d : Dev nD) : (iprop((xLoc d ↦{fullShare} gx m d) ∗ (oLoc d ↦{fullShare} go0 m d)) : sProp 𝕄)
    = bigSep Finset.univ fun c : Fin ((K (F := F)).nCore 0) => (P m).st 0 d c := by
  rw [x_parts, o_parts, ← bigSep_sep', by_core]; rfl
/-- and what it brings back is both buffers whole, the histograms filled. -/
theorem dn_eq (d : Dev nD) : (iprop((xLoc d ↦{fullShare} gx m d) ∗ (oLoc d ↦{fullShare} (OUT (gx m d) : Buf (Elt F) (oLoc d)))) : sProp 𝕄)
    = bigSep Finset.univ fun c : Fin ((K (F := F)).nCore 0) => (P m).dn 0 d c := by
  rw [x_parts, o_parts, ← bigSep_sep', by_core]; rfl

/-! ## The launch element -/

/-- The handshakes' rounds and the pipelines'. -/
def u₀ : UU := (initOf (K (F := F)).hsCells (K (F := F)).hsToks,
  (initOf (Pipeline.cells (Pipeline.pin (pcfgs (F := F)) adm) ((A.kit (F := F)).cellOf_inj adm))
    (Pipeline.launchToks (Pipeline.pin (pcfgs (F := F)) adm) ((A.kit (F := F)).cellOf_inj adm)), 1))

/-- What the TensorCore is dealt for one of its own calls: that pipeline's rounds. -/
def G1 (p : Fin 3) (d : Dev nD) : sProp 𝕄 :=
  iprop(cellsGhost (Pipeline.pin (pcfgs (F := F)) adm) EP p d ∗ toksInit (Pipeline.pin (pcfgs (F := F)) adm) EP p d)
/-- What it is dealt for all three. -/
def G (d : Dev nD) : sProp 𝕄 := bigSep Finset.univ fun p : Fin 3 => G1 p d

/-- The three calls' rounds one by one. -/
theorem G_split (d : Dev nD) : (G (F := F) d : sProp 𝕄) = iprop(G1 0 d ∗ G1 1 d ∗ G1 2 d) :=
  bigSep_univ_eq_bigSepL [(0 : Fin 3), (1 : Fin 3), (2 : Fin 3)] (by decide) (by decide) _

omit [FloatOps F] in
theorem emp_all {I : Type} (s : Finset I) : (bigSep s fun _ => iprop(emp)) = (iprop(emp) : sProp 𝕄) := bigSep_emp_const s

omit [FloatOps F] in
/-- The pipelines' rounds, owned through either spelling of the embedding. -/
theorem own_EP (x : UP) : (BI.own (((Emb.inl : Emb UP (UP × Counters)).trans (embR (nD := nD) (τ := τ) (sig := sig) (Ix := HIx 1) (Val := Elt F) (Name := ℕ) (Lvl := ℕ) (A := UH) (B := UP × Counters))) x) : sProp 𝕄)
    ⊢ BI.own (EP (F := F) x) := .rfl

/-- Each device's share of the pipelines' rounds. -/
theorem deal_G : iprop((bigSep Finset.univ fun c : Dev nD => bigSep Finset.univ fun p : Fin 3 => cellsGhost (Pipeline.pin (pcfgs (F := F)) adm) EP p c)
      ∗ (bigSep Finset.univ fun c : Dev nD => bigSep Finset.univ fun p : Fin 3 => toksInit (Pipeline.pin (pcfgs (F := F)) adm) EP p c))
    ⊢ (bigSep Finset.univ fun d : Dev nD => G (F := F) d) := by
  rw [← bigSep_sep' Finset.univ (fun c : Dev nD => bigSep Finset.univ fun p : Fin 3 => cellsGhost (Pipeline.pin (pcfgs (F := F)) adm) EP p c)
    (fun c : Dev nD => bigSep Finset.univ fun p : Fin 3 => toksInit (Pipeline.pin (pcfgs (F := F)) adm) EP p c),
    show (bigSep Finset.univ fun c : Dev nD => iprop((bigSep Finset.univ fun p : Fin 3 => cellsGhost (Pipeline.pin (pcfgs (F := F)) adm) EP p c)
        ∗ (bigSep Finset.univ fun p : Fin 3 => toksInit (Pipeline.pin (pcfgs (F := F)) adm) EP p c)) : sProp 𝕄)
      = bigSep Finset.univ fun d : Dev nD => G (F := F) d from bigSep_congr fun c _ => by
        unfold G G1
        rw [bigSep_sep' Finset.univ (fun p : Fin 3 => cellsGhost (Pipeline.pin (pcfgs (F := F)) adm) EP p c)]]

/-- The launch element deals the handshakes their rounds, and the TensorCore its pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (nD := nD) (τ := τ) (sig := sig) (Ix := HIx 1) (Val := Elt F) (Name := ℕ) (Lvl := ℕ) (initOf (K (F := F)).hsCells (K (F := F)).hsToks) _) $$ Hu
  icases H with ⟨HH, HR⟩
  ihave HR' := (own_pair_emb (embR (nD := nD) (τ := τ) (sig := sig) (Ix := HIx 1) (Val := Elt F) (Name := ℕ) (Lvl := ℕ) (A := UH) (B := UP × Counters)) _ (1 : Counters)) $$ HR
  icases HR' with ⟨HP, -⟩
  ihave HP := (own_EP (F := F) _) $$ HP
  imod (Pipeline.fund_ghost (Pipeline.pin (pcfgs (F := F)) adm) EP ((A.kit (F := F)).cellOf_inj adm)) $$ HP with ⟨Hg, Ht⟩
  imodintro
  isplitl [HH]; · iexact HH
  isplitl [Hg Ht]
  · iapply (deal_G (F := F))
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  rw [emp_all]
  iempintro

/-! ## The two buffers of the call, out of the ones held and back -/

/-- The call's buffers. -/
def callRefs : Finset (DevRef τ sig) := {Proc.devRef .tc main_v3, Proc.devRef .tc main_v4}

theorem callRefs_sub : callRefs ⊆ ucRefs := by
  intro b hb
  simp only [callRefs, Finset.mem_insert, Finset.mem_singleton] at hb
  rcases hb with rfl | rfl
  · exact mem_ucRefs _ rfl
  · exact mem_ucRefs _ rfl

theorem v3_ne_v4 : (Proc.devRef .tc main_v3 : DevRef τ sig) ≠ Proc.devRef .tc main_v4 := StableHlo.devRef_ne_of_ne (by decide)

omit [FloatOps F] in
theorem held_call (d : Dev nD) (W : Valuation τ sig (Elt F)) : (StableHlo.held (T d) callRefs W : sProp 𝕄)
    = iprop((xLoc d ↦{fullShare} (W (Proc.devRef .tc main_v3) : Buf (Elt F) (xLoc d))) ∗ (oLoc d ↦{fullShare} (W (Proc.devRef .tc main_v4) : Buf (Elt F) (oLoc d)))) := by
  unfold StableHlo.held callRefs
  rw [SparseCore.bigSep_insert' (by rw [Finset.mem_singleton]; exact v3_ne_v4), bigSep_singleton]

theorem V2_v3 (d : Dev nD) : V2 m d (Proc.devRef .tc main_v3) = gx m d := by
  unfold V2; rw [Function.update_of_ne v3_ne_v4, gx]
theorem V2_v4 (d : Dev nD) : V2 m d (Proc.devRef .tc main_v4) = OUT (gx m d) := by
  unfold V2; rw [Function.update_self]

theorem rest_same (d : Dev nD) : ∀ b ∈ ucRefs \ callRefs, V1 m d b = V2 m d b := by
  intro b hb
  unfold V2
  rw [Function.update_of_ne]
  rintro rfl
  exact (Finset.mem_sdiff.mp hb).2 (by simp [callRefs])

/-- Before the call, what is held is what the call takes and the rest; -/
theorem held_out (d : Dev nD) : (StableHlo.held (T d) ucRefs (V1 m d) : sProp 𝕄)
    = iprop((bigSep Finset.univ fun c : Fin ((K (F := F)).nCore 0) => (P m).st 0 d c) ∗ StableHlo.held (T d) (ucRefs \ callRefs) (V2 m d)) := by
  rw [StableHlo.held_sub_split (T d) callRefs_sub, held_call, ← st_eq, StableHlo.held_congr (T d) (rest_same m d)]
  try rfl
/-- after it, what it brings back and the rest are what is held. -/
theorem held_back (d : Dev nD) : (StableHlo.held (T d) ucRefs (V2 m d) : sProp 𝕄)
    = iprop((bigSep Finset.univ fun c : Fin ((K (F := F)).nCore 0) => (P m).dn 0 d c) ∗ StableHlo.held (T d) (ucRefs \ callRefs) (V2 m d)) := by
  rw [StableHlo.held_sub_split (T d) callRefs_sub, held_call, ← dn_eq, V2_v3, V2_v4]

/-! ## The TensorCore's program -/

/-- The arrays of call 0 are unscoped. -/
theorem A.arr_sub : arrRefs (pcfgs (F := F) 0).spec ⊆ ucRefs := by
  intro b hb
  obtain ⟨r, hr, rfl⟩ := Finset.mem_map.mp hb
  obtain ⟨w, -, rfl⟩ := Finset.mem_image.mp hr
  exact mem_ucRefs _ (A.arr_unscoped w)
/-- The arrays of call 1 are unscoped. -/
theorem B.arr_sub : arrRefs (pcfgs (F := F) 1).spec ⊆ ucRefs := by
  intro b hb
  obtain ⟨r, hr, rfl⟩ := Finset.mem_map.mp hb
  obtain ⟨w, -, rfl⟩ := Finset.mem_image.mp hr
  exact mem_ucRefs _ (B.arr_unscoped w)
/-- The arrays of call 2 are unscoped. -/
theorem C.arr_sub : arrRefs (pcfgs (F := F) 2).spec ⊆ ucRefs := by
  intro b hb
  obtain ⟨r, hr, rfl⟩ := Finset.mem_map.mp hb
  obtain ⟨w, -, rfl⟩ := Finset.mem_image.mp hr
  exact mem_ucRefs _ (C.arr_unscoped w)

/-- What is left at the end: every unscoped buffer at the run's contents. -/
abbrev FIN (d : Dev nD) : sProp 𝕄 := StableHlo.held (T d) ucRefs (V9 m d)

section Call

variable (b : ℕ) (W : Dev nD → Valuation τ sig (Elt F))

/-- The three calls' proof data over one family of contents. -/
def allDats : Dats (F := F) := fun p => match p with
  | 0 => A.dats b W
  | 1 => B.dats b W
  | 2 => C.dats b W

/-- Call 0 carries nothing but the scoped buffers. -/
theorem A.dats_inv (c : Dev nD) (t) : (A.dats b W c).Φ t = Pipeline.scopedRest (pcfgs (F := F) 0).spec c := by
  dsimp only [A.dats]
  exact congrArg (fun s => Pipeline.scopedRest s c) (rfl : spec1 = (pcfgs (F := F) 0).spec)
/-- Call 1 carries nothing but the scoped buffers. -/
theorem B.dats_inv (c : Dev nD) (t) : (B.dats b W c).Φ t = Pipeline.scopedRest (pcfgs (F := F) 1).spec c := by
  dsimp only [B.dats]
  exact congrArg (fun s => Pipeline.scopedRest s c) (rfl : spec2 = (pcfgs (F := F) 1).spec)
/-- Call 2 carries nothing but the scoped buffers. -/
theorem C.dats_inv (c : Dev nD) (t) : (C.dats b W c).Φ t = Pipeline.scopedRest (pcfgs (F := F) 2).spec c := by
  dsimp only [C.dats]
  exact congrArg (fun s => Pipeline.scopedRest s c) (rfl : spec3 = (pcfgs (F := F) 2).spec)
/-- TensorCore call 0, over any contents of the buffers held. -/
theorem A.wp_call (d : Dev nD) {α : Type}
    (k : PUnit → Prog (TpuEff nD τ sig (Elt F) (SparseCore.Sig (ΛP (F := F)) 1) .tc) α) (Q : α → sProp 𝕄) :
    iprop(boundary (SparseCore.T d) ∗ StableHlo.held (SparseCore.T d) ucRefs (W d) ∗ owesBelow b d
        ∗ levAts (K (F := F)).L (K (F := F)).lev ∗ G1 0 d
        ∗ (iprop(boundary (SparseCore.T d) ∗ StableHlo.held (SparseCore.T d) ucRefs (afterRegion (A.dats b W d) (W d)) ∗ owesBelow b d)
            -∗ wp frame (wpE ((K (F := F)).defs D) 𝒱 (SparseCore.T d) none) Set.univ (k ⟨⟩) Q))
      ⊢ wp frame (wpE ((K (F := F)).defs D) 𝒱 (SparseCore.T d) none) Set.univ
          (Prog.lift (.customCall (SparseCore.inner (Pipeline.entry 0)) ()) >>= k) Q := by
  refine (show _ ⊢ _ from ?_).trans (wp_region (allDats b W) 0 A.kit b (fun c => (A.body_obligation b W c).loose) (A.dats_owed b W) (A.dats_recorded b W)
    (A.share_full b W) (A.dats_inv b W) ucRefs W (A.A_eq b W) A.arr_sub d k Q)
  unfold G1
  iintro ⟨Hb, Hh, HO, HL, ⟨Hg, Ht⟩, Hk⟩
  isplitl [Hb]; · iexact Hb
  isplitl [Hh]; · iexact Hh
  isplitl [HO]; · iexact HO
  isplitl [HL]; · iexact HL
  isplitl [Hg]; · iexact Hg
  isplitl [Ht]; · iexact Ht
  iexact Hk
/-- TensorCore call 1, over any contents of the buffers held. -/
theorem B.wp_call (d : Dev nD) {α : Type}
    (k : PUnit → Prog (TpuEff nD τ sig (Elt F) (SparseCore.Sig (ΛP (F := F)) 1) .tc) α) (Q : α → sProp 𝕄) :
    iprop(boundary (SparseCore.T d) ∗ StableHlo.held (SparseCore.T d) ucRefs (W d) ∗ owesBelow b d
        ∗ levAts (K (F := F)).L (K (F := F)).lev ∗ G1 1 d
        ∗ (iprop(boundary (SparseCore.T d) ∗ StableHlo.held (SparseCore.T d) ucRefs (afterRegion (B.dats b W d) (W d)) ∗ owesBelow b d)
            -∗ wp frame (wpE ((K (F := F)).defs D) 𝒱 (SparseCore.T d) none) Set.univ (k ⟨⟩) Q))
      ⊢ wp frame (wpE ((K (F := F)).defs D) 𝒱 (SparseCore.T d) none) Set.univ
          (Prog.lift (.customCall (SparseCore.inner (Pipeline.entry 1)) ()) >>= k) Q := by
  refine (show _ ⊢ _ from ?_).trans (wp_region (allDats b W) 1 B.kit b (fun c => (B.body_obligation b W c).loose) (B.dats_owed b W) (B.dats_recorded b W)
    (B.share_full b W) (B.dats_inv b W) ucRefs W (B.A_eq b W) B.arr_sub d k Q)
  unfold G1
  iintro ⟨Hb, Hh, HO, HL, ⟨Hg, Ht⟩, Hk⟩
  isplitl [Hb]; · iexact Hb
  isplitl [Hh]; · iexact Hh
  isplitl [HO]; · iexact HO
  isplitl [HL]; · iexact HL
  isplitl [Hg]; · iexact Hg
  isplitl [Ht]; · iexact Ht
  iexact Hk
/-- TensorCore call 2, over any contents of the buffers held. -/
theorem C.wp_call (d : Dev nD) {α : Type}
    (k : PUnit → Prog (TpuEff nD τ sig (Elt F) (SparseCore.Sig (ΛP (F := F)) 1) .tc) α) (Q : α → sProp 𝕄) :
    iprop(boundary (SparseCore.T d) ∗ StableHlo.held (SparseCore.T d) ucRefs (W d) ∗ owesBelow b d
        ∗ levAts (K (F := F)).L (K (F := F)).lev ∗ G1 2 d
        ∗ (iprop(boundary (SparseCore.T d) ∗ StableHlo.held (SparseCore.T d) ucRefs (afterRegion (C.dats b W d) (W d)) ∗ owesBelow b d)
            -∗ wp frame (wpE ((K (F := F)).defs D) 𝒱 (SparseCore.T d) none) Set.univ (k ⟨⟩) Q))
      ⊢ wp frame (wpE ((K (F := F)).defs D) 𝒱 (SparseCore.T d) none) Set.univ
          (Prog.lift (.customCall (SparseCore.inner (Pipeline.entry 2)) ()) >>= k) Q := by
  refine (show _ ⊢ _ from ?_).trans (wp_region (allDats b W) 2 C.kit b (fun c => (C.body_obligation b W c).loose) (C.dats_owed b W) (C.dats_recorded b W)
    (C.share_full b W) (C.dats_inv b W) ucRefs W (C.A_eq b W) C.arr_sub d k Q)
  unfold G1
  iintro ⟨Hb, Hh, HO, HL, ⟨Hg, Ht⟩, Hk⟩
  isplitl [Hb]; · iexact Hb
  isplitl [Hh]; · iexact Hh
  isplitl [HO]; · iexact HO
  isplitl [HL]; · iexact HL
  isplitl [Hg]; · iexact Hg
  isplitl [Ht]; · iexact Ht
  iexact Hk

end Call

/-- The calls and the operations between them, over any contents, to the end of the program. -/
theorem wp_chain (d : Dev nD) (W3 : Dev nD → Valuation τ sig (Elt F)) (W5 : Dev nD → Valuation τ sig (Elt F)) (W7 : Dev nD → Valuation τ sig (Elt F))
    (o2 o3 o4 : List (HloOp τ sig (Elt F))) (h2 : ∀ op ∈ o2, op.bufs ⊆ ucRefs) (f2 : ∀ op ∈ o2, op.fresh = ∅)
    (h3 : ∀ op ∈ o3, op.bufs ⊆ ucRefs) (f3 : ∀ op ∈ o3, op.fresh = ∅) (h4 : ∀ op ∈ o4, op.bufs ⊆ ucRefs) (f4 : ∀ op ∈ o4, op.fresh = ∅)
    (A9 : Valuation τ sig (Elt F))
    (e5 : StableHlo.after o2 (afterRegion (A.dats lvl W3 d) (W3 d)) = W5 d) (e7 : StableHlo.after o3 (afterRegion (B.dats lvl W5 d) (W5 d)) = W7 d)
    (e9 : StableHlo.after o4 (afterRegion (C.dats lvl W7 d) (W7 d)) = A9) (Q : PUnit → sProp 𝕄) :
    iprop(boundary (SparseCore.T d) ∗ StableHlo.held (SparseCore.T d) ucRefs (W3 d) ∗ owesBelow lvl d
        ∗ □ levAts (K (F := F)).L (K (F := F)).lev ∗ G d
        ∗ (iprop(boundary (SparseCore.T d) ∗ StableHlo.held (SparseCore.T d) ucRefs A9 ∗ owesBelow lvl d) -∗ Q ⟨⟩))
      ⊢ wp frame (wpE ((K (F := F)).defs D) 𝒱 (SparseCore.T d) none) Set.univ
          (Prog.lift (.customCall (SparseCore.inner (Pipeline.entry 0)) ()) >>= fun _ => StableHlo.seq o2 >>= fun _ =>
            Prog.lift (.customCall (SparseCore.inner (Pipeline.entry 1)) ()) >>= fun _ => StableHlo.seq o3 >>= fun _ =>
            Prog.lift (.customCall (SparseCore.inner (Pipeline.entry 2)) ()) >>= fun _ => StableHlo.seq o4 >>= fun _ => pure ⟨⟩ :
            Prog (TpuEff nD τ sig (Elt F) (SparseCore.Sig (ΛP (F := F)) 1) .tc) PUnit) Q := by
  rw [G_split]
  iintro ⟨Hb, Hh, HO, #HL, ⟨G0, G1, G2⟩, Hk⟩
  iapply (A.wp_call lvl W3 d _ _)
  isplitl [Hb]; · iexact Hb
  isplitl [Hh]; · iexact Hh
  isplitl [HO]; · iexact HO
  isplitr; · iexact HL
  isplitl [G0]; · iexact G0
  iintro ⟨Hb, Hh, HO⟩
  iapply (StableHlo.wp_seq 𝒱 none Set.univ d ucRefs _ o2 h2 f2 (afterRegion (A.dats lvl W3 d) (W3 d))) $$ [Hb Hh]
  · isplitl [Hb]; · iexact Hb
    iexact Hh
  rw [e5]
  iintro ⟨Hb, Hh⟩
  iapply (B.wp_call lvl W5 d _ _)
  isplitl [Hb]; · iexact Hb
  isplitl [Hh]; · iexact Hh
  isplitl [HO]; · iexact HO
  isplitr; · iexact HL
  isplitl [G1]; · iexact G1
  iintro ⟨Hb, Hh, HO⟩
  iapply (StableHlo.wp_seq 𝒱 none Set.univ d ucRefs _ o3 h3 f3 (afterRegion (B.dats lvl W5 d) (W5 d))) $$ [Hb Hh]
  · isplitl [Hb]; · iexact Hb
    iexact Hh
  rw [e7]
  iintro ⟨Hb, Hh⟩
  iapply (C.wp_call lvl W7 d _ _)
  isplitl [Hb]; · iexact Hb
  isplitl [Hh]; · iexact Hh
  isplitl [HO]; · iexact HO
  isplitr; · iexact HL
  isplitl [G2]; · iexact G2
  iintro ⟨Hb, Hh, HO⟩
  iapply (StableHlo.wp_seq 𝒱 none Set.univ d ucRefs _ o4 h4 f4 (afterRegion (C.dats lvl W7 d) (W7 d))) $$ [Hb Hh]
  · isplitl [Hb]; · iexact Hb
    iexact Hh
  rw [e9]
  iintro ⟨Hb, Hh⟩
  rw [wp_pure]
  imodintro
  iapply Hk
  isplitl [Hb]; · iexact Hb
  isplitl [Hh]; · iexact Hh
  iexact HO

/-- The TensorCore's calls, to the end of the program. -/
theorem hregion (κ : GSem nD τ sig → ℕ) (d : Dev nD) :
    iprop((K (F := F)).ctx EH (P m) κ ∗ (K (F := F)).tcSt EH d 1 ∗ boundary (T d) ∗ StableHlo.held (T d) ucRefs (V3 m d) ∗ (K (F := F)).tcSems0 d ∗ G d)
      ⊢ wp frame (wpE ((K (F := F)).defs (D (F := F))) 𝒱 (SparseCore.T d) none) Set.univ
          (Prog.lift (.customCall (SparseCore.inner (Pipeline.entry 0)) ()) >>= fun _ => StableHlo.seq ops2 >>= fun _ =>
            Prog.lift (.customCall (SparseCore.inner (Pipeline.entry 1)) ()) >>= fun _ => StableHlo.seq ops3 >>= fun _ =>
            Prog.lift (.customCall (SparseCore.inner (Pipeline.entry 2)) ()) >>= fun _ => StableHlo.seq ops4 >>= fun _ => pure ⟨⟩ :
            Prog (TpuEff nD τ sig (Elt F) (SparseCore.Sig (ΛP (F := F)) 1) .tc) PUnit)
          fun _ => iprop((K (F := F)).tcSt EH d 1 ∗ FIN m d ∗ (K (F := F)).tcEnd d) := by
  unfold SparseCore.Cfg.tcEnd SparseCore.Cfg.tcSt FIN
  rw [(K (F := F)).Otc_end d (le_refl 1)]
  refine (show _ ⊢ _ from ?_).trans (wp_chain d (V3 m) (V5 m) (V7 m) ops2 ops3 ops4 ops2_sub ops2_fresh ops3_sub ops3_fresh ops4_sub ops4_fresh (V9 m d)
    (by rw [V5, V4]) (by rw [V7, V6]) (by rw [V9, V8]) _)
  iintro ⟨#Hctx, ⟨⟨%Wd, %hWd, HO⟩, Hrest⟩, Hb, Hh, Hts, HG⟩
  isplitl [Hb]; · iexact Hb
  isplitl [Hh]; · iexact Hh
  isplitl [HO]
  · iexists Wd; isplitr
    · ipureintro; exact hWd
    iexact HO
  isplitr
  · imodintro
    iapply (SparseCore.Cfg.ctx_levAts κ); iexact Hctx
  isplitl [HG]; · iexact HG
  iintro ⟨Hb, Hh, ⟨%Wd', %hWd', HO⟩⟩
  isplitl [HO Hrest]
  · isplitl [HO]
    · iexists Wd'; isplitr
      · ipureintro; exact hWd'
      iexact HO
    iexact Hrest
  isplitl [Hh]; · iexact Hh
  isplitl [Hb]; · iexact Hb
  iexact Hts

/-- Host operations, the histogram call, host operations and a rest, over any of them. -/
theorem wp_around (o0 o1 : List (HloOp τ sig (Elt F))) (h0 : ∀ op ∈ o0, op.bufs ⊆ ucRefs) (f0 : ∀ op ∈ o0, op.fresh = ∅)
    (h1 : ∀ op ∈ o1, op.bufs ⊆ ucRefs) (f1 : ∀ op ∈ o1, op.fresh = ∅) (κ : GSem nD τ sig → ℕ) (d : Dev nD)
    (A0 A1 A2 A3 : Valuation τ sig (Elt F)) (e1 : StableHlo.after o0 A0 = A1) (e3 : StableHlo.after o1 A2 = A3) (R X : sProp 𝕄)
    (hout : (StableHlo.held (T d) ucRefs A1 : sProp 𝕄) = iprop((bigSep Finset.univ fun c : Fin ((K (F := F)).nCore 0) => (P m).st 0 d c) ∗ R))
    (hback : (StableHlo.held (T d) ucRefs A2 : sProp 𝕄) = iprop((bigSep Finset.univ fun c : Fin ((K (F := F)).nCore 0) => (P m).dn 0 d c) ∗ R))
    {α : Type} (k : Prog (TpuEff nD τ sig (Elt F) (SparseCore.Sig (ΛP (F := F)) 1) .tc) α) (Q : α → sProp 𝕄)
    (hk : iprop((K (F := F)).ctx EH (P m) κ ∗ (K (F := F)).tcSt EH d 1 ∗ boundary (T d) ∗ StableHlo.held (T d) ucRefs A3 ∗ X)
      ⊢ wp frame (wpE ((K (F := F)).defs (D (F := F))) 𝒱 (SparseCore.T d) none) Set.univ k Q) :
    iprop((K (F := F)).ctx EH (P m) κ ∗ (K (F := F)).tcSt EH d 0 ∗ boundary (T d) ∗ StableHlo.held (T d) ucRefs A0 ∗ X)
      ⊢ wp frame (wpE ((K (F := F)).defs (D (F := F))) 𝒱 (SparseCore.T d) none) Set.univ
          (StableHlo.seq o0 >>= fun _ => (K (F := F)).run d 0 >>= fun _ => StableHlo.seq o1 >>= fun _ => k) Q := by
  iintro ⟨#Hctx, Hst, Hb, Hh, HX⟩
  iapply (StableHlo.wp_seq 𝒱 none Set.univ d ucRefs _ o0 h0 f0 A0) $$ [Hb Hh]
  · isplitl [Hb]; · iexact Hb
    iexact Hh
  rw [e1, hout]
  iintro ⟨Hb, ⟨Hin, Hrest⟩⟩
  rw [wp_bind]
  iapply ((K (F := F)).wp_run (D (F := F)) 𝒱 (EH := EH) (P := P m) κ d 0) $$ [Hst Hin Hrest Hb HX]
  isplitr; · iexact Hctx
  isplitl [Hst]; · iexact Hst
  isplitl [Hin]; · iexact Hin
  iintro ⟨Hst, Hdn⟩
  iapply (StableHlo.wp_seq 𝒱 none Set.univ d ucRefs _ o1 h1 f1 A2) $$ [Hb Hdn Hrest]
  · isplitl [Hb]; · iexact Hb
    rw [hback]
    isplitl [Hdn]; · iexact Hdn
    iexact Hrest
  rw [e3]
  iintro ⟨Hb, Hh⟩
  iapply hk
  isplitr; · iexact Hctx
  isplitl [Hst]; · iexact Hst
  isplitl [Hb]; · iexact Hb
  isplitl [Hh]; · iexact Hh
  iexact HX

/-- What the launch deals the TensorCore, its buffers as one set. -/
theorem tcRes_held (d : Dev nD) : (K (F := F)).tcRes m ρ d ⊢ (iprop(boundary (T d) ∗ StableHlo.held (T d) ucRefs (V0 m d) ∗ (K (F := F)).tcSems0 d) : sProp 𝕄) := by
  unfold SparseCore.Cfg.tcRes
  rw [← unscoped_held d (V0 m d)]
  iintro ⟨Hb, Hh, Hts, -⟩
  isplitl [Hb]; · iexact Hb
  isplitl [Hh]; · iexact Hh
  iexact Hts

/-- The TensorCore's program, from the launch to every buffer at the run's contents. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  have h := wp_around m ops0 ops1 ops0_sub ops0_fresh ops1_sub ops1_fresh κ d (V0 m d) (V1 m d) (V2 m d) (V3 m d) (by rw [V1]) (by rw [V3])
    (StableHlo.held (T d) (ucRefs \ callRefs) (V2 m d)) iprop((K (F := F)).tcSems0 d ∗ G d) (held_out m d) (held_back m d) _ _ (hregion m κ d)
  refine (show _ ⊢ _ from ?_).trans h
  iintro ⟨Hctx, Hst, Hres, HG⟩
  ihave Hres := (tcRes_held m ρ d) $$ Hres
  icases Hres with ⟨Hb, Hh, Hts⟩
  isplitl [Hctx]; · iexact Hctx
  isplitl [Hst]; · iexact Hst
  isplitl [Hb]; · iexact Hb
  isplitl [Hh]; · iexact Hh
  isplitl [Hts]; · iexact Hts
  iexact HG

/-- At the end, every unscoped buffer of the device reads the run's contents. -/
def fq (d : Dev nD) (s' : Phys nD τ sig (Elt F)) : Prop := ∀ b ∈ (ucRefs : Finset (DevRef τ sig)), s'.mem.mem (d, b) = V9 m d b

theorem hfin (d : Dev nD) (s' : Phys nD τ sig (Elt F)) : iprop(FIN m d ∗ SI s') ⊢ (⌜fq m d s'⌝ : sProp 𝕄) := by
  unfold fq FIN StableHlo.held
  iintro ⟨H, HSI⟩
  iapply (SI_pointsTo_bufs_agree (st := s') (c := d) (qs := fun _ => fullShare) (F := V9 m d) ucRefs)
  isplitl [HSI] <;> iassumption

/-- The run's postcondition. -/
def QC : PUnit × MemSt nD τ sig (Elt F) → Prop := fun r =>
  (∀ d : Dev nD, ∀ b ∈ (ucRefs : Finset (DevRef τ sig)), r.2.mem (d, b) = V9 m d b) ∧ r.2.sem = fun _ => 0

include hin in
/-- The program's run, at either instance: it ends with every unscoped buffer at the run's contents and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hin facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Run

end Cert.Proof.Hist

end
-- ==== Proof.Values.lean ====
/-
  What the run leaves in the arguments, the destination indices it counts, and the two frames.
-/
module

public import proofs.«01_k».proof.Proof.Launch
public import proofs.«01_k».proof.Proof.Gen.Kernel
public import proofs.«01_k».proof.Proof.Gen.Pre_in_range
public import Idealize.ShloMosaic.Lib.ReduceAll

@[expose] public section

set_option maxRecDepth 16384

noncomputable section

namespace Cert.Proof.Hist

open Cert.KernelIdeal Cert.KernelIdeal.Gen
open Idealize.ShloMosaic
open Idealize.ShloMosaic.SparseCore (T)
open Idealize.SL.Sem
open Idealize.ShloMosaic.Pipeline (afterRegion)

variable {F : FTy → Type} [FloatOps F]
variable (m : (ℓ : Loc nD τ sig) → Buf (Elt F) ℓ) (d : Dev nD)

/-- A buffer no host operation and no call writes is as launched at the first TensorCore call. -/
theorem V3_keep (r : Ref sig .tc) (h0 : ∀ x ∈ writes0, r ≠ x) (h4 : r ≠ main_v4) (h1 : ∀ x ∈ writes1, r ≠ x) :
    V3 m d (Proc.devRef .tc r) = m (d, Proc.devRef .tc r) := by
  unfold V3
  rw [keep1 _ r h1]
  unfold V2
  rw [Function.update_of_ne (StableHlo.devRef_ne_of_ne h4)]
  unfold V1
  rw [keep0 _ r h0, V0]

/-- And so it is at the second. -/
theorem V5_keep (r : Ref sig .tc) (h0 : ∀ x ∈ writes0, r ≠ x) (h4 : r ≠ main_v4) (h1 : ∀ x ∈ writes1, r ≠ x)
    (h9 : r ≠ main_v18_0) (h10 : r ≠ main_v18_1) (h2 : ∀ x ∈ writes2, r ≠ x) :
    V5 m d (Proc.devRef .tc r) = m (d, Proc.devRef .tc r) := by
  unfold V5
  rw [keep2 _ r h2]
  unfold V4
  rw [A.after_keeps _ _ _ r h9 h10, V3_keep m d r h0 h4 h1]

/-- And at the third. -/
theorem V7_keep (r : Ref sig .tc) (h0 : ∀ x ∈ writes0, r ≠ x) (h4 : r ≠ main_v4) (h1 : ∀ x ∈ writes1, r ≠ x)
    (h9 : r ≠ main_v18_0) (h10 : r ≠ main_v18_1) (h2 : ∀ x ∈ writes2, r ≠ x) (h13 : r ≠ main_v47_0) (h14 : r ≠ main_v47_1)
    (h15 : r ≠ main_v47_2) (h16 : r ≠ main_v47_3) (h3 : ∀ x ∈ writes3, r ≠ x) :
    V7 m d (Proc.devRef .tc r) = m (d, Proc.devRef .tc r) := by
  unfold V7
  rw [keep3 _ r h3]
  unfold V6
  rw [B.after_keeps _ _ _ r h13 h14 h15 h16, V5_keep m d r h0 h4 h1 h9 h10 h2]

/-- And at the end. -/
theorem V9_keep (r : Ref sig .tc) (h0 : ∀ x ∈ writes0, r ≠ x) (h4 : r ≠ main_v4) (h1 : ∀ x ∈ writes1, r ≠ x)
    (h9 : r ≠ main_v18_0) (h10 : r ≠ main_v18_1) (h2 : ∀ x ∈ writes2, r ≠ x) (h13 : r ≠ main_v47_0) (h14 : r ≠ main_v47_1)
    (h15 : r ≠ main_v47_2) (h16 : r ≠ main_v47_3) (h3 : ∀ x ∈ writes3, r ≠ x) (h12 : r ≠ main_v84) (h5 : ∀ x ∈ writes4, r ≠ x) :
    V9 m d (Proc.devRef .tc r) = m (d, Proc.devRef .tc r) := by
  unfold V9
  rw [keep4 _ r h5]
  unfold V8
  rw [C.after_keeps _ _ _ r h12, V7_keep m d r h0 h4 h1 h9 h10 h2 h13 h14 h15 h16 h3]

/-- Row `k` of the edge list, as a list of words. -/
def edgeRow (e : Vec F S2x640000 .i32) (k : Fin 2) : Vec F S640000 .i32 := match k with
  | 0 => shapeCast S640000 (extractStridedSlice S1x640000 ![0, 0] e slices_S2x640000_S1x640000_0_0) shapeCasts_S1x640000_S640000
  | 1 => shapeCast S640000 (extractStridedSlice S1x640000 ![1, 0] e slices_S2x640000_S1x640000_1_0) shapeCasts_S1x640000_S640000

/-- The histogram call counts the second row of the edge list. -/
theorem gx_eq : gx m d = edgeRow (m (d, Proc.devRef .tc main_arg1)) 1 := by
  unfold gx V1
  simp only [ops0]
  after_results_simp <;> rfl

/-- The first row of the edge list, at the histogram call. -/
theorem V1_v1 : V1 m d (Proc.devRef .tc main_v1) = edgeRow (m (d, Proc.devRef .tc main_arg1)) 0 := by
  unfold V1
  simp only [ops0]
  after_results_simp <;> rfl

/-- A conjunction over every word of an edge list that puts it in `[0, n)`, read at one word. -/
theorem word_lt {s : Shape} {n : ℕ} {e : IVec s 32} {j : s.Idx} (hn : n < 2 ^ 31)
    (k1 : IntOp.cmpi .sge (e j) 0#32 = 1#1) (k2 : IntOp.cmpi .slt (e j) (BitVec.ofNat 32 n) = 1#1) : (e j).toNat < n := by
  have ofBool_one : ∀ p : Bool, BitVec.ofBool p = 1#1 → p = true := by decide
  simp only [IntOp.cmpi] at k1 k2
  have l1 := ofBool_one _ k1
  have l2 := ofBool_one _ k2
  have hm : n % 4294967296 = n := Nat.mod_eq_of_lt (by omega)
  simp only [BitVec.sle_eq_decide, BitVec.slt_eq_decide, decide_eq_true_eq, BitVec.toInt_eq_toNat_cond, BitVec.toNat_ofNat, Nat.reducePow, Nat.reduceMod, hm] at l1 l2
  have := (e j).isLt
  omega

/-- The precondition puts every word of the large graph's edge list among its nodes, and every word of the small graph's among its. -/
theorem in_range_of_pre {x : FVec F S10000x128 .f32} {e : IVec S2x640000 32} {a2 a3} {e2 : IVec S2x3184 32} {a5 a6 a7 a8 a9 a10 a11 a12 a13 a14 a15 a16 a17 a18 a19 a20}
    (hp : Cert.Pre_in_range.fn (F := F) x e a2 a3 e2 a5 a6 a7 a8 a9 a10 a11 a12 a13 a14 a15 a16 a17 a18 a19 a20 = fun _ => 1#1) :
    (∀ j : S2x640000.Idx, (e j).toNat < 10000) ∧ ∀ j : S2x3184.Idx, (e2 j).toNat < 199 := by
  have andi_one : ∀ p q : BitVec 1, IntOp.andi p q = 1#1 → p = 1#1 ∧ q = 1#1 := by decide
  haveI : Subsingleton Cert.Pre_in_range.S_.Idx := ⟨fun p q => funext fun a => a.elim0⟩
  have all := congrFun hp (fun a => a.elim0)
  simp only [Cert.Pre_in_range.fn, andi] at all
  obtain ⟨all, h4⟩ := andi_one _ _ all
  obtain ⟨all, h3⟩ := andi_one _ _ all
  obtain ⟨h1, h2⟩ := andi_one _ _ all
  exact ⟨fun j => word_lt (n := 10000) (by decide) (Host.reduce_andi_all _ _ _ _ _ h1 j) (Host.reduce_andi_all _ _ _ _ _ h2 j),
    fun j => word_lt (n := 199) (by decide) (Host.reduce_andi_all _ _ _ _ _ h3 j) (Host.reduce_andi_all _ _ _ _ _ h4 j)⟩

/-- So every word of a row of it is. -/
theorem edgeRow_lt {e : Vec F S2x640000 .i32} (he : ∀ j, (e j : BitVec 32).toNat < 10000) (k : Fin 2) (j : S640000.Idx) :
    (edgeRow e k j : BitVec 32).toNat < 10000 := by
  match k with
  | 0 => exact he _
  | 1 => exact he _

/-- What a frame says of the arguments, from what the run leaves. -/
theorem args_of_QC {r : PUnit × MemSt nD τ sig (Elt F)} (h : QC m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  have k : ∀ b : Ref sig .tc, b.isScoped = false → r.2.mem (c, Proc.devRef .tc b) = V9 m c (Proc.devRef .tc b) :=
    fun b hb => h.1 c _ (mem_ucRefs b hb)
  refine ⟨?_, ?_, ?_, ?_, ?_, ?_, ?_, ?_, ?_, ?_, ?_, ?_, ?_, ?_, ?_, ?_, ?_, ?_, ?_, ?_, ?_⟩
  all_goals exact (k _ (by decide)).trans (V9_keep m c _ (by decide) (by decide) (by decide) (by decide) (by decide) (by decide) (by decide) (by decide) (by decide) (by decide) (by decide) (by decide) (by decide))

/-- Under the precondition the words the histogram counts are nodes. -/
theorem gx_lt (he : ∀ c : Dev nD, ∀ j, ((m (c, Proc.devRef .tc main_arg1) : Vec F S2x640000 .i32) j : BitVec 32).toNat < 10000)
    (c : Dev nD) (j) : (gx m c j : BitVec 32).toNat < 10000 := by
  rw [gx_eq]
  exact edgeRow_lt (he c) 1 j

/-- The run as a frame states it, at either instance. -/
theorem frame_run (ρ : Dev nD → PrngReg) [∀ e, Nonempty (Elt F e)]
    (he : ∀ c : Dev nD, ∀ j, ((m (c, Proc.devRef .tc main_arg1) : Vec F S2x640000 .i32) j : BitVec 32).toNat < 10000) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) ∧ r.2.sem = fun _ => 0) :=
  (θ_run Cert.KernelIdeal.defs _ _).mono (fun _ h => ⟨fun c => args_of_QC m h c, h.2⟩) (run_main m ρ (gx_lt m he))

/-- The idealized kernel's frame. -/
theorem frame_kernelIdeal : Cert.quiescent_KernelIdeal := fun m ρ hp =>
  frame_run (F := Ideal) m ρ fun c => (in_range_of_pre (hp c)).1

set_option maxHeartbeats 8000000 in
/-- The kernel and its idealization run the same tasks and bodies. -/
theorem defs₀_eq : Cert.Kernel.defs₀ (F := Bits) = Cert.KernelIdeal.defs₀ (F := Bits) := by
  funext p l a
  match p, l, a with
  | .scVector c s, 0, _ => rfl
  | .scVector c s, 1, _ => rfl
  | .scVector c s, 2, _ => rfl
  | .scVector c s, 3, _ => rfl
  | .tc, 3, (t, s) => rfl
  | .tc, 2, (t, s) => rfl
  | .tc, 1, (t, s) => rfl
  | .tc, 0, _ => rfl
  | .scScalar c, 0, _ => rfl
  | .scScalar c, 1, _ => rfl
  | .scScalar c, 2, _ => rfl
  | .scScalar c, 3, _ => rfl

set_option maxHeartbeats 8000000 in
/-- So their definitions are the same. -/
theorem defs_eq : Cert.Kernel.defs (F := Bits) = Cert.KernelIdeal.defs (F := Bits) :=
  congrArg (fun D => Cert.KernelIdeal.sc.defs (Pipeline.defs Cert.KernelIdeal.pcfgs D)) defs₀_eq

set_option maxHeartbeats 8000000 in
/-- The kernel's own frame, by the same run. -/
theorem frame_kernel : Cert.quiescent_Kernel := by
  intro m ρ hp
  rw [defs_eq]
  exact frame_run (F := Bits) m ρ fun c => (in_range_of_pre (hp c)).1

end Cert.Proof.Hist

end
-- ==== Proof.Count.lean ====
/-
  The histogram over the extended reals: a tile's row counts its words, the thirty-two rows together count all the
  destination indices, and the host's accumulating scatter of ones counts the same.
-/
module

public import proofs.«01_k».proof.Proof.Tile
public import Idealize.ShloMosaic.Lib.Routing.OpsPair
public import Idealize.ShloMosaic.Lib.Pointwise
public import proofs.«01_k».proof.Proof.Gen.ReferenceIdeal
public import Idealize.ShloMosaic.PureOps.Ideal.Laws

@[expose] public section

set_option maxRecDepth 16384

noncomputable section

namespace Cert.Proof.Hist

open Cert.KernelIdeal Cert.KernelIdeal.Gen
open Idealize.ShloMosaic

/-! ## One trip -/

/-- One when the word is the node, else zero. -/
def hit (b : BitVec 32) (n : ℕ) : EReal := if b.toNat = n then 1 else 0

/-- Lane `k` of a vector of sixteen. -/
abbrev ln (k : Fin 16) : S16.Idx := Shape.ofLane (d := ![16]) k

/-- Folding a step that adds an amount of its own at each element adds all the amounts. -/
theorem fold_add {I : Type} (step : (I → EReal) → Fin 16 → I → EReal) (amt : Fin 16 → I → EReal)
    (hs : ∀ g k j, step g k j = g j + amt k j) (j : I) (l : List (Fin 16)) : ∀ g : I → EReal,
    l.foldl step g j = g j + (l.map fun k => amt k j).sum := by
  induction l with
  | nil => intro g; simp
  | cons k l ih =>
    intro g
    rw [List.foldl_cons, ih, hs, List.map_cons, List.sum_cons, add_assoc]

/-- An accumulating store at the ideal instance adds, at each element, the stored values of the set lanes that name it. -/
theorem store_apply (v : IVec S16 32) (mask : IVec S16 1) (val : Vec Ideal S16 .f32) (h : ∀ a x, ((![v] : Fin 1 → IVec S16 32) a x).toNat < S10000.size a)
    (g : Vec Ideal S10000 .f32) (j : S10000.Idx) :
    (storeIdx (F := Ideal) (s := S10000) (e := .f32) (d := ![16]) g ![v] val mask true h j : EReal)
      = g j + ∑ k : Fin 16, if mask (ln k) = 1 ∧ (v (ln k)).toNat = (j 0).val then (val (ln k) : EReal) else 0 := by
  unfold storeIdx
  refine (fold_add (I := S10000.Idx) _ (fun k j => if mask (ln k) = 1 ∧ (v (ln k)).toNat = (j 0).val then (val (ln k) : EReal) else 0) ?_ j (List.finRange 16) g).trans ?_
  · intro g k j
    have hiff : (∀ a, (j a).val = ((idxAt (s := S10000) (![v] : Fin 1 → IVec S16 32) h (ln k)) a).val) ↔ (v (ln k)).toNat = (j 0).val := by
      constructor
      · intro q; exact (q 0).symm
      · intro q a
        obtain rfl : a = 0 := Subsingleton.elim _ _
        exact q.symm
    dsimp only
    by_cases hm : mask (ln k) = 1
    · rw [if_pos hm]
      by_cases he : (v (ln k)).toNat = (j 0).val
      · have hj : idxAt (s := S10000) (![v] : Fin 1 → IVec S16 32) h (ln k) = j := funext fun a => Fin.ext ((hiff.mpr he a).symm)
        have hr : (if mask (ln k) = 1 ∧ (v (ln k)).toNat = (j 0).val then (val (ln k) : EReal) else 0) = val (ln k) := if_pos ⟨hm, he⟩
        rw [if_pos (hiff.mpr he)]
        refine Eq.trans ?_ (congrArg (fun z : EReal => g j + z) hr).symm
        exact congrArg (fun i => (g i : EReal) + val (ln k)) hj
      · rw [if_neg (fun q => he (hiff.mp q)), if_neg (fun q => he q.2), add_zero]
    · rw [if_neg hm, if_neg (fun q => hm q.1), add_zero]
  · rw [Fin.sum_univ_def]

/-- The sixteen lanes of a vector are sixteen positions in row-major order. -/
theorem lane_pos (k : Fin 16) : (S16.rowMajor (ln k)).val = k.val := by
  rw [Shape.rowMajor_val_one]; rfl

/-- Lanes are the indices of a vector of sixteen. -/
theorem lane_eq (x : S16.Idx) : ∃ k : Fin 16, x = ln k :=
  ⟨x 0, by funext a; obtain rfl : a = 0 := Subsingleton.elim _ _; rfl⟩

/-- Different lanes are different indices. -/
theorem lane_inj (a b : Fin 16) (e : ln a = ln b) : a = b := congrFun e 0

/-- Lane `k` is marked as last exactly when no later lane holds its word. -/
theorem mask_iff (v : Vec Ideal S16 .i32) (k : Fin 16) :
    k0_pay3 v (ln k) = 1 ↔ ∀ l : Fin 16, k < l → ¬ v (ln l) = v (ln k) := by
  unfold k0_pay3 scanCount
  simp only [k0_pay2, broadcast]
  rw [lane_pos]
  constructor
  · intro h l hl hc
    rw [if_neg] at h
    · exact absurd h (by decide)
    · intro hall
      exact hall.2 (ln l) (by rw [lane_pos]; exact hl) ⟨rfl, hc⟩
  · intro h
    rw [if_pos]
    refine ⟨rfl, fun y hy hc => ?_⟩
    obtain ⟨l, rfl⟩ := lane_eq y
    rw [lane_pos] at hy
    exact h l hy hc.2

/-- The count at lane `k`: the lanes up to it that hold its word. -/
theorem count_eq (v : Vec Ideal S16 .i32) (k : Fin 16) :
    (k0_pay4 v (ln k) : EReal) = ∑ l : Fin 16, if l ≤ k ∧ v (ln l) = v (ln k) then (1 : EReal) else 0 := by
  have hc : (Finset.univ.filter fun y : S16.Idx => (S16.rowMajor y).val ≤ (S16.rowMajor (ln k)).val ∧ (1#1 : BitVec 1) = 1 ∧ v y = v (ln k)).card
      = (Finset.univ.filter fun l : Fin 16 => l ≤ k ∧ v (ln l) = v (ln k)).card := by
    symm
    refine Finset.card_bij (fun l _ => ln l) ?_ ?_ ?_
    · intro l hl
      simp only [Finset.mem_filter, Finset.mem_univ, true_and] at hl ⊢
      rw [lane_pos, lane_pos]; exact ⟨hl.1, rfl, hl.2⟩
    · intro a _ b _ e
      exact lane_inj a b e
    · intro y hy
      obtain ⟨l, rfl⟩ := lane_eq y
      simp only [Finset.mem_filter, Finset.mem_univ, true_and] at hy
      rw [lane_pos, lane_pos] at hy
      exact ⟨l, by simp only [Finset.mem_filter, Finset.mem_univ, true_and]; exact ⟨hy.1, hy.2.2⟩, rfl⟩
  have hle : (Finset.univ.filter fun l : Fin 16 => l ≤ k ∧ v (ln l) = v (ln k)).card ≤ 16 :=
    (Finset.card_le_univ _).trans (by simp)
  have e : (k0_pay4 v (ln k) : EReal) = (((((BitVec.ofNat 32 (Finset.univ.filter fun y : S16.Idx => (S16.rowMajor y).val ≤ (S16.rowMajor (ln k)).val ∧ (1#1 : BitVec 1) = 1 ∧ v y = v (ln k)).card) : BitVec 32).toInt : ℤ) : ℝ) : EReal) := rfl
  rw [e, hc, Finset.sum_boole]
  generalize (Finset.univ.filter fun l : Fin 16 => l ≤ k ∧ v (ln l) = v (ln k)).card = n at hle
  have : (BitVec.ofNat 32 n).toInt = (n : ℤ) := by
    rw [BitVec.toInt_eq_toNat_cond, BitVec.toNat_ofNat]; omega
  rw [this]
  simp

/-- Among the lanes marked as last, the one that holds word `n` carries the number of lanes that hold it. -/
theorem last_counts (v : Vec Ideal S16 .i32) (n : ℕ) :
    (∑ k : Fin 16, if k0_pay3 v (ln k) = 1 ∧ (v (ln k) : BitVec 32).toNat = n then (k0_pay4 v (ln k) : EReal) else 0)
      = ∑ l : Fin 16, hit (v (ln l)) n := by
  by_cases hne : ∃ l : Fin 16, (v (ln l) : BitVec 32).toNat = n
  · obtain ⟨k, hk, hmax⟩ : ∃ k : Fin 16, (v (ln k) : BitVec 32).toNat = n ∧ ∀ l : Fin 16, (v (ln l) : BitVec 32).toNat = n → l ≤ k := by
      let s := Finset.univ.filter fun l : Fin 16 => (v (ln l) : BitVec 32).toNat = n
      have hs : s.Nonempty := by obtain ⟨l, hl⟩ := hne; exact ⟨l, by simp [s, hl]⟩
      refine ⟨s.max' hs, ?_, fun l hl => s.le_max' l (by simp [s, hl])⟩
      have := s.max'_mem hs
      simpa [s] using this
    have same : ∀ l : Fin 16, v (ln l) = v (ln k) ↔ (v (ln l) : BitVec 32).toNat = n := by
      intro l
      constructor
      · intro q; rw [q, hk]
      · intro q; exact BitVec.eq_of_toNat_eq (q.trans hk.symm)
    rw [Finset.sum_eq_single k]
    · rw [if_pos ⟨(mask_iff v k).mpr fun l hl hc => absurd (hmax l ((same l).mp hc)) (not_le.mpr hl), hk⟩, count_eq]
      refine Finset.sum_congr rfl fun l _ => ?_
      unfold hit
      simp only [same l]
      by_cases hl : (v (ln l) : BitVec 32).toNat = n
      · rw [if_pos ⟨hmax l hl, hl⟩, if_pos hl]
      · rw [if_neg (fun q => hl q.2), if_neg hl]
    · intro l _ hlk
      rw [if_neg]
      rintro ⟨hm, hl⟩
      have hlt : l < k := lt_of_le_of_ne (hmax l hl) hlk
      exact (mask_iff v l).mp hm k hlt (((same l).mpr hl).symm)
    · intro hk'; exact absurd (Finset.mem_univ _) hk'
  · have h0 : ∀ l : Fin 16, ¬ (v (ln l) : BitVec 32).toNat = n := fun l hl => hne ⟨l, hl⟩
    rw [Finset.sum_eq_zero, Finset.sum_eq_zero]
    · intro l _; unfold hit; rw [if_neg (h0 l)]
    · intro l _; rw [if_neg (fun q => h0 l q.2)]

/-- One trip adds, at each node, the number of the vector's words that are that node. -/
theorem bump_apply (v : Vec Ideal S16 .i32) (hv : k0_chk1 v) (g : Vec Ideal S10000 .f32) (j : S10000.Idx) :
    (bump v g j : EReal) = g j + ∑ l : Fin 16, hit (v (ln l)) (j 0).val := by
  unfold bump
  rw [dif_pos hv, ← last_counts]
  exact store_apply v (k0_pay3 v) (k0_pay4 v) (k0_idx1_inb v hv) g j

/-! ## One tile -/

/-- The word at position `p` of a list of words, as a count at node `n`: zero past its end. -/
def hitAt {N : ℕ} (ws : (⟨1, ![N]⟩ : Shape).Idx → BitVec 32) (n p : ℕ) : EReal := if h : p < N then hit (ws (at1 ⟨p, h⟩)) n else 0

/-- A sum over blocks of one size is the sum over them laid end to end. -/
theorem sum_blocks (f : ℕ → EReal) (k : ℕ) : ∀ n : ℕ,
    (∑ i ∈ Finset.range n, ∑ x ∈ Finset.range k, f (k * i + x)) = ∑ p ∈ Finset.range (k * n), f p
  | 0 => by simp
  | n + 1 => by rw [Finset.sum_range_succ, sum_blocks f k n, Nat.mul_succ, Finset.sum_range_add]

/-- A tile's histogram after `n` trips counts its first `16 n` words. -/
theorem histN_apply (ws : Vec Ideal S20000 .i32) (hws : ∀ j, (ws j : BitVec 32).toNat < 10000) (j : S10000.Idx) : ∀ n : ℕ, n ≤ 1250 →
    (histN ws n j : EReal) = ∑ i ∈ Finset.range n, ∑ x ∈ Finset.range 16, hitAt (N := 20000) ws (j 0).val (16 * i + x)
  | 0, _ => by
    rw [Finset.range_zero, Finset.sum_empty]
    exact Ideal.ofBits_zero_f32
  | n + 1, hn => by
    have hv : k0_chk1 (vec ws n) := chk_vec ws hws n
    show (bump (vec ws n) (histN ws n) j : EReal) = _
    rw [bump_apply _ hv, histN_apply ws hws j n (by omega), Finset.sum_range_succ]
    congr 1
    rw [Finset.sum_range]
    refine Finset.sum_congr rfl fun l _ => ?_
    have hl := l.isLt
    have hp : 16 * n + l.val < 20000 := by omega
    unfold hitAt
    rw [dif_pos hp]
    congr 1
    show vec ws n (ln l) = _
    unfold vec
    exact dif_pos hp

/-! ## All tiles -/

/-- The thirty-two tiles' rows together count all the destination indices. -/
theorem rows_count (g : Vec Ideal S640000 .i32) (hg : ∀ j, (g j : BitVec 32).toNat < 10000) (n : Fin 10000) :
    (∑ w : Fin 32, (OUT g (ix2 w n) : EReal)) = ∑ p : Fin 640000, hit (g (at1 p)) n.val := by
  have row : ∀ w : Fin 32, (OUT g (ix2 w n) : EReal) = ∑ x ∈ Finset.range 20000, hitAt (N := 640000) g n.val (20000 * w.val + x) := by
    intro w
    show (histN (wordsOf g w) 1250 (at1 n) : EReal) = _
    rw [histN_apply (wordsOf g w) (fun j => hg _) (at1 n) 1250 le_rfl, sum_blocks, show 16 * 1250 = 20000 from by norm_num]
    refine Finset.sum_congr rfl fun p hp => ?_
    have hp : p < 20000 := Finset.mem_range.mp hp
    have hw := w.isLt
    unfold hitAt
    rw [dif_pos hp, dif_pos (by omega : 20000 * w.val + p < 640000)]
    rfl
  calc (∑ w : Fin 32, (OUT g (ix2 w n) : EReal))
      = ∑ w : Fin 32, ∑ x ∈ Finset.range 20000, hitAt (N := 640000) g n.val (20000 * w.val + x) := Finset.sum_congr rfl fun w _ => row w
    _ = ∑ w ∈ Finset.range 32, ∑ x ∈ Finset.range 20000, hitAt (N := 640000) g n.val (20000 * w + x) :=
        (Finset.sum_range fun w => ∑ x ∈ Finset.range 20000, hitAt (N := 640000) g n.val (20000 * w + x)).symm
    _ = ∑ p ∈ Finset.range 640000, hitAt (N := 640000) g n.val p := by rw [sum_blocks, show 20000 * 32 = 640000 from by norm_num]
    _ = ∑ p : Fin 640000, hitAt (N := 640000) g n.val p.val := Finset.sum_range fun p => hitAt (N := 640000) g n.val p
    _ = _ := Finset.sum_congr rfl fun p _ => by unfold hitAt; rw [dif_pos p.isLt]

/-- An update of the degree scatter lands at a node exactly when its index word, read signed, is that node. -/
theorem degree_lands (idx : IVec S640000x1 32) (p : Fin 640000) (n : Fin 10000) :
    Cert.ReferenceIdeal.scatter_S10000_S640000x1_S640000_n_0_0_1.resultIdx? (ix1 p) idx = some (ix1 n) ↔ (idx (ix2 p 0)).toInt = (n.val : Int) := by
  rw [Routing.resultIdx?_eq_some]
  have hwin : Cert.ReferenceIdeal.scatter_S10000_S640000x1_S640000_n_0_0_1.window (ix1 p) 0 = 0 := rfl
  have hsi : Cert.ReferenceIdeal.scatter_S10000_S640000x1_S640000_n_0_0_1.siIdx (ix1 p) ⟨0, by decide⟩ = ix2 p 0 := by
    funext b
    match b with
    | ⟨0, _⟩ => rfl
    | ⟨1, _⟩ => rfl
  have hstart : Cert.ReferenceIdeal.scatter_S10000_S640000x1_S640000_n_0_0_1.start (ix1 p) idx 0 = (idx (ix2 p 0)).toInt := by
    rw [← hsi]; rfl
  constructor
  · intro h
    have := h 0
    rw [hwin, hstart] at this
    simpa using this
  · intro h a
    obtain rfl : a = 0 := Subsingleton.elim _ _
    rw [hwin, hstart, h]
    simp [ix1]

/-- The host's accumulating scatter of ones, from zeros, counts the same. -/
theorem scatter_count (g : IVec S640000 32) (hg : ∀ j, (g j).toNat < 10000) (n : Fin 10000) :
    (Host.scatterAdd (F := Ideal) (φ := .f32) Cert.ReferenceIdeal.scatter_S10000_S640000x1_S640000_n_0_0_1
        (broadcastInDim S10000 ![] Cert.ReferenceIdeal.Gen.facts.bcast_S_S10000 (constant S_ .f32 0x00000000#32))
        (broadcastInDim S640000x1 ![0] Cert.ReferenceIdeal.Gen.facts.bcast_S640000_S640000x1_0 g)
        (broadcastInDim S640000 ![] Cert.ReferenceIdeal.Gen.facts.bcast_S_S640000 (constant S_ .f32 0x3F800000#32)) (ix1 n) : EReal)
      = ∑ p : Fin 640000, hit (g (at1 p)) n.val := by
  have ofZero : Ideal.ofBits .f32 0x00000000#32 = 0 := Ideal.ofBits_zero_f32
  have ofOne : Ideal.ofBits .f32 0x3F800000#32 = 1 := Ideal.ofBits_one_f32
  show Ideal.ofBits .f32 0x00000000#32 + ∑ j ∈ Finset.univ.filter (fun j => _ = some (ix1 n)), Ideal.ofBits .f32 0x3F800000#32 = _
  rw [ofZero, ofOne, zero_add, Finset.sum_filter, sum_idx1]
  refine Finset.sum_congr rfl fun p _ => ?_
  have hx : broadcastInDim S640000x1 ![0] Cert.ReferenceIdeal.Gen.facts.bcast_S640000_S640000x1_0 g (ix2 p 0) = g (at1 p) := by
    pointwise
    exact congrArg g (at1_eq (ix1 p)).symm
  have hp := hg (at1 p)
  have hint : (g (at1 p)).toInt = ((g (at1 p)).toNat : Int) := by
    rw [BitVec.toInt_eq_toNat_cond]; omega
  unfold hit
  by_cases hh : (g (at1 p)).toNat = n.val
  · rw [if_pos hh, if_pos]
    exact (degree_lands _ p n).mpr (by rw [hx, hint, hh])
  · rw [if_neg hh, if_neg]
    intro q
    have := (degree_lands _ p n).mp q
    rw [hx, hint] at this
    exact hh (by exact_mod_cast this)

/-- The TensorCore's clipped sum of transposed rows is the host's clip of any vector that holds the rows' sums. -/
theorem clip_rows (o : FVec Ideal S32x10000 .f32) (s : FVec Ideal S10000 .f32) (h : ∀ n : Fin 10000, (∑ w : Fin 32, (o (ix2 w n) : EReal)) = s (ix1 n)) :
    k1_pay1 (F := Ideal) (transpose S10000x32 [1, 0] o transposes_S32x10000_S10000x32_1_0)
      = broadcastInDim S10000x1 ![0] Cert.ReferenceIdeal.Gen.facts.bcast_S10000_S10000x1_0 (maximumf (F := Ideal) (φ := .f32) s
        (broadcastInDim S10000 ![] Cert.ReferenceIdeal.Gen.facts.bcast_S_S10000 (constant S_ .f32 0x3F800000#32))) := by
  funext j
  have hj := h (j 0)
  pointwise [k1_pay1]
  rw [hj]

/-- The count of a node's incoming edges, at least one: what the TensorCore's body takes from the transposed rows is the host's. -/
theorem degree_eq (g : IVec S640000 32) (hg : ∀ j, (g j).toNat < 10000) :
    k1_pay1 (F := Ideal) (transpose S10000x32 [1, 0] (OUT (F := Ideal) g) transposes_S32x10000_S10000x32_1_0)
      = broadcastInDim S10000x1 ![0] Cert.ReferenceIdeal.Gen.facts.bcast_S10000_S10000x1_0 (maximumf (F := Ideal) (φ := .f32)
        (Host.scatterAdd (F := Ideal) (φ := .f32) Cert.ReferenceIdeal.scatter_S10000_S640000x1_S640000_n_0_0_1
          (broadcastInDim S10000 ![] Cert.ReferenceIdeal.Gen.facts.bcast_S_S10000 (constant S_ .f32 0x00000000#32))
          (broadcastInDim S640000x1 ![0] Cert.ReferenceIdeal.Gen.facts.bcast_S640000_S640000x1_0 g)
          (broadcastInDim S640000 ![] Cert.ReferenceIdeal.Gen.facts.bcast_S_S640000 (constant S_ .f32 0x3F800000#32)))
        (broadcastInDim S10000 ![] Cert.ReferenceIdeal.Gen.facts.bcast_S_S10000 (constant S_ .f32 0x3F800000#32))) :=
  clip_rows (OUT (F := Ideal) g) _ fun n => (rows_count g hg n).trans (scatter_count g hg n).symm

end Cert.Proof.Hist

end
-- ==== Proof.Sums.lean ====
/-
  Sums over a graph's edges, over the extended reals: an accumulating scatter of rows read at one element, a gather of
  rows, and the two rearrangements of a mean message — projected before or after the sum, taken by a scatter or by a
  product with the adjacency counts.
-/
module

public import Idealize.ShloMosaic.Lib.Routing.OpsPair
public import Idealize.ShloMosaic.Lib.Routing.OpsSet
public import Idealize.ShloMosaic.Lib.Pointwise
public import Idealize.ShloMosaic.PureOps.Ideal.Laws

@[expose] public section

set_option maxRecDepth 16384

noncomputable section

namespace Cert.Proof.Hist

open Idealize.ShloMosaic

/-! ## Scatters and gathers over edges -/

variable {N E C : ℕ}

/-- An update of a scatter of rows lands at an element exactly when its index word, read signed, is the element's row, and the columns are the same. -/
theorem row_lands (wf) (idx : IVec ⟨2, ![E, 1]⟩ 32) (p : Fin E) (c' : Fin C) (n : Fin N) (c : Fin C) :
    (⟨[1], [0], [0], 1, wf⟩ : ScatterDims ⟨2, ![N, C]⟩ ⟨2, ![E, 1]⟩ ⟨2, ![E, C]⟩).resultIdx? (ix2 p c') idx = some (ix2 n c)
      ↔ (idx (ix2 p 0)).toInt = (n.val : Int) ∧ c' = c := by
  set d : ScatterDims ⟨2, ![N, C]⟩ ⟨2, ![E, 1]⟩ ⟨2, ![E, C]⟩ := ⟨[1], [0], [0], 1, wf⟩ with hd
  rw [Routing.resultIdx?_eq_some]
  have hw0 : d.window (ix2 p c') 0 = 0 := rfl
  have hw1 : d.window (ix2 p c') 1 = c'.val := rfl
  have hsi : d.siIdx (ix2 p c') ⟨0, Nat.one_pos⟩ = ix2 p 0 := by
    funext b
    match b with
    | ⟨0, _⟩ => rfl
    | ⟨1, _⟩ => rfl
  have hs0 : d.start (ix2 p c') idx 0 = (idx (ix2 p 0)).toInt := by rw [← hsi]; rfl
  have hs1 : d.start (ix2 p c') idx 1 = 0 := rfl
  constructor
  · intro h
    have h0 := h 0
    have h1 := h 1
    rw [hw0, hs0] at h0
    rw [hw1, hs1] at h1
    refine ⟨by simpa using h0, Fin.ext ?_⟩
    have : ((c'.val : ℕ) : Int) = ((ix2 n c 1).val : Int) := by simpa using h1
    exact_mod_cast this
  · rintro ⟨h, rfl⟩ a
    match a with
    | ⟨0, _⟩ =>
      show d.start (ix2 p c') idx 0 + (d.window (ix2 p c') 0 : Int) = _
      rw [hw0, hs0, h]; simp [ix2]
    | ⟨1, _⟩ =>
      show d.start (ix2 p c') idx 1 + (d.window (ix2 p c') 1 : Int) = _
      rw [hw1, hs1]; simp [ix2]

/-- An update of a scatter of scalars lands at a place exactly when its index word, read signed, is the place. -/
theorem one_lands (wf) (idx : IVec ⟨2, ![E, 1]⟩ 32) (p : Fin E) (n : Fin N) :
    (⟨[], [0], [0], 1, wf⟩ : ScatterDims ⟨1, ![N]⟩ ⟨2, ![E, 1]⟩ ⟨1, ![E]⟩).resultIdx? (ix1 p) idx = some (ix1 n)
      ↔ (idx (ix2 p 0)).toInt = (n.val : Int) := by
  set d : ScatterDims ⟨1, ![N]⟩ ⟨2, ![E, 1]⟩ ⟨1, ![E]⟩ := ⟨[], [0], [0], 1, wf⟩ with hd
  rw [Routing.resultIdx?_eq_some]
  have hwin : d.window (ix1 p) 0 = 0 := rfl
  have hsi : d.siIdx (ix1 p) ⟨0, Nat.one_pos⟩ = ix2 p 0 := by
    funext b
    match b with
    | ⟨0, _⟩ => rfl
    | ⟨1, _⟩ => rfl
  have hstart : d.start (ix1 p) idx 0 = (idx (ix2 p 0)).toInt := by rw [← hsi]; rfl
  constructor
  · intro h
    have := h 0
    rw [hwin, hstart] at this
    simpa using this
  · intro h a
    obtain rfl : a = 0 := Subsingleton.elim _ _
    rw [hwin, hstart, h]
    show (n.val : Int) + ((0 : ℕ) : Int) = (n.val : Int)
    simp

/-- A word below `N`, read signed, is a number below `N` exactly when it is that number's word. -/
theorem toInt_ofNat_iff (hN : N < 2 ^ 31) (a b : Fin N) : (BitVec.ofNat 32 a.val).toInt = (b.val : Int) ↔ a = b := by
  have h : (BitVec.ofNat 32 a.val).toInt = (a.val : Int) := by
    have ha := a.isLt
    rw [BitVec.toInt_eq_toNat_cond, BitVec.toNat_ofNat, Nat.mod_eq_of_lt (by omega)]
    rw [if_pos (by omega)]
  rw [h]
  exact ⟨fun q => Fin.ext (by exact_mod_cast q), fun q => by rw [q]⟩

/-- An accumulating scatter of rows from zeros, at one element: the sum of the rows' entries over the edges that go there. -/
theorem row_sum (wf) (z : FVec Ideal ⟨2, ![N, C]⟩ .f32) (hz : ∀ j, (z j : EReal) = 0) (idx : IVec ⟨2, ![E, 1]⟩ 32) (u : FVec Ideal ⟨2, ![E, C]⟩ .f32)
    (hN : N < 2 ^ 31) (D : Fin E → Fin N) (hD : ∀ p, idx (ix2 p 0) = BitVec.ofNat 32 (D p).val) (n : Fin N) (c : Fin C) :
    (Host.scatterAdd (F := Ideal) (φ := .f32) (⟨[1], [0], [0], 1, wf⟩ : ScatterDims ⟨2, ![N, C]⟩ ⟨2, ![E, 1]⟩ ⟨2, ![E, C]⟩) z idx u (ix2 n c) : EReal)
      = ∑ p : Fin E, if D p = n then (u (ix2 p c) : EReal) else 0 := by
  show (z (ix2 n c) : EReal) + ∑ j ∈ Finset.univ.filter (fun j => _ = some (ix2 n c)), (u j : EReal) = _
  rw [hz, zero_add, Finset.sum_filter, sum_idx2]
  refine Finset.sum_congr rfl fun p _ => ?_
  have hl : ∀ c' : Fin C, ((⟨[1], [0], [0], 1, wf⟩ : ScatterDims ⟨2, ![N, C]⟩ ⟨2, ![E, 1]⟩ ⟨2, ![E, C]⟩).resultIdx? (ix2 p c') idx = some (ix2 n c))
      ↔ (D p = n ∧ c' = c) := fun c' => by
    rw [row_lands, hD, toInt_ofNat_iff hN]
  by_cases hn : D p = n
  · rw [if_pos hn]
    refine (Finset.sum_eq_single c (fun c' _ hc => ?_) (fun h => absurd (Finset.mem_univ _) h)).trans ?_
    · exact if_neg fun q => hc ((hl c').1 q).2
    · exact if_pos ((hl c).2 ⟨hn, rfl⟩)
  · rw [if_neg hn]
    exact Finset.sum_eq_zero fun c' _ => if_neg fun q => hn ((hl c').1 q).1

/-- An accumulating scatter of ones from zeros, at one place: how many index words name it. -/
theorem one_sum (wf) (z : FVec Ideal ⟨1, ![N]⟩ .f32) (hz : ∀ j, (z j : EReal) = 0) (idx : IVec ⟨2, ![E, 1]⟩ 32) (u : FVec Ideal ⟨1, ![E]⟩ .f32)
    (hu : ∀ j, (u j : EReal) = 1) (n : Fin N) :
    (Host.scatterAdd (F := Ideal) (φ := .f32) (⟨[], [0], [0], 1, wf⟩ : ScatterDims ⟨1, ![N]⟩ ⟨2, ![E, 1]⟩ ⟨1, ![E]⟩) z idx u (ix1 n) : EReal)
      = ∑ p : Fin E, if (idx (ix2 p 0)).toInt = (n.val : Int) then (1 : EReal) else 0 := by
  show (z (ix1 n) : EReal) + ∑ j ∈ Finset.univ.filter (fun j => _ = some (ix1 n)), (u j : EReal) = _
  rw [hz, zero_add, Finset.sum_filter, sum_idx1]
  refine Finset.sum_congr rfl fun p _ => ?_
  rw [hu]
  exact if_congr (one_lands wf idx p n) rfl rfl

/-- A start index that is a row number below the row count, as the host wraps a negative one: itself. -/
theorem wrap_word (w k : BitVec 32) (h : w.toNat < 2 ^ 31) :
    Scalar.select (IntOp.cmpi .slt w 0#32) (IntOp.addi w k) w = w := by
  have hs : w.slt 0#32 = false := by
    rw [BitVec.slt_zero_eq_msb, BitVec.msb_eq_decide]
    exact decide_eq_false (by omega)
  simp [IntOp.cmpi, hs, Scalar.select]

/-- The part of a table's row that a two-word start index `(b, 0)` selects: the row's leading entries. -/
theorem gather_part {α : Type} {B : ℕ} (wf) (x : (⟨2, ![N, B]⟩ : Shape).Idx → α) (idx : IVec ⟨2, ![E, 2]⟩ 32) (hCB : C ≤ B)
    (p : Fin E) (c : Fin C) (b : Fin N) (hN : N < 2 ^ 31) (hb : idx (ix2 p 0) = BitVec.ofNat 32 b.val) (h0 : idx (ix2 p 1) = 0#32) :
    Host.gather (⟨[1], [0], [], [], [0, 1], 1, ![1, C], wf⟩ : GatherDims ⟨2, ![N, B]⟩ ⟨2, ![E, 2]⟩ ⟨2, ![E, C]⟩) x idx (ix2 p c)
      = x (ix2 b (Fin.castLE hCB c)) := by
  set d : GatherDims ⟨2, ![N, B]⟩ ⟨2, ![E, 2]⟩ ⟨2, ![E, C]⟩ := ⟨[1], [0], [], [], [0, 1], 1, ![1, C], wf⟩ with hd
  have hsi : ∀ k : Fin 2, d.siIdx (ix2 p c) k = ix2 p k := fun k => by
    funext a
    match k, a with
    | ⟨0, _⟩, ⟨0, _⟩ => rfl
    | ⟨0, _⟩, ⟨1, _⟩ => rfl
    | ⟨1, _⟩, ⟨0, _⟩ => rfl
    | ⟨1, _⟩, ⟨1, _⟩ => rfl
  have hbl := b.isLt
  have hs0 : d.start (ix2 p c) idx 0 = b.val := by
    have e : d.start (ix2 p c) idx 0 = min (idx (d.siIdx (ix2 p c) (0 : Fin 2))).toInt.toNat (N - 1) := rfl
    rw [e, hsi, hb, StableHlo.Predicate.toInt_ofNat_small _ (by omega)]
    omega
  have hs1 : d.start (ix2 p c) idx 1 = 0 := by
    have e : d.start (ix2 p c) idx 1 = min (idx (d.siIdx (ix2 p c) (1 : Fin 2))).toInt.toNat (B - C) := rfl
    rw [e, hsi, h0]
    exact Nat.zero_min _
  unfold Host.gather
  refine congrArg x (funext fun a => Fin.ext ?_)
  match a with
  | ⟨0, _⟩ =>
    show d.start (ix2 p c) idx 0 + 0 + 0 = b.val
    rw [hs0, Nat.add_zero]
  | ⟨1, _⟩ =>
    show d.start (ix2 p c) idx 1 + 0 + c.val = c.val
    rw [hs1]; omega

/-! ## Rearranging the sums -/

/-- A sum of nonnegative extended reals times a factor is the sum of the products. -/
theorem sum_mul_nonneg {ι : Type} (s : Finset ι) (f : ι → EReal) (hf : ∀ i, 0 ≤ f i) (a : EReal) : (∑ i ∈ s, f i) * a = ∑ i ∈ s, f i * a := by
  classical
  induction s using Finset.induction_on with
  | empty => simp
  | insert i s hi ih =>
    rw [Finset.sum_insert hi, Finset.sum_insert hi, EReal.right_distrib_of_nonneg (hf i) (Finset.sum_nonneg fun k _ => hf k), ih]

/-- A sum times a nonnegative real is the sum of the products. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert i s hi ih =>
    rw [Finset.sum_insert hi, Finset.sum_insert hi,
      EReal.right_distrib_of_nonneg_of_ne_top (by exact_mod_cast hr) (EReal.coe_ne_top r), ih]

/-- A count, at least one, is a positive real. -/
theorem count_pos {ι : Type} (s : Finset ι) (P : ι → Prop) [DecidablePred P] :
    ∃ r : ℝ, 0 < r ∧ max (∑ i ∈ s, if P i then (1 : EReal) else 0) 1 = (r : EReal) := by
  refine ⟨max (∑ i ∈ s, if P i then (1 : ℝ) else 0) 1, lt_of_lt_of_le one_pos (le_max_right _ _), ?_⟩
  have h : (∑ i ∈ s, if P i then (1 : EReal) else 0) = ((∑ i ∈ s, if P i then (1 : ℝ) else 0 : ℝ) : EReal) := by
    classical
    induction s using Finset.induction_on with
    | empty => simp
    | insert i s hi ih =>
      rw [Finset.sum_insert hi, Finset.sum_insert hi, EReal.coe_add, ih]
      congr 1
      split <;> simp
  rw [h, ← EReal.coe_one]
  exact (EReal.coe_strictMono.monotone.map_max).symm

/-- The mean of nonnegative messages, then projected, is the mean of the projected messages. -/
theorem mean_project {ι κ : Type} [Fintype ι] [Fintype κ] (P : ι → Prop) [DecidablePred P] (f : ι → κ → EReal) (hf : ∀ i k, 0 ≤ f i k)
    (w : κ → EReal) (r : ℝ) (hr : 0 < r) :
    Ideal.div (∑ i, if P i then ∑ k, f i k * w k else 0) (r : EReal) = ∑ k, Ideal.div (∑ i, if P i then f i k else 0) (r : EReal) * w k := by
  have hi : (0 : ℝ) ≤ 1 / r := by positivity
  rw [Ideal.div_coe hr.ne', sum_mul_real _ _ _ hi]
  have hk : ∀ k, Ideal.div (∑ i, if P i then f i k else 0) (r : EReal) * w k = ∑ i, (if P i then f i k else 0) * ((1 / r : ℝ) : EReal) * w k := fun k => by
    rw [Ideal.div_coe hr.ne', sum_mul_real _ _ _ hi]
    refine sum_mul_nonneg _ _ (fun i => ?_) _
    refine mul_nonneg ?_ (by exact_mod_cast hi)
    split
    · exact hf i k
    · exact le_refl _
  rw [Finset.sum_congr rfl fun k _ => hk k, Finset.sum_comm]
  refine Finset.sum_congr rfl fun i _ => ?_
  split
  · rw [sum_mul_real _ _ _ hi]
    refine Finset.sum_congr rfl fun k _ => ?_
    rw [mul_assoc, mul_assoc, mul_comm (w k)]
  · simp

/-- A product with the adjacency counts sums over the edges: for each edge into `d`, the source's entry. -/
theorem adj_mul {ι : Type} [Fintype ι] {M : ℕ} (D S : ι → Fin M) (d : Fin M) (x : Fin M → EReal) :
    (∑ s, (∑ e, (if D e = d then (1 : EReal) else 0) * (if S e = s then 1 else 0)) * x s) = ∑ e, if D e = d then x (S e) else 0 := by
  have h : ∀ s, (∑ e, (if D e = d then (1 : EReal) else 0) * (if S e = s then 1 else 0)) * x s
      = ∑ e, (if D e = d then (1 : EReal) else 0) * (if S e = s then 1 else 0) * x s := fun s =>
    sum_mul_nonneg _ _ (fun e => mul_nonneg (by split <;> simp) (by split <;> simp)) _
  rw [Finset.sum_congr rfl fun s _ => h s, Finset.sum_comm]
  refine Finset.sum_congr rfl fun e _ => ?_
  rw [Finset.sum_eq_single (S e) (fun s _ hs => ?_) (fun q => absurd (Finset.mem_univ _) q)]
  · split <;> simp
  · rw [if_neg (Ne.symm hs)]; simp

end Cert.Proof.Hist

end
-- ==== Proof.Layers.lean ====
/-
  The two layers on the large graph, over the extended reals: what each TensorCore body computes from its operands is the
  reference's expression of them.
-/
module

public import proofs.«01_k».proof.Proof.Count
public import proofs.«01_k».proof.Proof.Sums
public import proofs.«01_k».proof.Proof.RegionB

@[expose] public section

set_option maxRecDepth 16384

noncomputable section

namespace Cert.Proof.Hist

open Cert.KernelIdeal Cert.KernelIdeal.Gen
open Idealize.ShloMosaic

/-- The hidden layer as the reference writes it: the mean message times one matrix, the bias, the node's own row times another, clipped at zero. -/
def hiddenRef (x agg : FVec Ideal S10000x128 .f32) (cnt : FVec Ideal S10000x1 .f32) (wl : FVec Ideal S128x128 .f32) (b : FVec Ideal S128 .f32)
    (wr : FVec Ideal S128x128 .f32) : FVec Ideal S10000x128 .f32 :=
  maximumf (addf (addf (Host.dotGeneral Cert.ReferenceIdeal.dot_S10000x128_S128x128_S10000x128_1_0_0_1_n_n none
      (Host.divf agg (broadcastInDim S10000x128 ![0, 1] Cert.ReferenceIdeal.Gen.facts.bcast_S10000x1_S10000x128_0_1 cnt)) wl)
      (broadcastInDim S10000x128 ![0, 1] Cert.ReferenceIdeal.Gen.facts.bcast_S1x128_S10000x128_0_1
        (broadcastInDim S1x128 ![1] Cert.ReferenceIdeal.Gen.facts.bcast_S128_S1x128_1 b)))
      (Host.dotGeneral Cert.ReferenceIdeal.dot_S10000x128_S128x128_S10000x128_1_0_0_1_n_n none x wr))
    (broadcastInDim S10000x128 ![] Cert.ReferenceIdeal.Gen.facts.bcast_S_S10000x128 (constant S_ .f32 0x00000000#32))

/-- The first layer's two projections of the hidden rows, side by side. -/
def layerRef (x agg : FVec Ideal S10000x128 .f32) (cnt : FVec Ideal S10000x1 .f32) (wl : FVec Ideal S128x128 .f32) (b : FVec Ideal S128 .f32)
    (wr : FVec Ideal S128x128 .f32) (wl2 : FVec Ideal S128x64 .f32) (b2 : FVec Ideal S64 .f32) (wr2 : FVec Ideal S128x64 .f32) : FVec Ideal S10000x128 .f32 :=
  concatenate S10000x128 1 [⟨S10000x64, (Host.dotGeneral Cert.ReferenceIdeal.dot_S10000x128_S128x64_S10000x64_1_0_0_1_n_n none (hiddenRef x agg cnt wl b wr) wl2 : FVec Ideal S10000x64 .f32)⟩,
    ⟨S10000x64, addf (Host.dotGeneral Cert.ReferenceIdeal.dot_S10000x128_S128x64_S10000x64_1_0_0_1_n_n none (hiddenRef x agg cnt wl b wr) wr2)
      (broadcastInDim S10000x64 ![0, 1] Cert.ReferenceIdeal.Gen.facts.bcast_S1x64_S10000x64_0_1
        (broadcastInDim S1x64 ![1] Cert.ReferenceIdeal.Gen.facts.bcast_S64_S1x64_1 b2))⟩] concatenates_S10000x64_S10000x64_S10000x128_d1

/-- The TensorCore's body computes it, from the rows whose clipped sum is the degree. -/
theorem layer_eq (x agg : FVec Ideal S10000x128 .f32) (o : FVec Ideal S10000x32 .f32) (wl : FVec Ideal S128x128 .f32) (b : FVec Ideal S128 .f32)
    (wr : FVec Ideal S128x128 .f32) (wl2 : FVec Ideal S128x64 .f32) (b2 : FVec Ideal S64 .f32) (wr2 : FVec Ideal S128x64 .f32) :
    k1_pay2 (F := Ideal) o agg wl (shapeCast S1x128 b shapeCasts_S128_S1x128) x wr wl2 wr2 (shapeCast S1x64 b2 shapeCasts_S64_S1x64)
      = layerRef x agg (k1_pay1 o) wl b wr wl2 b2 wr2 := by
  unfold k1_pay2
  generalize k1_pay1 (F := Ideal) o = cnt
  funext j
  pointwise! [layerRef, hiddenRef]

/-- The messages summed over each node's incoming edges, from the edge list's two rows. -/
def aggRef (x : FVec Ideal S10000x128 .f32) (src dst : IVec S640000 32) : FVec Ideal S10000x128 .f32 :=
  Host.scatterAdd scatter_S10000x128_S640000x1_S640000x128_1_0_0_1 (broadcastInDim S10000x128 ![] bcast_S_S10000x128 (constant S_ .f32 0x00000000#32))
    (broadcastInDim S640000x1 ![0] bcast_S640000_S640000x1_0 dst)
    (Host.gather gather_S10000x128_S640000x1_S640000x128_1_0_n_n_0_1_1128 x
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 10000#32))) src)))

/-- A node's degree, at least one, as the reference counts it. -/
def degRef (dst : IVec S640000 32) : FVec Ideal S10000x1 .f32 :=
  broadcastInDim S10000x1 ![0] Cert.ReferenceIdeal.Gen.facts.bcast_S10000_S10000x1_0 (maximumf (F := Ideal) (φ := .f32)
    (Host.scatterAdd (F := Ideal) (φ := .f32) Cert.ReferenceIdeal.scatter_S10000_S640000x1_S640000_n_0_0_1
      (broadcastInDim S10000 ![] Cert.ReferenceIdeal.Gen.facts.bcast_S_S10000 (constant S_ .f32 0x00000000#32))
      (broadcastInDim S640000x1 ![0] Cert.ReferenceIdeal.Gen.facts.bcast_S640000_S640000x1_0 dst)
      (broadcastInDim S640000 ![] Cert.ReferenceIdeal.Gen.facts.bcast_S_S640000 (constant S_ .f32 0x3F800000#32)))
    (broadcastInDim S10000 ![] Cert.ReferenceIdeal.Gen.facts.bcast_S_S10000 (constant S_ .f32 0x3F800000#32)))

/-- The reference's second layer on the large graph, over its operands. -/
def outRef (h agg : FVec Ideal S10000x128 .f32) (cnt : FVec Ideal S10000x1 .f32) (wl : FVec Ideal S128x64 .f32) (b : FVec Ideal S64 .f32)
    (wr : FVec Ideal S128x64 .f32) : FVec Ideal S10000x64 .f32 :=
  maximumf (addf (addf (Host.dotGeneral Cert.ReferenceIdeal.dot_S10000x128_S128x64_S10000x64_1_0_0_1_n_n none
      (Host.divf agg (broadcastInDim S10000x128 ![0, 1] Cert.ReferenceIdeal.Gen.facts.bcast_S10000x1_S10000x128_0_1 cnt)) wl)
      (broadcastInDim S10000x64 ![0, 1] Cert.ReferenceIdeal.Gen.facts.bcast_S1x64_S10000x64_0_1
        (broadcastInDim S1x64 ![1] Cert.ReferenceIdeal.Gen.facts.bcast_S64_S1x64_1 b)))
      (Host.dotGeneral Cert.ReferenceIdeal.dot_S10000x128_S128x64_S10000x64_1_0_0_1_n_n none h wr))
    (broadcastInDim S10000x64 ![] Cert.ReferenceIdeal.Gen.facts.bcast_S_S10000x64 (constant S_ .f32 0x00000000#32))

/-- The projected messages summed over each node's incoming edges, from the first layer's array and the edge list's two rows. -/
def msumOf (pb : FVec Ideal S10000x128 .f32) (src dst : IVec S640000 32) : FVec Ideal S10000x64 .f32 :=
  Host.scatterAdd scatter_S10000x64_S640000x1_S640000x64_1_0_0_1 (broadcastInDim S10000x64 ![] bcast_S_S10000x64 (constant S_ .f32 0x00000000#32))
    (broadcastInDim S640000x1 ![0] bcast_S640000_S640000x1_0 dst)
    (Host.gather gather_S10000x128_S640000x2_S640000x64_1_0_n_n_01_1_164 pb
      (concatenate S640000x2 1 [⟨S640000x1, broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 10000#32))) src)⟩,
        ⟨S640000x1, broadcastInDim S640000x1 ![] bcast_S_S640000x1 (constantI S_ 32 0#32)⟩] concatenates_S640000x1_S640000x1_S640000x2_d1))

/-- The node an edge's word names. -/
def node {E N : ℕ} (w : IVec ⟨1, ![E]⟩ 32) (h : ∀ j, (w j).toNat < N) (p : Fin E) : Fin N := ⟨(w (ix1 p)).toNat, h _⟩

/-- Its word is that node's. -/
theorem node_word {E N : ℕ} (w : IVec ⟨1, ![E]⟩ 32) (h : ∀ j, (w j).toNat < N) (p : Fin E) : w (ix1 p) = BitVec.ofNat 32 (node w h p).val :=
  BitVec.eq_of_toNat_eq (by rw [BitVec.toNat_ofNat]; exact (Nat.mod_eq_of_lt (w (ix1 p)).isLt).symm)

/-- The column of the large graph's index words. -/
theorem col_word (w : IVec S640000 32) (p : Fin 640000) : broadcastInDim S640000x1 ![0] bcast_S640000_S640000x1_0 w (ix2 p 0) = w (ix1 p) := by
  pointwise

/-- The large graph's source words, as the host wraps negative ones. -/
def wrapped (src : IVec S640000 32) : IVec S640000 32 :=
  select (cmpi .slt src (broadcastInDim S640000 ![] bcast_S_S640000 (constantI S_ 32 0#32)))
    (addi src (broadcastInDim S640000 ![] bcast_S_S640000 (constantI S_ 32 10000#32))) src

/-- A word in range is left as it is. -/
theorem wrapped_eq (src : IVec S640000 32) (h : ∀ j, (src j).toNat < 10000) : wrapped src = src := by
  funext j
  exact wrap_word (src j) 10000#32 (lt_trans (h j) (by norm_num))

variable (src dst : IVec S640000 32) (hs : ∀ j, (src j).toNat < 10000) (hd : ∀ j, (dst j).toNat < 10000)

/-- The summed messages, at one element. -/
theorem agg_at (x : FVec Ideal S10000x128 .f32) (n : Fin 10000) (k : Fin 128) :
    (aggRef x src dst (ix2 n k) : EReal) = ∑ p, if node dst hd p = n then (x (ix2 (node src hs p) k) : EReal) else 0 := by
  unfold aggRef
  refine (row_sum _ _ (fun _ => Ideal.ofBits_zero_f32) _ _ (by norm_num) (node dst hd) (fun p => (col_word dst p).trans (node_word dst hd p)) n k).trans ?_
  refine Finset.sum_congr rfl fun p _ => if_congr Iff.rfl ?_ rfl
  refine Routing.gather_row _ rfl rfl rfl rfl rfl x _ p k (node src hs p) ?_ (by norm_num)
  refine (col_word (wrapped src) p).trans ?_
  rw [wrapped_eq src hs]
  exact node_word src hs p

/-- The summed projected messages, at one element. -/
theorem msum_at (pb : FVec Ideal S10000x128 .f32) (n : Fin 10000) (c : Fin 64) :
    (msumOf pb src dst (ix2 n c) : EReal) = ∑ p, if node dst hd p = n then (pb (ix2 (node src hs p) (Fin.castLE (by norm_num) c)) : EReal) else 0 := by
  unfold msumOf
  refine (row_sum _ _ (fun _ => Ideal.ofBits_zero_f32) _ _ (by norm_num) (node dst hd) (fun p => (col_word dst p).trans (node_word dst hd p)) n c).trans ?_
  refine Finset.sum_congr rfl fun p _ => if_congr Iff.rfl ?_ rfl
  refine gather_part _ pb _ (by norm_num) p c (node src hs p) (by norm_num) ?_ ?_
  · refine Eq.trans ?_ ((col_word (wrapped src) p).trans ?_)
    · pointwise [wrapped]
    · rw [wrapped_eq src hs]
      exact node_word src hs p
  · pointwise

/-- The degree, at one node. -/
theorem deg_at (n : Fin 10000) : (degRef dst (ix2 n 0) : EReal) = max (∑ p, if node dst hd p = n then (1 : EReal) else 0) 1 := by
  have hc := scatter_count dst hd n
  unfold degRef
  generalize Host.scatterAdd (F := Ideal) (φ := .f32) Cert.ReferenceIdeal.scatter_S10000_S640000x1_S640000_n_0_0_1 _ _ _ = s at hc ⊢
  have e : (∑ p, if node dst hd p = n then (1 : EReal) else 0) = s (ix1 n) := by
    refine Eq.trans (Finset.sum_congr rfl fun p _ => ?_) hc.symm
    rw [show at1 p = ix1 p from at1_eq (ix1 p)]
    exact if_congr Fin.ext_iff rfl rfl
  rw [e]
  pointwise

/-- The second layer at one element. -/
theorem outRef_at (h agg : FVec Ideal S10000x128 .f32) (cnt : FVec Ideal S10000x1 .f32) (wl : FVec Ideal S128x64 .f32) (b : FVec Ideal S64 .f32)
    (wr : FVec Ideal S128x64 .f32) (n : Fin 10000) (c : Fin 64) :
    (outRef h agg cnt wl b wr (ix2 n c) : EReal) = max ((∑ k : Fin 128, Ideal.div (agg (ix2 n k)) (cnt (ix2 n 0)) * wl (ix2 k c)) + b (ix1 c)
      + ∑ k : Fin 128, (h (ix2 n k) : EReal) * wr (ix2 k c)) 0 := by
  pointwise [outRef]

/-- The first layer's array, left half, at one element. -/
theorem layer_left (x agg : FVec Ideal S10000x128 .f32) (cnt : FVec Ideal S10000x1 .f32) (wl : FVec Ideal S128x128 .f32) (b : FVec Ideal S128 .f32)
    (wr : FVec Ideal S128x128 .f32) (wl2 : FVec Ideal S128x64 .f32) (b2 : FVec Ideal S64 .f32) (wr2 : FVec Ideal S128x64 .f32) (n : Fin 10000) (c : Fin 64) :
    (layerRef x agg cnt wl b wr wl2 b2 wr2 (ix2 n (Fin.castLE (by norm_num) c)) : EReal)
      = ∑ k : Fin 128, (hiddenRef x agg cnt wl b wr (ix2 n k) : EReal) * wl2 (ix2 k c) := by
  unfold layerRef
  generalize hiddenRef x agg cnt wl b wr = h
  have hc : (Fin.castLE (by norm_num : 64 ≤ 128) c).val < 64 := c.isLt
  pointwise
  rw [dif_pos hc]
  rfl

/-- The right half. -/
theorem layer_right (x agg : FVec Ideal S10000x128 .f32) (cnt : FVec Ideal S10000x1 .f32) (wl : FVec Ideal S128x128 .f32) (b : FVec Ideal S128 .f32)
    (wr : FVec Ideal S128x128 .f32) (wl2 : FVec Ideal S128x64 .f32) (b2 : FVec Ideal S64 .f32) (wr2 : FVec Ideal S128x64 .f32) (n : Fin 10000) (c : Fin 64) :
    (B.rightOf (F := Ideal) (layerRef x agg cnt wl b wr wl2 b2 wr2) (ix2 n c) : EReal)
      = (∑ k : Fin 128, (hiddenRef x agg cnt wl b wr (ix2 n k) : EReal) * wr2 (ix2 k c)) + b2 (ix1 c) := by
  unfold layerRef B.rightOf
  generalize hiddenRef x agg cnt wl b wr = h
  pointwise

/-- The hidden rows are nonnegative. -/
theorem hidden_nonneg (x agg : FVec Ideal S10000x128 .f32) (cnt : FVec Ideal S10000x1 .f32) (wl : FVec Ideal S128x128 .f32) (b : FVec Ideal S128 .f32)
    (wr : FVec Ideal S128x128 .f32) (j : S10000x128.Idx) : (0 : EReal) ≤ hiddenRef x agg cnt wl b wr j := by
  refine le_trans (le_of_eq ?_) (le_max_right _ _)
  exact Ideal.ofBits_zero_f32.symm

include hs hd in
/-- The second TensorCore body's first result, before padding, is the reference's second layer. -/
theorem out_eq (x agg : FVec Ideal S10000x128 .f32) (wl : FVec Ideal S128x128 .f32) (b : FVec Ideal S128 .f32)
    (wr : FVec Ideal S128x128 .f32) (wl2 : FVec Ideal S128x64 .f32) (b2 : FVec Ideal S64 .f32) (wr2 : FVec Ideal S128x64 .f32) :
    k2_pay3 (F := Ideal) (msumOf (layerRef x agg (degRef dst) wl b wr wl2 b2 wr2) src dst) (degRef dst)
        (B.rightOf (F := Ideal) (layerRef x agg (degRef dst) wl b wr wl2 b2 wr2))
      = outRef (hiddenRef x agg (degRef dst) wl b wr) (aggRef (hiddenRef x agg (degRef dst) wl b wr) src dst) (degRef dst) wl2 b2 wr2 := by
  funext j
  obtain ⟨n, c, rfl⟩ : ∃ (n : Fin 10000) (c : Fin 64), j = ix2 n c := ⟨j 0, j 1, by funext a; match a with | ⟨0, _⟩ => rfl | ⟨1, _⟩ => rfl⟩
  have hm := msum_at src dst hs hd (layerRef x agg (degRef dst) wl b wr wl2 b2 wr2) n c
  have hr := layer_right x agg (degRef dst) wl b wr wl2 b2 wr2 n c
  have hl := fun p => layer_left x agg (degRef dst) wl b wr wl2 b2 wr2 p c
  have ha := fun k => agg_at src dst hs hd (hiddenRef x agg (degRef dst) wl b wr) n k
  have hdg := deg_at dst hd n
  have hh := hidden_nonneg x agg (degRef dst) wl b wr
  rw [Finset.sum_congr rfl fun p _ => if_congr Iff.rfl (hl _) rfl] at hm
  refine Eq.trans ?_ (outRef_at _ _ _ wl2 b2 wr2 n c).symm
  generalize B.rightOf (F := Ideal) (layerRef x agg (degRef dst) wl b wr wl2 b2 wr2) = R at hr ⊢
  generalize msumOf (layerRef x agg (degRef dst) wl b wr wl2 b2 wr2) src dst = M at hm ⊢
  generalize hiddenRef x agg (degRef dst) wl b wr = h at *
  generalize aggRef h src dst = A at *
  generalize degRef dst = cn at *
  obtain ⟨r, hr0, hre⟩ := count_pos Finset.univ fun p => node dst hd p = n
  rw [hre] at hdg
  simp only [ha, hdg]
  rw [← mean_project (fun p => node dst hd p = n) (fun p k => (h (ix2 (node src hs p) k) : EReal)) (fun p k => hh _) (fun k => (wl2 (ix2 k c) : EReal)) r hr0,
    ← hm, ← hdg, add_assoc, add_comm (b2 (ix1 c) : EReal), ← hr]
  pointwise [k2_pay3]

end Cert.Proof.Hist

end
-- ==== Proof.Small.lean ====
/-
  The two layers on the small graph, over the extended reals: products with a matrix of adjacency counts on 256 rows
  against sums over the edges on 199.
-/
module

public import proofs.«01_k».proof.Proof.Layers

@[expose] public section

set_option maxRecDepth 16384

noncomputable section

namespace Cert.Proof.Hist

open Cert.KernelIdeal Cert.KernelIdeal.Gen
open Idealize.ShloMosaic

/-! ## The reference's expressions -/

/-- The small graph's messages summed over each node's incoming edges. -/
def agg2Ref (x : FVec Ideal Cert.ReferenceIdeal.S199x128 .f32) (src dst : IVec S3184 32) : FVec Ideal Cert.ReferenceIdeal.S199x128 .f32 :=
  Host.scatterAdd Cert.ReferenceIdeal.scatter_S199x128_S3184x1_S3184x128_1_0_0_1
    (broadcastInDim Cert.ReferenceIdeal.S199x128 ![] Cert.ReferenceIdeal.Gen.facts.bcast_S_S199x128 (constant S_ .f32 0x00000000#32))
    (broadcastInDim S3184x1 ![0] Cert.ReferenceIdeal.Gen.facts.bcast_S3184_S3184x1_0 dst)
    (Host.gather Cert.ReferenceIdeal.gather_S199x128_S3184x1_S3184x128_1_0_n_n_0_1_1128 x
      (broadcastInDim S3184x1 ![0] Cert.ReferenceIdeal.Gen.facts.bcast_S3184_S3184x1_0
        (select (cmpi .slt src (broadcastInDim S3184 ![] Cert.ReferenceIdeal.Gen.facts.bcast_S_S3184 (constantI S_ 32 0#32)))
          (addi src (broadcastInDim S3184 ![] Cert.ReferenceIdeal.Gen.facts.bcast_S_S3184 (constantI S_ 32 199#32))) src)))

/-- Each node's count of incoming edges, at least one. -/
def deg2Ref (dst : IVec S3184 32) : FVec Ideal Cert.ReferenceIdeal.S199x1 .f32 :=
  broadcastInDim Cert.ReferenceIdeal.S199x1 ![0] Cert.ReferenceIdeal.Gen.facts.bcast_S199_S199x1_0 (maximumf (F := Ideal) (φ := .f32)
    (Host.scatterAdd (F := Ideal) (φ := .f32) Cert.ReferenceIdeal.scatter_S199_S3184x1_S3184_n_0_0_1
      (broadcastInDim Cert.ReferenceIdeal.S199 ![] Cert.ReferenceIdeal.Gen.facts.bcast_S_S199 (constant S_ .f32 0x00000000#32))
      (broadcastInDim S3184x1 ![0] Cert.ReferenceIdeal.Gen.facts.bcast_S3184_S3184x1_0 dst)
      (broadcastInDim S3184 ![] Cert.ReferenceIdeal.Gen.facts.bcast_S_S3184 (constant S_ .f32 0x3F800000#32)))
    (broadcastInDim Cert.ReferenceIdeal.S199 ![] Cert.ReferenceIdeal.Gen.facts.bcast_S_S199 (constant S_ .f32 0x3F800000#32)))

/-- The small graph's first layer. -/
def hidden2Ref (x agg : FVec Ideal Cert.ReferenceIdeal.S199x128 .f32) (cnt : FVec Ideal Cert.ReferenceIdeal.S199x1 .f32) (wl : FVec Ideal S128x128 .f32)
    (b : FVec Ideal S128 .f32) (wr : FVec Ideal S128x128 .f32) : FVec Ideal Cert.ReferenceIdeal.S199x128 .f32 :=
  maximumf (addf (addf (Host.dotGeneral Cert.ReferenceIdeal.dot_S199x128_S128x128_S199x128_1_0_0_1_n_n none
      (Host.divf agg (broadcastInDim Cert.ReferenceIdeal.S199x128 ![0, 1] Cert.ReferenceIdeal.Gen.facts.bcast_S199x1_S199x128_0_1 cnt)) wl)
      (broadcastInDim Cert.ReferenceIdeal.S199x128 ![0, 1] Cert.ReferenceIdeal.Gen.facts.bcast_S1x128_S199x128_0_1
        (broadcastInDim S1x128 ![1] Cert.ReferenceIdeal.Gen.facts.bcast_S128_S1x128_1 b)))
      (Host.dotGeneral Cert.ReferenceIdeal.dot_S199x128_S128x128_S199x128_1_0_0_1_n_n none x wr))
    (broadcastInDim Cert.ReferenceIdeal.S199x128 ![] Cert.ReferenceIdeal.Gen.facts.bcast_S_S199x128 (constant S_ .f32 0x00000000#32))

/-- The small graph's second layer. -/
def out2Ref (x agg : FVec Ideal Cert.ReferenceIdeal.S199x128 .f32) (cnt : FVec Ideal Cert.ReferenceIdeal.S199x1 .f32) (wl : FVec Ideal S128x64 .f32)
    (b : FVec Ideal S64 .f32) (wr : FVec Ideal S128x64 .f32) : FVec Ideal Cert.ReferenceIdeal.S199x64 .f32 :=
  maximumf (addf (addf (Host.dotGeneral Cert.ReferenceIdeal.dot_S199x128_S128x64_S199x64_1_0_0_1_n_n none
      (Host.divf agg (broadcastInDim Cert.ReferenceIdeal.S199x128 ![0, 1] Cert.ReferenceIdeal.Gen.facts.bcast_S199x1_S199x128_0_1 cnt)) wl)
      (broadcastInDim Cert.ReferenceIdeal.S199x64 ![0, 1] Cert.ReferenceIdeal.Gen.facts.bcast_S1x64_S199x64_0_1
        (broadcastInDim S1x64 ![1] Cert.ReferenceIdeal.Gen.facts.bcast_S64_S1x64_1 b)))
      (Host.dotGeneral Cert.ReferenceIdeal.dot_S199x128_S128x64_S199x64_1_0_0_1_n_n none x wr))
    (broadcastInDim Cert.ReferenceIdeal.S199x64 ![] Cert.ReferenceIdeal.Gen.facts.bcast_S_S199x64 (constant S_ .f32 0x00000000#32))

/-! ## The kernel's expressions -/

/-- A mean by the adjacency counts: their product with the rows, over the clipped count. -/
def meanOf (a : FVec Ideal S256x256 .f32) (cn : FVec Ideal S256x1 .f32) (x : FVec Ideal S256x128 .f32) : FVec Ideal S256x128 .f32 :=
  divf (matmul dot_S256x256_S256x128_S256x128_1_0_0_1_n_n none a x (constant S256x128 .f32 0x00000000#32)) (broadcastTo S256x128 cn broadcasts_S256x1_S256x128)

/-- The first layer on the padded rows, from their means. -/
def hid2Of (x mean : FVec Ideal S256x128 .f32) (wl : FVec Ideal S128x128 .f32) (b : FVec Ideal S1x128 .f32) (wr : FVec Ideal S128x128 .f32) : FVec Ideal S256x128 .f32 :=
  maximumf (addf (addf (matmul dot_S256x128_S128x128_S256x128_1_0_0_1_n_n none mean wl (constant S256x128 .f32 0x00000000#32))
      (broadcastTo S256x128 (shapeCast S1x128 b shapeCasts_S1x128_S1x128) broadcasts_S1x128_S256x128))
    (matmul dot_S256x128_S128x128_S256x128_1_0_0_1_n_n none x wr (constant S256x128 .f32 0x00000000#32)))
    (broadcast S256x128 (Scalar.ofBits .f32 0x00000000#32))

/-- The second layer on the padded rows. -/
def sec2Of (x mean : FVec Ideal S256x128 .f32) (wl : FVec Ideal S128x64 .f32) (b : FVec Ideal S1x64 .f32) (wr : FVec Ideal S128x64 .f32) : FVec Ideal S256x64 .f32 :=
  maximumf (addf (addf (matmul dot_S256x128_S128x64_S256x64_1_0_0_1_n_n none mean wl (constant S256x64 .f32 0x00000000#32))
      (broadcastTo S256x64 (shapeCast S1x64 b shapeCasts_S1x64_S1x64) broadcasts_S1x64_S256x64))
    (matmul dot_S256x128_S128x64_S256x64_1_0_0_1_n_n none x wr (constant S256x64 .f32 0x00000000#32)))
    (broadcast S256x64 (Scalar.ofBits .f32 0x00000000#32))

/-- The body's second result is those two layers. -/
theorem small_eq (s d : Vec Ideal S3184x1 .i32) (x : Vec Ideal S256x128 .f32) (wl : Vec Ideal S128x128 .f32) (b : Vec Ideal S1x128 .f32)
    (wr : Vec Ideal S128x128 .f32) (wl2 : Vec Ideal S128x64 .f32) (b2 : Vec Ideal S1x64 .f32) (wr2 : Vec Ideal S128x64 .f32) :
    B.smallOf s d x wl b wr wl2 b2 wr2
      = sec2Of (hid2Of (k2_pay7 x) (meanOf (k2_pay5 s d) (k2_pay6 s d) (k2_pay7 x)) wl b wr)
          (meanOf (k2_pay5 s d) (k2_pay6 s d) (hid2Of (k2_pay7 x) (meanOf (k2_pay5 s d) (k2_pay6 s d) (k2_pay7 x)) wl b wr)) wl2 b2 wr2 := rfl

/-- A word's test against a small number, as a float: one or zero. -/
theorem one_hot (d : ℕ) (hd : d < 2 ^ 32) (w : BitVec 32) :
    (FloatOps.sitofp (F := Ideal) .f32 (BitVec.setWidth 32 (IntOp.cmpi .eq (BitVec.ofNat 32 d) w)) : EReal) = if w.toNat = d then 1 else 0 := by
  have ofBool_set : ∀ b : Bool, (BitVec.setWidth 32 (BitVec.ofBool b)).toInt = if b then 1 else 0 := by decide
  show (((BitVec.setWidth 32 (BitVec.ofBool (BitVec.ofNat 32 d == w))).toInt : ℝ) : EReal) = _
  rw [ofBool_set]
  have h : (BitVec.ofNat 32 d == w) = true ↔ w.toNat = d := by
    rw [beq_iff_eq]
    constructor
    · rintro rfl; rw [BitVec.toNat_ofNat, Nat.mod_eq_of_lt hd]
    · rintro rfl; exact BitVec.eq_of_toNat_eq (by rw [BitVec.toNat_ofNat]; exact Nat.mod_eq_of_lt w.isLt)
  by_cases q : w.toNat = d
  · rw [if_pos q, if_pos (h.2 q)]; simp
  · rw [if_neg q, if_neg fun k => q (h.1 k)]; simp

variable (src dst : IVec S3184 32) (hs : ∀ j, (src j).toNat < 199) (hd : ∀ j, (dst j).toNat < 199)

/-- The edge words as a column. -/
def col2 (w : IVec S3184 32) : IVec S3184x1 32 := shapeCast S3184x1 w shapeCasts_S3184_S3184x1

/-- A row of the small graph among the padded ones. -/
abbrev pad (n : Fin 199) : Fin 256 := Fin.castLE (by norm_num) n

/-- The adjacency counts, at one element. -/
theorem adj_at (d s : Fin 256) : (k2_pay5 (F := Ideal) (col2 src) (col2 dst) (ix2 d s) : EReal)
    = ∑ e, (if pad (node dst hd e) = d then (1 : EReal) else 0) * (if pad (node src hs e) = s then 1 else 0) := by
  pointwise [k2_pay5, col2]
  refine Finset.sum_congr rfl fun e _ => ?_
  rw [one_hot _ (lt_trans d.isLt (by norm_num)), one_hot _ (lt_trans s.isLt (by norm_num))]
  exact congrArg₂ (· * ·) (if_congr (Fin.ext_iff (a := pad (node dst hd e)) (b := d)).symm rfl rfl)
    (if_congr (Fin.ext_iff (a := pad (node src hs e)) (b := s)).symm rfl rfl)

/-- The clipped count of the kernel, at one padded row. -/
theorem deg_kernel_at (d : Fin 256) : (k2_pay6 (F := Ideal) (col2 src) (col2 dst) (ix2 d 0) : EReal)
    = max (∑ s : Fin 256, (k2_pay5 (F := Ideal) (col2 src) (col2 dst) (ix2 d s) : EReal)) 1 := by
  unfold k2_pay6
  generalize k2_pay5 (F := Ideal) (col2 src) (col2 dst) = A
  pointwise

/-- A mean, at one element. -/
theorem meanOf_at (a : FVec Ideal S256x256 .f32) (cn : FVec Ideal S256x1 .f32) (x : FVec Ideal S256x128 .f32) (d : Fin 256) (k : Fin 128) :
    (meanOf a cn x (ix2 d k) : EReal) = Ideal.div (∑ s : Fin 256, (a (ix2 d s) : EReal) * x (ix2 s k)) (cn (ix2 d 0)) := by
  pointwise [meanOf]

/-- The first layer on padded rows, at one element. -/
theorem hid2Of_at (x mean : FVec Ideal S256x128 .f32) (wl : FVec Ideal S128x128 .f32) (b : FVec Ideal S128 .f32) (wr : FVec Ideal S128x128 .f32)
    (n : Fin 256) (k : Fin 128) :
    (hid2Of x mean wl (shapeCast S1x128 b shapeCasts_S128_S1x128) wr (ix2 n k) : EReal)
      = max ((∑ i : Fin 128, (mean (ix2 n i) : EReal) * wl (ix2 i k)) + b (ix1 k) + ∑ i : Fin 128, (x (ix2 n i) : EReal) * wr (ix2 i k)) 0 := by
  pointwise [hid2Of]

/-- The second layer on padded rows, at one element. -/
theorem sec2Of_at (x mean : FVec Ideal S256x128 .f32) (wl : FVec Ideal S128x64 .f32) (b : FVec Ideal S64 .f32) (wr : FVec Ideal S128x64 .f32)
    (n : Fin 256) (k : Fin 64) :
    (sec2Of x mean wl (shapeCast S1x64 b shapeCasts_S64_S1x64) wr (ix2 n k) : EReal)
      = max ((∑ i : Fin 128, (mean (ix2 n i) : EReal) * wl (ix2 i k)) + b (ix1 k) + ∑ i : Fin 128, (x (ix2 n i) : EReal) * wr (ix2 i k)) 0 := by
  pointwise [sec2Of]

/-- The reference's first layer, at one element. -/
theorem hidden2Ref_at (x agg : FVec Ideal Cert.ReferenceIdeal.S199x128 .f32) (cnt : FVec Ideal Cert.ReferenceIdeal.S199x1 .f32) (wl : FVec Ideal S128x128 .f32)
    (b : FVec Ideal S128 .f32) (wr : FVec Ideal S128x128 .f32) (n : Fin 199) (k : Fin 128) :
    (hidden2Ref x agg cnt wl b wr (ix2 n k) : EReal)
      = max ((∑ i : Fin 128, Ideal.div (agg (ix2 n i)) (cnt (ix2 n 0)) * wl (ix2 i k)) + b (ix1 k) + ∑ i : Fin 128, (x (ix2 n i) : EReal) * wr (ix2 i k)) 0 := by
  pointwise [hidden2Ref]

/-- The reference's second layer, at one element. -/
theorem out2Ref_at (x agg : FVec Ideal Cert.ReferenceIdeal.S199x128 .f32) (cnt : FVec Ideal Cert.ReferenceIdeal.S199x1 .f32) (wl : FVec Ideal S128x64 .f32)
    (b : FVec Ideal S64 .f32) (wr : FVec Ideal S128x64 .f32) (n : Fin 199) (k : Fin 64) :
    (out2Ref x agg cnt wl b wr (ix2 n k) : EReal)
      = max ((∑ i : Fin 128, Ideal.div (agg (ix2 n i)) (cnt (ix2 n 0)) * wl (ix2 i k)) + b (ix1 k) + ∑ i : Fin 128, (x (ix2 n i) : EReal) * wr (ix2 i k)) 0 := by
  pointwise [out2Ref]

/-- The column of the small graph's index words. -/
theorem col2_word (w : IVec S3184 32) (p : Fin 3184) :
    broadcastInDim S3184x1 ![0] Cert.ReferenceIdeal.Gen.facts.bcast_S3184_S3184x1_0 w (ix2 p 0) = w (ix1 p) := by
  pointwise

/-- The small graph's source words, as the host wraps negative ones. -/
def wrapped2 (src : IVec S3184 32) : IVec S3184 32 :=
  select (cmpi .slt src (broadcastInDim S3184 ![] Cert.ReferenceIdeal.Gen.facts.bcast_S_S3184 (constantI S_ 32 0#32)))
    (addi src (broadcastInDim S3184 ![] Cert.ReferenceIdeal.Gen.facts.bcast_S_S3184 (constantI S_ 32 199#32))) src

/-- A word in range is left as it is. -/
theorem wrapped2_eq (h : ∀ j, (src j).toNat < 199) : wrapped2 src = src := by
  funext j
  exact wrap_word (src j) 199#32 (lt_trans (h j) (by norm_num))

/-- The small graph's summed messages, at one element. -/
theorem agg2_at (x : FVec Ideal Cert.ReferenceIdeal.S199x128 .f32) (n : Fin 199) (k : Fin 128) :
    (agg2Ref x src dst (ix2 n k) : EReal) = ∑ p, if node dst hd p = n then (x (ix2 (node src hs p) k) : EReal) else 0 := by
  unfold agg2Ref
  refine (row_sum _ _ (fun _ => Ideal.ofBits_zero_f32) _ _ (by norm_num) (node dst hd) (fun p => (col2_word dst p).trans (node_word dst hd p)) n k).trans ?_
  refine Finset.sum_congr rfl fun p _ => if_congr Iff.rfl ?_ rfl
  refine Routing.gather_row _ rfl rfl rfl rfl rfl x _ p k (node src hs p) ?_ (by norm_num)
  refine (col2_word (wrapped2 src) p).trans ?_
  rw [wrapped2_eq src hs]
  exact node_word src hs p

/-- The small graph's degree, at one node. -/
theorem deg2_at (n : Fin 199) : (deg2Ref dst (ix2 n 0) : EReal) = max (∑ p, if node dst hd p = n then (1 : EReal) else 0) 1 := by
  have e := one_sum Cert.ReferenceIdeal.scatter_S199_S3184x1_S3184_n_0_0_1.wf
    (broadcastInDim Cert.ReferenceIdeal.S199 ![] Cert.ReferenceIdeal.Gen.facts.bcast_S_S199 (constant (F := Ideal) S_ .f32 0x00000000#32))
    (fun _ => Ideal.ofBits_zero_f32) (broadcastInDim S3184x1 ![0] Cert.ReferenceIdeal.Gen.facts.bcast_S3184_S3184x1_0 dst)
    (broadcastInDim S3184 ![] Cert.ReferenceIdeal.Gen.facts.bcast_S_S3184 (constant S_ .f32 0x3F800000#32)) (fun _ => Ideal.ofBits_one_f32) n
  have q : ∀ p, ((broadcastInDim S3184x1 ![0] Cert.ReferenceIdeal.Gen.facts.bcast_S3184_S3184x1_0 dst (ix2 p 0)).toInt = (n.val : Int)) ↔ node dst hd p = n := fun p => by
    rw [col2_word, node_word dst hd p]
    exact toInt_ofNat_iff (by norm_num) _ _
  rw [Finset.sum_congr rfl fun p _ => if_congr (q p) rfl rfl] at e
  rw [← e]
  unfold deg2Ref
  show broadcastInDim Cert.ReferenceIdeal.S199x1 ![0] Cert.ReferenceIdeal.Gen.facts.bcast_S199_S199x1_0 (maximumf (F := Ideal) (φ := .f32)
    (Host.scatterAdd (F := Ideal) (φ := .f32) (⟨[], [0], [0], 1, _⟩ : ScatterDims Cert.ReferenceIdeal.S199 S3184x1 S3184) _ _ _) _) (ix2 n 0) = _
  generalize Host.scatterAdd (F := Ideal) (φ := .f32) (⟨[], [0], [0], 1, _⟩ : ScatterDims Cert.ReferenceIdeal.S199 S3184x1 S3184) _ _ _ = s
  pointwise

include hs hd in
/-- The kernel's clipped count on the first 199 rows is the reference's degree. -/
theorem deg2_eq (n : Fin 199) : (k2_pay6 (F := Ideal) (col2 src) (col2 dst) (ix2 (pad n) 0) : EReal) = deg2Ref dst (ix2 n 0) := by
  rw [deg_kernel_at, deg2_at dst hd, Finset.sum_congr rfl fun s _ => adj_at src dst hs hd (pad n) s]
  have h := adj_mul (fun e => pad (node dst hd e)) (fun e => pad (node src hs e)) (pad n) (fun _ => 1)
  simp only [mul_one] at h
  rw [h]
  exact congrArg (max · 1) (Finset.sum_congr rfl fun e _ => if_congr (Fin.castLE_inj (hmn := by norm_num)) rfl rfl)

include hs hd in
/-- A mean by the adjacency counts, on the first 199 rows, of rows that there hold the reference's: the reference's mean. -/
theorem mean2_eq (X : FVec Ideal S256x128 .f32) (x : FVec Ideal Cert.ReferenceIdeal.S199x128 .f32)
    (hX : ∀ (n : Fin 199) (k : Fin 128), (X (ix2 (pad n) k) : EReal) = x (ix2 n k)) (n : Fin 199) (k : Fin 128) :
    (meanOf (k2_pay5 (F := Ideal) (col2 src) (col2 dst)) (k2_pay6 (F := Ideal) (col2 src) (col2 dst)) X (ix2 (pad n) k) : EReal)
      = Ideal.div (agg2Ref x src dst (ix2 n k)) (deg2Ref dst (ix2 n 0)) := by
  have key : (∑ s : Fin 256, (k2_pay5 (F := Ideal) (col2 src) (col2 dst) (ix2 (pad n) s) : EReal) * X (ix2 s k)) = agg2Ref x src dst (ix2 n k) := by
    rw [agg2_at src dst hs hd, Finset.sum_congr rfl fun s _ => congrArg (· * (X (ix2 s k) : EReal)) (adj_at src dst hs hd (pad n) s)]
    rw [adj_mul (fun e => pad (node dst hd e)) (fun e => pad (node src hs e)) (pad n) (fun s => (X (ix2 s k) : EReal))]
    exact Finset.sum_congr rfl fun e _ => if_congr (Fin.castLE_inj (hmn := by norm_num)) (hX _ _) rfl
  rw [meanOf_at, deg2_eq src dst hs hd, key]

include hs hd in
/-- The body's second result, on its first 199 rows, is the reference's second layer on the small graph. -/
theorem small_at (X : FVec Ideal S256x128 .f32) (x : FVec Ideal Cert.ReferenceIdeal.S199x128 .f32)
    (hX : ∀ (n : Fin 199) (k : Fin 128), (X (ix2 (pad n) k) : EReal) = x (ix2 n k)) (wl : FVec Ideal S128x128 .f32) (b : FVec Ideal S128 .f32)
    (wr : FVec Ideal S128x128 .f32) (wl2 : FVec Ideal S128x64 .f32) (b2 : FVec Ideal S64 .f32) (wr2 : FVec Ideal S128x64 .f32) (n : Fin 199) (c : Fin 64) :
    (B.smallOf (F := Ideal) (col2 src) (col2 dst) X wl (shapeCast S1x128 b shapeCasts_S128_S1x128) wr wl2 (shapeCast S1x64 b2 shapeCasts_S64_S1x64) wr2 (ix2 (pad n) c) : EReal)
      = out2Ref (hidden2Ref x (agg2Ref x src dst) (deg2Ref dst) wl b wr)
          (agg2Ref (hidden2Ref x (agg2Ref x src dst) (deg2Ref dst) wl b wr) src dst) (deg2Ref dst) wl2 b2 wr2 (ix2 n c) := by
  have h7 : k2_pay7 (F := Ideal) X = X := by unfold k2_pay7; funext j; pointwise
  rw [small_eq, h7]
  have hH : ∀ (n : Fin 199) (k : Fin 128),
      (hid2Of X (meanOf (k2_pay5 (col2 src) (col2 dst)) (k2_pay6 (col2 src) (col2 dst)) X) wl (shapeCast S1x128 b shapeCasts_S128_S1x128) wr (ix2 (pad n) k) : EReal)
        = hidden2Ref x (agg2Ref x src dst) (deg2Ref dst) wl b wr (ix2 n k) := fun n k => by
    rw [hid2Of_at, hidden2Ref_at]
    simp only [mean2_eq src dst hs hd X x hX, hX]
  rw [sec2Of_at, out2Ref_at]
  simp only [mean2_eq src dst hs hd _ _ hH, hH]

end Cert.Proof.Hist

end
-- ==== Proof.Keys.lean ====
/-
  The keys (each large-graph row's distance to the small graph's last row), the counts of the batch words, and the padding
  of the small graph's rows, over the extended reals.
-/
module

public import proofs.«01_k».proof.Proof.Small

@[expose] public section

set_option maxRecDepth 16384

noncomputable section

namespace Cert.Proof.Hist

open Cert.KernelIdeal Cert.KernelIdeal.Gen
open Idealize.ShloMosaic

/-- The reference's keys: the last column of the table of distances between the two graphs' rows. -/
def keyRef (o : FVec Ideal S10000x64 .f32) (g : FVec Ideal Cert.ReferenceIdeal.S199x64 .f32) : FVec Ideal S10000x1 .f32 :=
  extractStridedSlice S10000x1 ![0, 198] (Host.sqrt (addf (maximumf (subf
      (addf (broadcastInDim Cert.ReferenceIdeal.S10000x199 ![0, 1] Cert.ReferenceIdeal.Gen.facts.bcast_S10000x1_S10000x199_0_1
          (broadcastInDim S10000x1 ![0] Cert.ReferenceIdeal.Gen.facts.bcast_S10000_S10000x1_0
            (Host.reduceAdd (mulf o o) (constant S_ .f32 0x00000000#32) Cert.ReferenceIdeal.Gen.facts.reducesTo_S10000x64_S10000_d1 Cert.ReferenceIdeal.Gen.facts.h_S_)))
        (broadcastInDim Cert.ReferenceIdeal.S10000x199 ![0, 1] Cert.ReferenceIdeal.Gen.facts.bcast_S1x199_S10000x199_0_1
          (broadcastInDim Cert.ReferenceIdeal.S1x199 ![1] Cert.ReferenceIdeal.Gen.facts.bcast_S199_S1x199_1
            (Host.reduceAdd (mulf g g) (constant S_ .f32 0x00000000#32) Cert.ReferenceIdeal.Gen.facts.reducesTo_S199x64_S199_d1 Cert.ReferenceIdeal.Gen.facts.h_S_))))
      (mulf (broadcastInDim Cert.ReferenceIdeal.S10000x199 ![] Cert.ReferenceIdeal.Gen.facts.bcast_S_S10000x199 (constant S_ .f32 0x40000000#32))
        (Host.dotGeneral Cert.ReferenceIdeal.dot_S10000x64_S64x199_S10000x199_1_0_0_1_n_n none o
          (transpose Cert.ReferenceIdeal.S64x199 [1, 0] g Cert.ReferenceIdeal.Gen.facts.transposes_S199x64_S64x199_1_0))))
      (broadcastInDim Cert.ReferenceIdeal.S10000x199 ![] Cert.ReferenceIdeal.Gen.facts.bcast_S_S10000x199 (constant S_ .f32 0x00000000#32)))
    (broadcastInDim Cert.ReferenceIdeal.S10000x199 ![] Cert.ReferenceIdeal.Gen.facts.bcast_S_S10000x199 (constant S_ .f32 0x2B8CBCCC#32))))
    Cert.ReferenceIdeal.Gen.facts.slices_S10000x199_S10000x1_0_198

/-- The body's keys, from its own two embeddings. -/
def keyOn (o : FVec Ideal S10000x64 .f32) (g : FVec Ideal S256x64 .f32) : FVec Ideal S10000x1 .f32 :=
  have q : FVec Ideal S1x64 .f32 := extractStridedSlice S1x64 ![198, 0] g slices_S256x64_o198_0_S1x64
  k2_pay1 o q (addf (shapeCast S10000x1 (multiReduction .add [1] S10000 (mulf o o) 0x00000000#32 reduces_S10000x64_S10000 (.inl rfl) rfl) shapeCasts_S10000_S10000x1)
    (broadcast S10000x1 (extractAt ![0, 0, 0] (shapeCast S1x1x1 (multiReduction .add [1, 2] S1 (shapeCast S1x1x64 (mulf q q) shapeCasts_S1x64_S1x1x64) 0x00000000#32
      reduces_S1x1x64_S1 (.inl rfl) rfl) shapeCasts_S1_S1x1x1) inpos_S1x1x1_p0_0_0)))

/-- The body's third result is the keys on its embeddings. -/
theorem key_eq (x0 : Vec Ideal S10000x64 .f32) (x1 : Vec Ideal S10000x128 .f32) (x2 : Vec Ideal S10000x1 .f32) (s d : Vec Ideal S3184x1 .i32)
    (x : Vec Ideal S256x128 .f32) (wl : Vec Ideal S128x128 .f32) (b : Vec Ideal S1x128 .f32)
    (wr : Vec Ideal S128x128 .f32) (wl2 : Vec Ideal S128x64 .f32) (b2 : Vec Ideal S1x64 .f32) (wr2 : Vec Ideal S128x64 .f32) :
    B.keyOf x0 x1 x2 s d x wl b wr wl2 b2 wr2 = keyOn (k2_pay3 x0 x2 (B.rightOf x1)) (B.smallOf s d x wl b wr wl2 b2 wr2) := rfl

/-- The body's keys are the reference's, when the padded rows hold the reference's small embedding. -/
theorem keyOn_eq (o : FVec Ideal S10000x64 .f32) (g : FVec Ideal S256x64 .f32) (g' : FVec Ideal Cert.ReferenceIdeal.S199x64 .f32)
    (hg : ∀ (n : Fin 199) (c : Fin 64), (g (ix2 (pad n) c) : EReal) = g' (ix2 n c)) : keyOn o g = keyRef o g' := by
  have h : ∀ c : Fin 64, (g (ix2 (198 : Fin 256) c) : EReal) = g' (ix2 (198 : Fin 199) c) := fun c => hg 198 c
  funext j
  obtain ⟨n, rfl⟩ : ∃ n : Fin 10000, j = ix2 n 0 := ⟨j 0, by funext a; match a with | ⟨0, _⟩ => rfl | ⟨1, _⟩ => exact Subsingleton.elim (α := Fin 1) _ _⟩
  pointwise [keyOn, keyRef, k2_pay1]
  simp only [h, Finset.univ_unique, Finset.sum_singleton]

/-- The reference's counts of the batch words. -/
def countsRef (w : IVec S10000 32) : FVec Ideal S16 .f32 :=
  Host.scatterAdd (F := Ideal) (φ := .f32) Cert.ReferenceIdeal.scatter_S16_S10000x1_S10000_n_0_0_1
    (broadcastInDim S16 ![] Cert.ReferenceIdeal.Gen.facts.bcast_S_S16 (constant S_ .f32 0x00000000#32))
    (broadcastInDim S10000x1 ![0] Cert.ReferenceIdeal.Gen.facts.bcast_S10000_S10000x1_0 w)
    (broadcastInDim S10000 ![] Cert.ReferenceIdeal.Gen.facts.bcast_S_S10000 (constant S_ .f32 0x3F800000#32))

/-- The body's counts are the reference's, whatever the batch words. -/
theorem counts_at (w : IVec S10000 32) (b : Fin 16) :
    (k2_pay2 (F := Ideal) (shapeCast S10000x1 w shapeCasts_S10000_S10000x1) (ix2 0 b) : EReal) = countsRef w (ix1 b) := by
  have e := one_sum Cert.ReferenceIdeal.scatter_S16_S10000x1_S10000_n_0_0_1.wf
    (broadcastInDim S16 ![] Cert.ReferenceIdeal.Gen.facts.bcast_S_S16 (constant (F := Ideal) S_ .f32 0x00000000#32))
    (fun _ => Ideal.ofBits_zero_f32) (broadcastInDim S10000x1 ![0] Cert.ReferenceIdeal.Gen.facts.bcast_S10000_S10000x1_0 w)
    (broadcastInDim S10000 ![] Cert.ReferenceIdeal.Gen.facts.bcast_S_S10000 (constant S_ .f32 0x3F800000#32)) (fun _ => Ideal.ofBits_one_f32) b
  have q : ∀ p, ((broadcastInDim S10000x1 ![0] Cert.ReferenceIdeal.Gen.facts.bcast_S10000_S10000x1_0 w (ix2 p 0)).toInt = (b.val : Int)) ↔ (w (ix1 p)).toNat = b.val := fun p => by
    have hw : broadcastInDim S10000x1 ![0] Cert.ReferenceIdeal.Gen.facts.bcast_S10000_S10000x1_0 w (ix2 p 0) = w (ix1 p) := by pointwise
    rw [hw, BitVec.toInt_eq_toNat_cond]
    have := b.isLt
    have := (w (ix1 p)).isLt
    split <;> omega
  rw [Finset.sum_congr rfl fun p _ => if_congr (q p) rfl rfl] at e
  refine Eq.trans ?_ e.symm
  pointwise [k2_pay2]
  exact Finset.sum_congr rfl fun p _ => one_hot _ (lt_trans b.isLt (by norm_num)) _

/-- The small graph's rows, padded to 256. -/
def padRows (x : FVec Ideal Cert.ReferenceIdeal.S199x128 .f32) : FVec Ideal S256x128 .f32 :=
  Host.scatter scatter_S256x128_S1_S199x128_01_n_0_0 (fun _ b => b) (broadcastInDim S256x128 ![] bcast_S_S256x128 (constant S_ .f32 0x00000000#32))
    (broadcastInDim S1 ![] bcast_S_S1 (constantI S_ 32 0#32)) x

/-- The padded rows' first 199 are the rows. -/
theorem padRows_at (x : FVec Ideal Cert.ReferenceIdeal.S199x128 .f32) (n : Fin 199) (k : Fin 128) : (padRows x (ix2 (pad n) k) : EReal) = x (ix2 n k) := by
  have hl : ∀ q : S199x128.Idx, scatter_S256x128_S1_S199x128_01_n_0_0.resultIdx? q (broadcastInDim S1 ![] bcast_S_S1 (constantI S_ 32 0#32)) = some (ix2 (pad n) k)
      ↔ q = ix2 n k := fun q => by
    rw [Routing.resultIdx?_eq_some]
    have hs0 : scatter_S256x128_S1_S199x128_01_n_0_0.start q (broadcastInDim S1 ![] bcast_S_S1 (constantI S_ 32 0#32)) 0 = 0 := rfl
    have hs1 : scatter_S256x128_S1_S199x128_01_n_0_0.start q (broadcastInDim S1 ![] bcast_S_S1 (constantI S_ 32 0#32)) 1 = 0 := rfl
    have hw0 : scatter_S256x128_S1_S199x128_01_n_0_0.window q 0 = (q 0).val := rfl
    have hw1 : scatter_S256x128_S1_S199x128_01_n_0_0.window q 1 = (q 1).val := rfl
    constructor
    · intro h
      have h0 := h 0
      have h1 := h 1
      rw [hs0, hw0, zero_add] at h0
      rw [hs1, hw1, zero_add] at h1
      funext a
      match a with
      | ⟨0, _⟩ => exact Fin.ext (by exact_mod_cast h0)
      | ⟨1, _⟩ => exact Fin.ext (by exact_mod_cast h1)
    · rintro rfl a
      match a with
      | ⟨0, _⟩ => exact (congrArg₂ (· + ·) hs0 (congrArg Nat.cast hw0)).trans (zero_add _)
      | ⟨1, _⟩ => exact (congrArg₂ (· + ·) hs1 (congrArg Nat.cast hw1)).trans (zero_add _)
  exact Routing.scatter_set_hit _ _ _ x _ _ (fun q hq => congrArg x ((hl q).1 hq)) (ix2 n k) ((hl _).2 rfl)

end Cert.Proof.Hist

end
-- ==== Proof.Select.lean ====
/-
  The rows each graph selects, over the extended reals: the kernel's greatest masked keys against the reference's stable
  order of the negated ones, the table of the selected rows, and the padded weights.
-/
module

public import proofs.«01_k».proof.Proof.Keys

@[expose] public section

set_option maxRecDepth 16384

noncomputable section

namespace Cert.Proof.Hist

open Idealize.ShloMosaic

/-! ## The reference's expressions -/

section Reference

open Cert.ReferenceIdeal Cert.ReferenceIdeal.Gen

/-- The table of distances between the two graphs' rows. -/
def distRef (o : FVec Ideal S10000x64 .f32) (g : FVec Ideal S199x64 .f32) : FVec Ideal S10000x199 .f32 :=
  Host.sqrt (addf (maximumf (subf (addf (broadcastInDim S10000x199 ![0, 1] bcast_S10000x1_S10000x199_0_1 (broadcastInDim S10000x1 ![0] bcast_S10000_S10000x1_0
        (Host.reduceAdd (mulf o o) (constant S_ .f32 0x00000000#32) reducesTo_S10000x64_S10000_d1 h_S_)))
      (broadcastInDim S10000x199 ![0, 1] bcast_S1x199_S10000x199_0_1 (broadcastInDim S1x199 ![1] bcast_S199_S1x199_1
        (Host.reduceAdd (mulf g g) (constant S_ .f32 0x00000000#32) reducesTo_S199x64_S199_d1 h_S_))))
      (mulf (broadcastInDim S10000x199 ![] bcast_S_S10000x199 (constant S_ .f32 0x40000000#32))
        (Host.dotGeneral dot_S10000x64_S64x199_S10000x199_1_0_0_1_n_n none o (transpose S64x199 [1, 0] g transposes_S199x64_S64x199_1_0))))
      (broadcastInDim S10000x199 ![] bcast_S_S10000x199 (constant S_ .f32 0x00000000#32)))
    (broadcastInDim S10000x199 ![] bcast_S_S10000x199 (constant S_ .f32 0x2B8CBCCC#32)))

/-- Each graph's negated keys, plus infinity at the nodes of the others. -/
def negKeys (k : FVec Ideal S10000x1 .f32) (w : IVec S10000 32) : FVec Ideal S16x10000 .f32 :=
  select (cmpi .eq (broadcastInDim S16x10000 ![0, 1] bcast_S1x10000_S16x10000_0_1 (broadcastInDim S1x10000 ![1] bcast_S10000_S1x10000_1 w))
      (broadcastInDim S16x10000 ![0, 1] bcast_S16x1_S16x10000_0_1 (broadcastInDim S16x1 ![0] bcast_S16_S16x1_0 (iotaInDim S16 32 0))))
    (broadcastInDim S16x10000 ![0, 1] bcast_S1x10000_S16x10000_0_1 (Host.negf (broadcastInDim S1x10000 ![1] bcast_S10000_S1x10000_1
      (shapeCast _ k shapeCasts_S10000x1_S10000))))
    (broadcastInDim S16x10000 ![] bcast_S_S16x10000 (constant S_ .f32 0x7F800000#32))

/-- The first fifty nodes of each graph's stable order by its negated keys. -/
def orderRef (k : FVec Ideal S10000x1 .f32) (w : IVec S10000 32) : IVec S16x50 32 :=
  extractStridedSlice S16x50 ![0, 0] ((Host.sort2 S16x10000 1 comparator_f32_i32_d1 (negKeys k w) (iotaInDim S16x10000 32 1)).2) slices_S16x10000_S16x50_0_0

/-- The selected rows of the table of distances, zero past a graph's end. -/
def topRef (d : FVec Ideal S10000x199 .f32) (n : FVec Ideal S16 .f32) (t : IVec S16x50 32) : FVec Ideal S16x50x199 .f32 :=
  select (broadcastInDim S16x50x199 ![0, 1, 2] bcast_S16x50x1_S16x50x199_0_1_2 (broadcastInDim S16x50x1 ![0, 1] bcast_S16x50_S16x50x1_0_1
      (cmpf .olt (broadcastInDim S16x50 ![0, 1] bcast_S1x50_S16x50_0_1 (sitofp .f32 (broadcastInDim S1x50 ![1] bcast_S50_S1x50_1 (iotaInDim S50 32 0))) : FVec Ideal S16x50 .f32)
        (broadcastInDim S16x50 ![0, 1] bcast_S16x1_S16x50_0_1 (broadcastInDim S16x1 ![0] bcast_S16_S16x1_0 n)))))
    (Host.gather gather_S10000x199_S16x50x1_S16x50x199_2_0_n_n_0_2_1199 d (broadcastInDim S16x50x1 ![0, 1] bcast_S16x50_S16x50x1_0_1
      (select (cmpi .slt t (broadcastInDim S16x50 ![] bcast_S_S16x50 (constantI S_ 32 0#32))) (addi t (broadcastInDim S16x50 ![] bcast_S_S16x50 (constantI S_ 32 10000#32))) t)))
    (broadcastInDim S16x50x199 ![] bcast_S_S16x50x199 (constant S_ .f32 0x00000000#32))

end Reference

open Cert.KernelIdeal Cert.KernelIdeal.Gen

/-! ## The kernel's expressions -/

/-- Each graph's keys, minus infinity at the nodes of the others. -/
def ownKeys (k : FVec Ideal S10000x1 .f32) (w : IVec S10000 32) : FVec Ideal S16x10000 .f32 :=
  select (cmpi .eq (broadcastInDim S16x10000 ![0, 1] bcast_S1x10000_S16x10000_0_1 (broadcastInDim S1x10000 ![1] bcast_S10000_S1x10000_1 w))
      (broadcastInDim S16x10000 ![0, 1] bcast_S16x1_S16x10000_0_1 (broadcastInDim S16x1 ![0] bcast_S16_S16x1_0 (iotaInDim S16 32 0))))
    (broadcastInDim S16x10000 ![0, 1] bcast_S1x10000_S16x10000_0_1 (broadcastInDim S1x10000 ![1] bcast_S10000_S1x10000_1 (shapeCast S10000 k shapeCasts_S10000x1_S10000)))
    (broadcastInDim S16x10000 ![] bcast_S_S16x10000 (constant S_ .f32 0xFF800000#32))

/-- The nodes of each graph's fifty greatest keys. -/
def picked (k : FVec Ideal S10000x1 .f32) (w : IVec S10000 32) : IVec S16x50 32 :=
  (Host.topK S16x50 1 (FloatOps.cmpfTotal (F := Ideal) (φ := .f32) .gt) (ownKeys k w) sliceFits_S16x10000_S16x50).2

/-- The selected nodes as one list, the graphs of one rank together. -/
def pickedList (t : IVec S16x50 32) : IVec S800 32 := shapeCast S800 (transpose S50x16 [1, 0] t transposes_S16x50_S50x16_1_0) shapeCasts_S50x16_S800

/-- The selected rows, padded to 1024. -/
def pickedRows (o : FVec Ideal S10000x128 .f32) (t : IVec S16x50 32) : FVec Ideal S1024x128 .f32 :=
  Host.scatter scatter_S1024x128_S1_S800x128_01_n_0_0 (fun _ b => b) (broadcastInDim S1024x128 ![] bcast_S_S1024x128 (constant S_ .f32 0x00000000#32))
    (broadcastInDim S1 ![] bcast_S_S1 (constantI S_ 32 0#32))
    (Host.gather gather_S10000x128_S800x1_S800x128_1_0_n_n_0_1_1128 o (broadcastInDim S800x1 ![0] bcast_S800_S800x1_0
      (select (cmpi .slt (pickedList t) (broadcastInDim S800 ![] bcast_S_S800 (constantI S_ 32 0#32)))
        (addi (pickedList t) (broadcastInDim S800 ![] bcast_S_S800 (constantI S_ 32 10000#32))) (pickedList t))))

/-- The first classifier layer's weights, each rank's 199 rows padded to 256. -/
def paddedWeights (w : FVec Ideal S9950x128 .f32) : FVec Ideal S12800x128 .f32 :=
  shapeCast S12800x128 (Host.scatter scatter_S50x256x128_S1_S50x199x128_012_n_1_0 (fun _ b => b)
    (broadcastInDim S50x256x128 ![] bcast_S_S50x256x128 (constant S_ .f32 0x00000000#32)) (broadcastInDim S1 ![] bcast_S_S1 (constantI S_ 32 0#32))
    (shapeCast S50x199x128 w shapeCasts_S9950x128_S50x199x128)) shapeCasts_S50x256x128_S12800x128

/-- The last layer's weights, its one column padded to 128. -/
def paddedLast (w : FVec Ideal S64x1 .f32) : FVec Ideal S64x128 .f32 :=
  Host.scatter scatter_S64x128_S1_S64x1_01_n_1_0 (fun _ b => b) (broadcastInDim S64x128 ![] bcast_S_S64x128 (constant S_ .f32 0x00000000#32))
    (broadcastInDim S1 ![] bcast_S_S1 (constantI S_ 32 0#32)) w

/-! ## The selection -/

/-- The second operand of a sort of rows, at one place: its entry at the place the stable order names. -/
theorem sort2_at {α : Type} (cmp : α × BitVec 32 → α × BitVec 32 → BitVec 1) (x : S16x10000.Idx → α) (y : S16x10000.Idx → BitVec 32) (b : Fin 16) (p : Fin 10000) :
    (Host.sort2 S16x10000 1 cmp x y).2 (ix2 b p)
      = y (ix2 b (sortedFrom (fun k k' => cmp (x (ix2 b k), y (ix2 b k)) (x (ix2 b k'), y (ix2 b k')) == 1#1) p)) := by
  have h : ∀ k : Fin 10000, (ix2 b p : S16x10000.Idx).along (1 : Fin 2) k = ix2 b k := fun k => by
    funext a
    match a with
    | ⟨0, _⟩ => rfl
    | ⟨1, _⟩ => rfl
  show y ((ix2 b p : S16x10000.Idx).along (1 : Fin 2) (sortedFrom (fun k k' : Fin 10000 =>
    cmp (x ((ix2 b p : S16x10000.Idx).along (1 : Fin 2) k), y ((ix2 b p : S16x10000.Idx).along (1 : Fin 2) k))
      (x ((ix2 b p : S16x10000.Idx).along (1 : Fin 2) k'), y ((ix2 b p : S16x10000.Idx).along (1 : Fin 2) k')) == 1#1) p)) = _
  simp only [h]
  exact congrArg y (h _)

/-- Two orders that agree put the same node at a rank. -/
theorem sorted_word (R R' : Fin 10000 → Fin 10000 → Bool) (h : ∀ p q, R p q = R' p q) (k : Fin 10000) :
    BitVec.ofNat 32 (sortedFrom R k).val = BitVec.ofNat 32 (sortedFrom R' k).val := by
  rw [show R = R' from funext fun p => funext (h p)]

/-- A column number's word. -/
theorem column_word (b : Fin 16) (p : Fin 10000) : iotaInDim S16x10000 32 1 (ix2 b p) = BitVec.ofNat 32 p.val := rfl

/-- A rank among the first fifty as a place in a row. -/
abbrev place (k : Fin 50) : Fin 10000 := Fin.castLE (by norm_num) k

/-- The node a row of masked keys puts at a rank. -/
def nodeAt (x : FVec Ideal S16x10000 .f32) (b : Fin 16) (k : Fin 50) : Fin 10000 :=
  sortedFrom (fun p q : Fin 10000 => decide ((x (ix2 b q) : EReal) < x (ix2 b p))) (place k)

/-- The kernel's selection, at one rank. -/
theorem picked_at (k : FVec Ideal S10000x1 .f32) (w : IVec S10000 32) (b : Fin 16) (n : Fin 50) :
    picked k w (ix2 b n) = BitVec.ofNat 32 (nodeAt (ownKeys k w) b n).val := by
  unfold picked
  generalize ownKeys k w = x
  have hs : (Host.topK S16x50 1 (FloatOps.cmpfTotal (F := Ideal) (φ := .f32) .gt) x sliceFits_S16x10000_S16x50).2 (ix2 b n)
      = (Host.sort2 S16x10000 1 (fun l r => FloatOps.cmpfTotal (F := Ideal) (φ := .f32) .gt l.1 r.1) x (iotaInDim S16x10000 32 1)).2 (ix2 b (place n)) := by
    refine congrArg (Host.sort2 S16x10000 1 (fun l r => FloatOps.cmpfTotal (F := Ideal) (φ := .f32) .gt l.1 r.1) x (iotaInDim S16x10000 32 1)).2 ?_
    funext a
    match a with
    | ⟨0, _⟩ => exact Fin.ext (Nat.zero_add _)
    | ⟨1, _⟩ => exact Fin.ext (Nat.zero_add _)
  rw [hs, sort2_at, column_word]
  unfold nodeAt
  refine sorted_word _ _ (fun p q => ?_) _
  show (BitVec.ofBool (decide ((x (ix2 b q) : EReal) < x (ix2 b p))) == 1#1) = _
  cases decide ((x (ix2 b q) : EReal) < x (ix2 b p)) <;> rfl

/-- The reference's comparison of two keys is the order of the extended reals. -/
theorem comparator_eq (l r : EReal × BitVec 32) :
    (Cert.ReferenceIdeal.comparator_f32_i32_d1 (F := Ideal) l r == 1#1) = decide (l.1 < r.1) := by
  have z : ∀ x : EReal, Scalar.select (Ideal.cmp .oeq x (Ideal.ofBits .f32 0x00000000#32)) (Ideal.ofBits .f32 0x00000000#32) x = x := fun x => by
    unfold Scalar.select Ideal.cmp
    rw [Ideal.ofBits_zero_f32]
    by_cases h : x = 0
    · subst h; simp
    · simp [h]
  have u : ∀ x c y : EReal, Scalar.select (Ideal.cmp .une x x) c y = y := fun x c y => by
    unfold Scalar.select Ideal.cmp
    simp
  show (Ideal.cmp .olt (Scalar.select (Ideal.cmp .une l.1 l.1) _ (Scalar.select (Ideal.cmp .oeq l.1 (Ideal.ofBits .f32 0x00000000#32)) (Ideal.ofBits .f32 0x00000000#32) l.1))
    (Scalar.select (Ideal.cmp .une r.1 r.1) _ (Scalar.select (Ideal.cmp .oeq r.1 (Ideal.ofBits .f32 0x00000000#32)) (Ideal.ofBits .f32 0x00000000#32) r.1)) == 1#1) = _
  rw [u, u, z, z]
  show (BitVec.ofBool (decide (l.1 < r.1)) == 1#1) = _
  cases decide (l.1 < r.1) <;> rfl

/-- The two patterns of infinity. -/
theorem ofBits_inf : Ideal.ofBits .f32 0x7F800000#32 = ⊤ ∧ Ideal.ofBits .f32 0xFF800000#32 = ⊥ := by
  constructor <;> simp [Ideal.ofBits, Ideal.ieee]

/-- The reference's masked keys are the kernel's negated. -/
theorem negKeys_at (k : FVec Ideal S10000x1 .f32) (w : IVec S10000 32) (b : Fin 16) (p : Fin 10000) :
    (negKeys k w (ix2 b p) : EReal) = -(ownKeys k w (ix2 b p) : EReal) := by
  pointwise [negKeys, ownKeys]
  simp only [ofBits_inf]
  unfold Scalar.select
  split_ifs <;> simp

/-- The reference's selection, at one rank: the same node. -/
theorem orderRef_at (k : FVec Ideal S10000x1 .f32) (w : IVec S10000 32) (b : Fin 16) (n : Fin 50) :
    orderRef k w (ix2 b n) = BitVec.ofNat 32 (nodeAt (ownKeys k w) b n).val := by
  have hs : orderRef k w (ix2 b n) = (Host.sort2 S16x10000 1 (Cert.ReferenceIdeal.comparator_f32_i32_d1 (F := Ideal)) (negKeys k w) (iotaInDim S16x10000 32 1)).2 (ix2 b (place n)) := by
    refine congrArg (Host.sort2 S16x10000 1 (Cert.ReferenceIdeal.comparator_f32_i32_d1 (F := Ideal)) (negKeys k w) (iotaInDim S16x10000 32 1)).2 ?_
    funext a
    match a with
    | ⟨0, _⟩ => exact Fin.ext (Nat.zero_add _)
    | ⟨1, _⟩ => exact Fin.ext (Nat.zero_add _)
  rw [hs, sort2_at, column_word]
  unfold nodeAt
  refine sorted_word _ _ (fun p q => ?_) _
  rw [comparator_eq]
  refine decide_eq_decide.2 ?_
  show (negKeys k w (ix2 b p) : EReal) < negKeys k w (ix2 b q) ↔ _
  rw [negKeys_at, negKeys_at, EReal.neg_lt_neg_iff]

/-! ## The tables -/

/-- A number below 10000 as a start index, wrapped: itself. -/
theorem wrap_node (r : Fin 10000) : Scalar.select (IntOp.cmpi .slt (BitVec.ofNat 32 r.val) 0#32) (IntOp.addi (BitVec.ofNat 32 r.val) 10000#32) (BitVec.ofNat 32 r.val)
    = BitVec.ofNat 32 r.val :=
  wrap_word _ _ (by rw [BitVec.toNat_ofNat]; have := r.isLt; omega)

/-- The place of rank `n` of graph `b` in the list of selected nodes. -/
abbrev slot (n : Fin 50) (b : Fin 16) : Fin 800 := ⟨16 * n.val + b.val, by omega⟩

/-- The list of selected nodes, at one rank of one graph. -/
theorem pickedList_at (t : IVec S16x50 32) (n : Fin 50) (b : Fin 16) : pickedList t (ix1 (slot n b)) = t (ix2 b n) := by
  have hb := b.isLt
  have h1 : (⟨(16 * n.val + b.val) % 16, Nat.mod_lt _ (by norm_num)⟩ : Fin 16) = b := Fin.ext (by show (16 * n.val + b.val) % 16 = b.val; omega)
  have h2 : (⟨(16 * n.val + b.val) / 16, by omega⟩ : Fin 50) = n := Fin.ext (by show (16 * n.val + b.val) / 16 = n.val; omega)
  pointwise [pickedList]
  exact congrArg t (congrArg₂ ix2 h1 h2)

/-- The table of selected rows, at one rank of one graph: the selected node's row. -/
theorem pickedRows_at (o : FVec Ideal S10000x128 .f32) (t : IVec S16x50 32) (n : Fin 50) (b : Fin 16) (r : Fin 10000) (h : t (ix2 b n) = BitVec.ofNat 32 r.val) (c : Fin 128) :
    (pickedRows o t (ix2 (Fin.castLE (by norm_num : 800 ≤ 1024) (slot n b)) c) : EReal) = o (ix2 r c) := by
  have hl : ∀ q : S800x128.Idx, scatter_S1024x128_S1_S800x128_01_n_0_0.resultIdx? q (broadcastInDim S1 ![] bcast_S_S1 (constantI S_ 32 0#32))
      = some (ix2 (Fin.castLE (by norm_num : 800 ≤ 1024) (slot n b)) c) ↔ q = ix2 (slot n b) c := fun q => by
    rw [Routing.resultIdx?_eq_some]
    have hs0 : scatter_S1024x128_S1_S800x128_01_n_0_0.start q (broadcastInDim S1 ![] bcast_S_S1 (constantI S_ 32 0#32)) 0 = 0 := rfl
    have hs1 : scatter_S1024x128_S1_S800x128_01_n_0_0.start q (broadcastInDim S1 ![] bcast_S_S1 (constantI S_ 32 0#32)) 1 = 0 := rfl
    have hw0 : scatter_S1024x128_S1_S800x128_01_n_0_0.window q 0 = (q 0).val := rfl
    have hw1 : scatter_S1024x128_S1_S800x128_01_n_0_0.window q 1 = (q 1).val := rfl
    constructor
    · intro h
      have h0 := h 0
      have h1 := h 1
      rw [hs0, hw0, zero_add] at h0
      rw [hs1, hw1, zero_add] at h1
      funext a
      match a with
      | ⟨0, _⟩ => exact Fin.ext (by exact_mod_cast h0)
      | ⟨1, _⟩ => exact Fin.ext (by exact_mod_cast h1)
    · rintro rfl a
      match a with
      | ⟨0, _⟩ => exact (congrArg₂ (· + ·) hs0 (congrArg Nat.cast hw0)).trans (zero_add _)
      | ⟨1, _⟩ => exact (congrArg₂ (· + ·) hs1 (congrArg Nat.cast hw1)).trans (zero_add _)
  refine (Routing.scatter_set_hit _ _ _ _ _ _ (fun q hq => congrArg _ ((hl q).1 hq)) (ix2 (slot n b) c) ((hl _).2 rfl)).trans ?_
  refine Routing.gather_row _ rfl rfl rfl rfl rfl o _ _ _ r ?_ (by norm_num)
  generalize hp : pickedList t = p
  have e : p (ix1 (slot n b)) = BitVec.ofNat 32 r.val := by rw [← hp, pickedList_at, h]
  pointwise
  rw [e]
  exact wrap_node r

/-- The padded weights, at one of a rank's own rows. -/
theorem paddedWeights_at (w : FVec Ideal S9950x128 .f32) (n : Fin 50) (m : Fin 199) (j : Fin 128) :
    (paddedWeights w (ix2 ⟨256 * n.val + m.val, by omega⟩ j) : EReal) = w (ix2 ⟨199 * n.val + m.val, by omega⟩ j) := by
  have hl : ∀ q : S50x199x128.Idx, scatter_S50x256x128_S1_S50x199x128_012_n_1_0.resultIdx? q (broadcastInDim S1 ![] bcast_S_S1 (constantI S_ 32 0#32))
      = some (ix3 n (pad m) j) ↔ q = ix3 n m j := fun q => by
    rw [Routing.resultIdx?_eq_some]
    have hs0 : scatter_S50x256x128_S1_S50x199x128_012_n_1_0.start q (broadcastInDim S1 ![] bcast_S_S1 (constantI S_ 32 0#32)) 0 = 0 := rfl
    have hs1 : scatter_S50x256x128_S1_S50x199x128_012_n_1_0.start q (broadcastInDim S1 ![] bcast_S_S1 (constantI S_ 32 0#32)) 1 = 0 := rfl
    have hs2 : scatter_S50x256x128_S1_S50x199x128_012_n_1_0.start q (broadcastInDim S1 ![] bcast_S_S1 (constantI S_ 32 0#32)) 2 = 0 := rfl
    have hw0 : scatter_S50x256x128_S1_S50x199x128_012_n_1_0.window q 0 = (q 0).val := rfl
    have hw1 : scatter_S50x256x128_S1_S50x199x128_012_n_1_0.window q 1 = (q 1).val := rfl
    have hw2 : scatter_S50x256x128_S1_S50x199x128_012_n_1_0.window q 2 = (q 2).val := rfl
    constructor
    · intro h
      have h0 := h 0
      have h1 := h 1
      have h2 := h 2
      rw [hs0, hw0, zero_add] at h0
      rw [hs1, hw1, zero_add] at h1
      rw [hs2, hw2, zero_add] at h2
      funext a
      match a with
      | ⟨0, _⟩ => exact Fin.ext (by exact_mod_cast h0)
      | ⟨1, _⟩ => exact Fin.ext (by exact_mod_cast h1)
      | ⟨2, _⟩ => exact Fin.ext (by exact_mod_cast h2)
    · rintro rfl a
      match a with
      | ⟨0, _⟩ => exact (congrArg₂ (· + ·) hs0 (congrArg Nat.cast hw0)).trans (zero_add _)
      | ⟨1, _⟩ => exact (congrArg₂ (· + ·) hs1 (congrArg Nat.cast hw1)).trans (zero_add _)
      | ⟨2, _⟩ => exact (congrArg₂ (· + ·) hs2 (congrArg Nat.cast hw2)).trans (zero_add _)
  have key := Routing.scatter_set_hit scatter_S50x256x128_S1_S50x199x128_012_n_1_0 (broadcastInDim S50x256x128 ![] bcast_S_S50x256x128 (constant (F := Ideal) S_ .f32 0x00000000#32))
    (broadcastInDim S1 ![] bcast_S_S1 (constantI S_ 32 0#32)) (shapeCast S50x199x128 w shapeCasts_S9950x128_S50x199x128) _ _ (fun q hq => congrArg _ ((hl q).1 hq)) (ix3 n m j) ((hl _).2 rfl)
  unfold paddedWeights
  generalize Host.scatter scatter_S50x256x128_S1_S50x199x128_012_n_1_0 (fun _ b => b) (broadcastInDim S50x256x128 ![] bcast_S_S50x256x128 (constant (F := Ideal) S_ .f32 0x00000000#32))
    (broadcastInDim S1 ![] bcast_S_S1 (constantI S_ 32 0#32)) (shapeCast S50x199x128 w shapeCasts_S9950x128_S50x199x128) = s at key ⊢
  have hm := m.isLt
  have h1 : (⟨(256 * n.val + m.val) / 256, by omega⟩ : Fin 50) = n := Fin.ext (by show (256 * n.val + m.val) / 256 = n.val; omega)
  have h2 : (⟨(256 * n.val + m.val) % 256, Nat.mod_lt _ (by norm_num)⟩ : Fin 256) = pad m := Fin.ext (by show (256 * n.val + m.val) % 256 = m.val; omega)
  have e : (shapeCast S12800x128 s shapeCasts_S50x256x128_S12800x128 (ix2 ⟨256 * n.val + m.val, by omega⟩ j) : EReal) = s (ix3 n (pad m) j) := by
    pointwise
    exact congrArg s (by rw [← h2])
  rw [e, key]
  pointwise
  refine congrArg w (congrArg (fun q => ix2 q j) (Fin.ext ?_))
  show n.val * 199 + m.val = 199 * n.val + m.val
  omega

/-- The padded weights are zero in a rank's other rows. -/
theorem paddedWeights_zero (w : FVec Ideal S9950x128 .f32) (n : Fin 50) (m : Fin 256) (hm : 199 ≤ m.val) (j : Fin 128) :
    (paddedWeights w (ix2 ⟨256 * n.val + m.val, by omega⟩ j) : EReal) = 0 := by
  have key := Routing.scatter_set_miss scatter_S50x256x128_S1_S50x199x128_012_n_1_0 (broadcastInDim S50x256x128 ![] bcast_S_S50x256x128 (constant (F := Ideal) S_ .f32 0x00000000#32))
    (broadcastInDim S1 ![] bcast_S_S1 (constantI S_ 32 0#32)) (shapeCast S50x199x128 w shapeCasts_S9950x128_S50x199x128) (ix3 n m j) (fun q hq => by
      have h1 := (Routing.resultIdx?_eq_some _ _ _ _).1 hq 1
      have hs1 : scatter_S50x256x128_S1_S50x199x128_012_n_1_0.start q (broadcastInDim S1 ![] bcast_S_S1 (constantI S_ 32 0#32)) 1 = 0 := rfl
      have hw1 : scatter_S50x256x128_S1_S50x199x128_012_n_1_0.window q 1 = (q 1).val := rfl
      rw [hs1, hw1, zero_add] at h1
      have h2 : (q 1).val = m.val := by exact_mod_cast h1
      have h3 : (q 1).val < 199 := (q 1).isLt
      omega)
  unfold paddedWeights
  generalize Host.scatter scatter_S50x256x128_S1_S50x199x128_012_n_1_0 (fun _ b => b) (broadcastInDim S50x256x128 ![] bcast_S_S50x256x128 (constant (F := Ideal) S_ .f32 0x00000000#32))
    (broadcastInDim S1 ![] bcast_S_S1 (constantI S_ 32 0#32)) (shapeCast S50x199x128 w shapeCasts_S9950x128_S50x199x128) = s at key ⊢
  have hm := m.isLt
  have h1 : (⟨(256 * n.val + m.val) / 256, by omega⟩ : Fin 50) = n := Fin.ext (by show (256 * n.val + m.val) / 256 = n.val; omega)
  have h2 : (⟨(256 * n.val + m.val) % 256, Nat.mod_lt _ (by norm_num)⟩ : Fin 256) = m := Fin.ext (by show (256 * n.val + m.val) % 256 = m.val; omega)
  have e : (shapeCast S12800x128 s shapeCasts_S50x256x128_S12800x128 (ix2 ⟨256 * n.val + m.val, by omega⟩ j) : EReal) = s (ix3 n m j) := by
    pointwise
  rw [e, key]
  pointwise

/-- The last layer's padded weights, in their one column. -/
theorem paddedLast_at (w : FVec Ideal S64x1 .f32) (c : Fin 64) : (paddedLast w (ix2 c 0) : EReal) = w (ix2 c 0) := by
  have hl : ∀ q : S64x1.Idx, scatter_S64x128_S1_S64x1_01_n_1_0.resultIdx? q (broadcastInDim S1 ![] bcast_S_S1 (constantI S_ 32 0#32)) = some (ix2 c 0) ↔ q = ix2 c 0 := fun q => by
    rw [Routing.resultIdx?_eq_some]
    have hs0 : scatter_S64x128_S1_S64x1_01_n_1_0.start q (broadcastInDim S1 ![] bcast_S_S1 (constantI S_ 32 0#32)) 0 = 0 := rfl
    have hs1 : scatter_S64x128_S1_S64x1_01_n_1_0.start q (broadcastInDim S1 ![] bcast_S_S1 (constantI S_ 32 0#32)) 1 = 0 := rfl
    have hw0 : scatter_S64x128_S1_S64x1_01_n_1_0.window q 0 = (q 0).val := rfl
    have hw1 : scatter_S64x128_S1_S64x1_01_n_1_0.window q 1 = (q 1).val := rfl
    constructor
    · intro h
      have h0 := h 0
      rw [hs0, hw0, zero_add] at h0
      funext a
      match a with
      | ⟨0, _⟩ => exact Fin.ext (by exact_mod_cast h0)
      | ⟨1, _⟩ => exact Subsingleton.elim (α := Fin 1) _ _
    · rintro rfl a
      match a with
      | ⟨0, _⟩ => exact (congrArg₂ (· + ·) hs0 (congrArg Nat.cast hw0)).trans (zero_add _)
      | ⟨1, _⟩ => exact (congrArg₂ (· + ·) hs1 (congrArg Nat.cast hw1)).trans (zero_add _)
  exact Routing.scatter_set_hit _ _ _ w _ _ (fun q hq => congrArg w ((hl q).1 hq)) (ix2 c 0) ((hl _).2 rfl)

/-- A gather of table rows into a rank-3 array, at one element: the row its start index names. -/
theorem gather_rank (x : FVec Ideal Cert.ReferenceIdeal.S10000x199 .f32) (idx : IVec Cert.ReferenceIdeal.S16x50x1 32) (b : Fin 16) (n : Fin 50) (c : Fin 199) (r : Fin 10000)
    (h : idx (ix3 b n 0) = BitVec.ofNat 32 r.val) :
    (Host.gather Cert.ReferenceIdeal.gather_S10000x199_S16x50x1_S16x50x199_2_0_n_n_0_2_1199 x idx (ix3 b n c) : EReal) = x (ix2 r c) := by
  set d := Cert.ReferenceIdeal.gather_S10000x199_S16x50x1_S16x50x199_2_0_n_n_0_2_1199 with hd
  have hsi : d.siIdx (ix3 b n c) (0 : Fin 1) = ix3 b n 0 := by
    funext a
    match a with
    | ⟨0, _⟩ => rfl
    | ⟨1, _⟩ => rfl
    | ⟨2, _⟩ => rfl
  have hr := r.isLt
  have hs0 : d.start (ix3 b n c) idx 0 = r.val := by
    have e : d.start (ix3 b n c) idx 0 = min (idx (d.siIdx (ix3 b n c) (0 : Fin 1))).toInt.toNat (10000 - 1) := rfl
    rw [e, hsi, h, StableHlo.Predicate.toInt_ofNat_small _ (by omega)]
    omega
  have hs1 : d.start (ix3 b n c) idx 1 = 0 := rfl
  unfold Host.gather
  refine congrArg x (funext fun a => Fin.ext ?_)
  match a with
  | ⟨0, _⟩ =>
    show d.start (ix3 b n c) idx 0 + 0 + 0 = r.val
    rw [hs0, Nat.add_zero]
  | ⟨1, _⟩ =>
    show d.start (ix3 b n c) idx 1 + 0 + c.val = c.val
    rw [hs1]; omega

/-- The reference's selected rows, at one element. -/
theorem topRef_at (d : FVec Ideal Cert.ReferenceIdeal.S10000x199 .f32) (s : FVec Ideal S16 .f32) (t : IVec S16x50 32) (b : Fin 16) (n : Fin 50) (r : Fin 10000)
    (h : t (ix2 b n) = BitVec.ofNat 32 r.val) (m : Fin 199) :
    (topRef d s t (ix3 b n m) : EReal) = if (((n.val : ℕ) : ℝ) : EReal) < s (ix1 b) then (d (ix2 r m) : EReal) else 0 := by
  have hg := gather_rank d (broadcastInDim Cert.ReferenceIdeal.S16x50x1 ![0, 1] Cert.ReferenceIdeal.Gen.facts.bcast_S16x50_S16x50x1_0_1
      (select (cmpi .slt t (broadcastInDim S16x50 ![] Cert.ReferenceIdeal.Gen.facts.bcast_S_S16x50 (constantI S_ 32 0#32)))
        (addi t (broadcastInDim S16x50 ![] Cert.ReferenceIdeal.Gen.facts.bcast_S_S16x50 (constantI S_ 32 10000#32))) t)) b n m r (by
    pointwise
    rw [h]
    exact wrap_node r)
  unfold topRef
  generalize Host.gather Cert.ReferenceIdeal.gather_S10000x199_S16x50x1_S16x50x199_2_0_n_n_0_2_1199 d _ = G at hg ⊢
  have hn : (BitVec.ofNat 32 n.val).toInt = (n.val : Int) := StableHlo.Predicate.toInt_ofNat_small _ (by omega)
  have hf : (FloatOps.sitofp (F := Ideal) .f32 (BitVec.ofNat 32 n.val) : EReal) = (((n.val : ℕ) : ℝ) : EReal) := by
    show (((BitVec.ofNat 32 n.val).toInt : ℝ) : EReal) = _
    rw [hn, Int.cast_natCast]
  pointwise
  rw [hf, hg]

end Cert.Proof.Hist

end
-- ==== Proof.Classifier.lean ====
/-
  The classifier, over the extended reals: what the third TensorCore body computes from the table of selected rows and the
  padded weights is the reference's expression of the distances and the classifier's arguments.
-/
module

public import proofs.«01_k».proof.Proof.Select
public import proofs.«01_k».proof.Proof.RegionC

@[expose] public section

set_option maxRecDepth 16384

noncomputable section

namespace Cert.Proof.Hist

open Idealize.ShloMosaic

/-! ## The reference's expressions -/

section Reference

open Cert.ReferenceIdeal Cert.ReferenceIdeal.Gen

/-- The first layer: all the selected distances of a graph as one row, times the weights, plus the bias. -/
def firstRef (t : FVec Ideal S16x50x199 .f32) (w : FVec Ideal S9950x128 .f32) (b : FVec Ideal S128 .f32) : FVec Ideal S16x128 .f32 :=
  addf (Host.dotGeneral dot_S16x9950_S9950x128_S16x128_1_0_0_1_n_n none (shapeCast S16x9950 t shapeCasts_S16x50x199_S16x9950) w)
    (broadcastInDim S16x128 ![0, 1] bcast_S1x128_S16x128_0_1 (broadcastInDim S1x128 ![1] bcast_S128_S1x128_1 b))

/-- The mean of each row of the first layer. -/
def mean1 (a : FVec Ideal S16x128 .f32) : FVec Ideal S16x1 .f32 :=
  Host.divf (broadcastInDim S16x1 ![0] bcast_S16_S16x1_0 (Host.reduceAdd a (constant S_ .f32 0x00000000#32) reducesTo_S16x128_S16_d1 h_S_))
    (broadcastInDim S16x1 ![] bcast_S_S16x1 (constant S_ .f32 0x43000000#32))

/-- The first layer less its rows' means. -/
def centred1 (a : FVec Ideal S16x128 .f32) : FVec Ideal S16x128 .f32 := subf a (broadcastInDim S16x128 ![0, 1] bcast_S16x1_S16x128_0_1 (mean1 a))

/-- The second layer, from the first's rows normalised, scaled, shifted and clipped at zero. -/
def secondRef (a : FVec Ideal S16x128 .f32) (s o : FVec Ideal S128 .f32) (w : FVec Ideal S128x64 .f32) (b : FVec Ideal S64 .f32) : FVec Ideal S16x64 .f32 :=
  addf (Host.dotGeneral dot_S16x128_S128x64_S16x64_1_0_0_1_n_n none (maximumf (addf (mulf (Host.divf (subf a (broadcastInDim S16x128 ![0, 1] bcast_S16x1_S16x128_0_1 (mean1 a)))
      (broadcastInDim S16x128 ![0, 1] bcast_S16x1_S16x128_0_1 (Host.sqrt (addf (Host.divf (broadcastInDim S16x1 ![0] bcast_S16_S16x1_0
        (Host.reduceAdd (mulf (centred1 a) (centred1 a)) (constant S_ .f32 0x00000000#32) reducesTo_S16x128_S16_d1 h_S_))
        (broadcastInDim S16x1 ![] bcast_S_S16x1 (constant S_ .f32 0x43000000#32))) (broadcastInDim S16x1 ![] bcast_S_S16x1 (constant S_ .f32 0x3727C5AC#32))))))
      (broadcastInDim S16x128 ![0, 1] bcast_S1x128_S16x128_0_1 (broadcastInDim S1x128 ![1] bcast_S128_S1x128_1 s)))
      (broadcastInDim S16x128 ![0, 1] bcast_S1x128_S16x128_0_1 (broadcastInDim S1x128 ![1] bcast_S128_S1x128_1 o)))
      (broadcastInDim S16x128 ![] bcast_S_S16x128 (constant S_ .f32 0x00000000#32))) w)
    (broadcastInDim S16x64 ![0, 1] bcast_S1x64_S16x64_0_1 (broadcastInDim S1x64 ![1] bcast_S64_S1x64_1 b))

/-- The mean of each row of the second layer. -/
def mean2 (a : FVec Ideal S16x64 .f32) : FVec Ideal S16x1 .f32 :=
  Host.divf (broadcastInDim S16x1 ![0] bcast_S16_S16x1_0 (Host.reduceAdd a (constant S_ .f32 0x00000000#32) reducesTo_S16x64_S16_d1 h_S_))
    (broadcastInDim S16x1 ![] bcast_S_S16x1 (constant S_ .f32 0x42800000#32))

/-- The second layer less its rows' means. -/
def centred2 (a : FVec Ideal S16x64 .f32) : FVec Ideal S16x64 .f32 := subf a (broadcastInDim S16x64 ![0, 1] bcast_S16x1_S16x64_0_1 (mean2 a))

/-- The result, from the second layer: normalised, scaled, shifted, clipped, the last layer, and the logistic function. -/
def scoreRef (a : FVec Ideal S16x64 .f32) (s o : FVec Ideal S64 .f32) (w : FVec Ideal S64x1 .f32) (b : FVec Ideal S1 .f32) : FVec Ideal S16x1 .f32 :=
  Host.divf (broadcastInDim S16x1 ![] bcast_S_S16x1 (constant S_ .f32 0x3F800000#32)) (addf (broadcastInDim S16x1 ![] bcast_S_S16x1 (constant S_ .f32 0x3F800000#32))
    (Host.exp (Host.negf (addf (Host.dotGeneral dot_S16x64_S64x1_S16x1_1_0_0_1_n_n none (maximumf (addf (mulf (Host.divf (subf a (broadcastInDim S16x64 ![0, 1] bcast_S16x1_S16x64_0_1 (mean2 a)))
      (broadcastInDim S16x64 ![0, 1] bcast_S16x1_S16x64_0_1 (Host.sqrt (addf (Host.divf (broadcastInDim S16x1 ![0] bcast_S16_S16x1_0
        (Host.reduceAdd (mulf (centred2 a) (centred2 a)) (constant S_ .f32 0x00000000#32) reducesTo_S16x64_S16_d1 h_S_))
        (broadcastInDim S16x1 ![] bcast_S_S16x1 (constant S_ .f32 0x42800000#32))) (broadcastInDim S16x1 ![] bcast_S_S16x1 (constant S_ .f32 0x3727C5AC#32))))))
      (broadcastInDim S16x64 ![0, 1] bcast_S1x64_S16x64_0_1 (broadcastInDim S1x64 ![1] bcast_S64_S1x64_1 s)))
      (broadcastInDim S16x64 ![0, 1] bcast_S1x64_S16x64_0_1 (broadcastInDim S1x64 ![1] bcast_S64_S1x64_1 o)))
      (broadcastInDim S16x64 ![] bcast_S_S16x64 (constant S_ .f32 0x00000000#32))) w)
      (broadcastInDim S16x1 ![0, 1] bcast_S1x1_S16x1_0_1 (broadcastInDim S1x1 ![1] bcast_S1_S1x1_1 b))))))

end Reference

open Cert.KernelIdeal Cert.KernelIdeal.Gen

/-! ## The later layers -/

/-- The body's second layer is the reference's. -/
theorem second_eq (a : FVec Ideal S16x128 .f32) (s o : FVec Ideal S128 .f32) (w : FVec Ideal S128x64 .f32) (b : FVec Ideal S64 .f32) :
    k3_pay91 (F := Ideal) a (k3_pay89 (F := Ideal) (shapeCast S1x128 s shapeCasts_S128_S1x128)) (k3_pay90 (F := Ideal) (shapeCast S1x128 o shapeCasts_S128_S1x128)) w
      (shapeCast S1x64 b shapeCasts_S64_S1x64) = secondRef a s o w b := by
  funext j
  obtain ⟨n, c, rfl⟩ : ∃ (n : Fin 16) (c : Fin 64), j = ix2 n c := ⟨j 0, j 1, by funext a; match a with | ⟨0, _⟩ => rfl | ⟨1, _⟩ => rfl⟩
  pointwise [k3_pay91, k3_pay90, k3_pay89, secondRef, centred1, mean1]

/-- The body's result, in its first column, is the reference's, which adds a last bias of zero. -/
theorem score_eq (a : FVec Ideal S16x128 .f32) (s o : FVec Ideal S128 .f32) (w : FVec Ideal S128x64 .f32) (b : FVec Ideal S64 .f32)
    (s2 o2 : FVec Ideal S64 .f32) (w3 : FVec Ideal S64x1 .f32) (b3 : FVec Ideal S1 .f32) (hb : (b3 (ix1 0) : EReal) = 0) (n : Fin 16)
    (a5 a6 : FVec Ideal S1x128 .f32) (a8 : FVec Ideal S1x64 .f32) (h : k3_pay91 (F := Ideal) a a5 a6 w a8 = secondRef a s o w b) :
    (k3_pay96 (F := Ideal) (k3_pay91 (F := Ideal) a a5 a6 w a8) (k3_pay92 (F := Ideal) (shapeCast S1x64 s2 shapeCasts_S64_S1x64))
      (k3_pay93 (F := Ideal) (shapeCast S1x64 o2 shapeCasts_S64_S1x64)) (k3_pay94 (F := Ideal) a a5 a6 w a8) (k3_pay95 (F := Ideal) a a5 a6 w a8) (paddedLast w3) (ix2 n 0) : EReal)
    = scoreRef (secondRef a s o w b) s2 o2 w3 b3 (ix2 n 0) := by
  have hw := paddedLast_at w3
  unfold k3_pay95 k3_pay94
  rw [h]
  generalize secondRef a s o w b = x
  generalize paddedLast w3 = w3' at hw ⊢
  pointwise [k3_pay96, k3_pay93, k3_pay92, scoreRef, centred2, mean2]
  simp only [hw]
  rw [hb, add_zero]
  rfl

/-! ## The first layer -/

/-- The bit patterns are those of the numbers they stand for. -/
theorem num_bits (n : ℕ) (h : n < 50) : Ideal.ofBits .f32 (C.numBits.getD n 0#32) = ((n : ℝ) : EReal) := by
  interval_cases n <;> simp [C.numBits, Ideal.ofBits, Ideal.ieee, -EReal.coe_mul] <;> norm_num

/-- A rank's block of selected rows, at one element. -/
theorem rowsAt_at (x0 : FVec Ideal S1024x128 .f32) (n : Fin 50) (b : Fin 16) (c : Fin 64) :
    (C.rowsAt (F := Ideal) x0 n.val n.isLt (ix2 b c) : EReal) = x0 (ix2 (Fin.castLE (by norm_num : 800 ≤ 1024) (slot n b)) (Fin.castLE (by norm_num : 64 ≤ 128) c)) := by
  refine congrArg x0 (funext fun a => ?_)
  match a with
  | ⟨0, _⟩ => exact Fin.ext (by show 16 * n.val + 1 * b.val = 16 * n.val + b.val; omega)
  | ⟨1, _⟩ => exact Fin.ext (by show 0 + 1 * c.val = c.val; omega)

/-- A rank's block of weights, at one element. -/
theorem weightsAt_at (x3 : FVec Ideal S12800x128 .f32) (n : Fin 50) (m : Fin 256) (j : Fin 128) :
    (C.weightsAt (F := Ideal) x3 n.val n.isLt (ix2 m j) : EReal) = x3 (ix2 ⟨256 * n.val + m.val, by omega⟩ j) := by
  refine congrArg x3 (funext fun a => ?_)
  match a with
  | ⟨0, _⟩ => exact Fin.ext (by show 256 * n.val + 1 * m.val = 256 * n.val + m.val; omega)
  | ⟨1, _⟩ => exact Fin.ext (by show 0 + 1 * j.val = j.val; omega)

/-- The body's distances of a rank, at one node of the small graph, are the reference's. -/
theorem distAt_at (x1 : FVec Ideal S256x64 .f32) (s : FVec Ideal S16x1 .f32) (o : FVec Ideal S10000x64 .f32) (g : FVec Ideal Cert.ReferenceIdeal.S199x64 .f32)
    (hg : ∀ (m : Fin 199) (c : Fin 64), (x1 (ix2 (pad m) c) : EReal) = g (ix2 m c)) (n : Fin 50) (v : FVec Ideal S16x64 .f32) (b : Fin 16) (r : Fin 10000)
    (hv : ∀ c : Fin 64, (v (ix2 b c) : EReal) = o (ix2 r c)) (m : Fin 199) :
    (C.distAt (F := Ideal) (k3_pay2 x1) (k3_pay3 x1) (k3_pay4 s) n.val v (ix2 b (pad m)) : EReal)
      = if ((n.val : ℝ) : EReal) < s (ix2 b 0) then (distRef o g (ix2 r m) : EReal) else 0 := by
  have hn := num_bits n.val n.isLt
  unfold C.distAt
  pointwise [k3_pay1, k3_pay2, k3_pay3, k3_pay4, distRef]
  simp only [hg, hv, hn]

/-- The first layer's sum over the first ranks, at one element. -/
theorem accAt_at (x0 : FVec Ideal S1024x128 .f32) (x1 : FVec Ideal S256x64 .f32) (x2 : FVec Ideal S16x1 .f32) (x3 : FVec Ideal S12800x128 .f32) (b : Fin 16) (j : Fin 128) :
    ∀ (n : ℕ) (h : n ≤ 50), (C.accAt (F := Ideal) x0 x1 x2 x3 n h (ix2 b j) : EReal)
      = ∑ k : Fin n, ∑ m : Fin 256, (C.distAt (F := Ideal) (k3_pay2 x1) (k3_pay3 x1) (k3_pay4 x2) k.val (C.rowsAt x0 k.val (lt_of_lt_of_le k.isLt h)) (ix2 b m) : EReal)
          * C.weightsAt (F := Ideal) x3 k.val (lt_of_lt_of_le k.isLt h) (ix2 m j)
  | 0, _ => Ideal.ofBits_zero_f32.trans (Finset.sum_empty).symm
  | n + 1, h => by
    rw [Fin.sum_univ_castSucc]
    have ih := accAt_at x0 x1 x2 x3 b j n (Nat.le_of_succ_le h)
    refine Eq.trans ?_ (congrArg₂ (· + ·) ih rfl)
    rw [show C.accAt (F := Ideal) x0 x1 x2 x3 (n + 1) h = addf (C.accAt x0 x1 x2 x3 n (Nat.le_of_succ_le h))
      (matmul dot_S16x256_S256x128_S16x128_1_0_0_1_n_n none (C.distAt (k3_pay2 x1) (k3_pay3 x1) (k3_pay4 x2) n (C.rowsAt x0 n h))
        (shapeCast S256x128 (C.weightsAt x3 n h) shapeCasts_S256x128_S256x128) (constant S16x128 .f32 0x00000000#32)) from rfl]
    generalize C.accAt (F := Ideal) x0 x1 x2 x3 n (Nat.le_of_succ_le h) = A
    show _ = (A (ix2 b j) : EReal) + ∑ m : Fin 256, (C.distAt (F := Ideal) (k3_pay2 x1) (k3_pay3 x1) (k3_pay4 x2) n (C.rowsAt x0 n h) (ix2 b m) : EReal)
          * C.weightsAt (F := Ideal) x3 n h (ix2 m j)
    generalize C.distAt (F := Ideal) (k3_pay2 x1) (k3_pay3 x1) (k3_pay4 x2) n (C.rowsAt x0 n h) = D
    generalize C.weightsAt (F := Ideal) x3 n h = W
    pointwise

/-- A sum over 256 columns whose last 57 terms are zero. -/
theorem sum_padded (f : Fin 256 → EReal) (h : ∀ m : Fin 256, 199 ≤ m.val → f m = 0) : ∑ m, f m = ∑ m : Fin 199, f (pad m) := by
  rw [show ∑ m, f m = ∑ m : Fin (199 + 57), f m from rfl, Fin.sum_univ_add]
  rw [Finset.sum_eq_zero (s := (Finset.univ : Finset (Fin 57))) (fun m _ => h _ (Nat.le_add_right 199 m.val)), add_zero]
  rfl

/-- A sum over a graph's 9950 distances, rank by rank. -/
theorem sum_ranks (f : Fin 9950 → EReal) : ∑ q, f q = ∑ n : Fin 50, ∑ m : Fin 199, f ⟨199 * n.val + m.val, by omega⟩ := by
  rw [← Fintype.sum_prod_type' (fun (n : Fin 50) (m : Fin 199) => f ⟨199 * n.val + m.val, by omega⟩)]
  refine (Fintype.sum_equiv (finProdFinEquiv : Fin 50 × Fin 199 ≃ Fin (50 * 199)) _ _ fun p => ?_).symm
  exact congrArg f (Fin.ext (Nat.add_comm _ _))

/-- The reference's first layer, at one element. -/
theorem firstRef_at (t : FVec Ideal Cert.ReferenceIdeal.S16x50x199 .f32) (w : FVec Ideal S9950x128 .f32) (b : FVec Ideal S128 .f32) (i : Fin 16) (j : Fin 128) :
    (firstRef t w b (ix2 i j) : EReal) = (∑ n : Fin 50, ∑ m : Fin 199, (t (ix3 i n m) : EReal) * w (ix2 ⟨199 * n.val + m.val, by omega⟩ j)) + b (ix1 j) := by
  have e : ∀ (n : Fin 50) (m : Fin 199), (shapeCast Cert.ReferenceIdeal.S16x9950 t Cert.ReferenceIdeal.Gen.facts.shapeCasts_S16x50x199_S16x9950
      (ix2 i ⟨199 * n.val + m.val, by omega⟩) : EReal) = t (ix3 i n m) := fun n m => by
    have hm := m.isLt
    have hi := i.isLt
    have h1 : (⟨(199 * n.val + m.val) / 199, by omega⟩ : Fin 50) = n := Fin.ext (by show (199 * n.val + m.val) / 199 = n.val; omega)
    have h2 : (⟨(199 * n.val + m.val) % 199, Nat.mod_lt _ (by norm_num)⟩ : Fin 199) = m := Fin.ext (by show (199 * n.val + m.val) % 199 = m.val; omega)
    pointwise
  unfold firstRef
  generalize shapeCast Cert.ReferenceIdeal.S16x9950 t Cert.ReferenceIdeal.Gen.facts.shapeCasts_S16x50x199_S16x9950 = u at e ⊢
  simp only [← e]
  rw [← sum_ranks (fun q => (u (ix2 i q) : EReal) * w (ix2 q j))]
  pointwise

/-- The body's first layer is the reference's. -/
theorem first_eq (o : FVec Ideal S10000x64 .f32) (g : FVec Ideal Cert.ReferenceIdeal.S199x64 .f32) (s : FVec Ideal S16 .f32) (t : IVec S16x50 32) (r : Fin 16 → Fin 50 → Fin 10000)
    (ht : ∀ b n, t (ix2 b n) = BitVec.ofNat 32 (r b n).val) (w : FVec Ideal S9950x128 .f32) (b1 : FVec Ideal S128 .f32)
    (x0 : FVec Ideal S1024x128 .f32) (h0 : ∀ b n (c : Fin 64), (x0 (ix2 (Fin.castLE (by norm_num : 800 ≤ 1024) (slot n b)) (Fin.castLE (by norm_num : 64 ≤ 128) c)) : EReal) = o (ix2 (r b n) c))
    (x1 : FVec Ideal S256x64 .f32) (h1 : ∀ (m : Fin 199) (c : Fin 64), (x1 (ix2 (pad m) c) : EReal) = g (ix2 m c))
    (x2 : FVec Ideal S16x1 .f32) (h2 : ∀ b : Fin 16, (x2 (ix2 b 0) : EReal) = s (ix1 b)) :
    addf (C.accAt (F := Ideal) x0 x1 x2 (paddedWeights w) 50 (Nat.le_refl 50)) (broadcastTo S16x128 (shapeCast S1x128 (shapeCast S1x128 b1 shapeCasts_S128_S1x128) shapeCasts_S1x128_S1x128) broadcasts_S1x128_S16x128)
      = firstRef (topRef (distRef o g) s t) w b1 := by
  funext q
  obtain ⟨b, j, rfl⟩ : ∃ (b : Fin 16) (j : Fin 128), q = ix2 b j := ⟨q 0, q 1, by funext a; match a with | ⟨0, _⟩ => rfl | ⟨1, _⟩ => rfl⟩
  rw [firstRef_at]
  have ha := accAt_at x0 x1 x2 (paddedWeights w) b j 50 (Nat.le_refl 50)
  generalize C.accAt (F := Ideal) x0 x1 x2 (paddedWeights w) 50 (Nat.le_refl 50) = A at ha ⊢
  have e : (A (ix2 b j) : EReal) = ∑ n : Fin 50, ∑ m : Fin 199, (topRef (distRef o g) s t (ix3 b n m) : EReal) * w (ix2 ⟨199 * n.val + m.val, by omega⟩ j) := by
    rw [ha]
    refine Finset.sum_congr rfl fun n _ => ?_
    rw [sum_padded _ fun m hm => by rw [weightsAt_at _ n m j, paddedWeights_zero w n m hm j, mul_zero]]
    refine Finset.sum_congr rfl fun m _ => ?_
    rw [weightsAt_at _ n (pad m) j, distAt_at x1 x2 o g h1 n _ b (r b n) (fun c => (rowsAt_at x0 n b c).trans (h0 b n c)) m, topRef_at _ s t b n (r b n) (ht b n) m, h2]
    exact congrArg _ (paddedWeights_at w n m j)
  rw [← e]
  pointwise

/-- The body's result, without its padding, is the reference's. -/
theorem class_eq (o : FVec Ideal S10000x64 .f32) (g : FVec Ideal Cert.ReferenceIdeal.S199x64 .f32) (s : FVec Ideal S16 .f32) (t : IVec S16x50 32) (r : Fin 16 → Fin 50 → Fin 10000)
    (ht : ∀ b n, t (ix2 b n) = BitVec.ofNat 32 (r b n).val) (w : FVec Ideal S9950x128 .f32) (b1 : FVec Ideal S128 .f32)
    (x0 : FVec Ideal S1024x128 .f32) (h0 : ∀ b n (c : Fin 64), (x0 (ix2 (Fin.castLE (by norm_num : 800 ≤ 1024) (slot n b)) (Fin.castLE (by norm_num : 64 ≤ 128) c)) : EReal) = o (ix2 (r b n) c))
    (x1 : FVec Ideal S256x64 .f32) (h1 : ∀ (m : Fin 199) (c : Fin 64), (x1 (ix2 (pad m) c) : EReal) = g (ix2 m c))
    (x2 : FVec Ideal S16x1 .f32) (h2 : ∀ b : Fin 16, (x2 (ix2 b 0) : EReal) = s (ix1 b))
    (s1 o1 : FVec Ideal S128 .f32) (w2 : FVec Ideal S128x64 .f32) (b2 s2 o2 : FVec Ideal S64 .f32) (w3 : FVec Ideal S64x1 .f32) (b3 : FVec Ideal S1 .f32) (hb : (b3 (ix1 0) : EReal) = 0) :
    extractStridedSlice S16x1 ![0, 0] (C.classOf (F := Ideal) x0 x1 x2 (paddedWeights w) (shapeCast S1x128 b1 shapeCasts_S128_S1x128) (shapeCast S1x128 s1 shapeCasts_S128_S1x128)
      (shapeCast S1x128 o1 shapeCasts_S128_S1x128) w2 (shapeCast S1x64 b2 shapeCasts_S64_S1x64) (shapeCast S1x64 s2 shapeCasts_S64_S1x64) (shapeCast S1x64 o2 shapeCasts_S64_S1x64)
      (paddedLast w3)) slices_S16x128_S16x1_0_0
    = scoreRef (secondRef (firstRef (topRef (distRef o g) s t) w b1) s1 o1 w2 b2) s2 o2 w3 b3 := by
  have cut : ∀ (X : FVec Ideal S16x128 .f32) (n : Fin 16), (extractStridedSlice S16x1 ![0, 0] X slices_S16x128_S16x1_0_0 (ix2 n 0) : EReal) = X (ix2 n 0) := fun X n => by
    pointwise
  funext q
  obtain ⟨n, rfl⟩ : ∃ n : Fin 16, q = ix2 n 0 := ⟨q 0, by funext a; match a with | ⟨0, _⟩ => rfl | ⟨1, _⟩ => exact Subsingleton.elim (α := Fin 1) _ _⟩
  rw [cut]
  unfold C.classOf C.headOf
  rw [first_eq o g s t r ht w b1 x0 h0 x1 h1 x2 h2]
  exact score_eq _ s1 o1 w2 b2 s2 o2 w3 b3 hb n _ _ _ (second_eq _ s1 o1 w2 b2)

end Cert.Proof.Hist

end
-- ==== Proof.Bridge.lean ====
/-
  What the run leaves in the result, over the extended reals, is what the reference leaves.
-/
module

public import proofs.«01_k».proof.Proof.Values
public import proofs.«01_k».proof.Proof.Classifier
public import proofs.«01_k».proof.Proof.Gen.ReferenceIdeal.Run
public import proofs.«01_k».proof.Proof.Gen.Pre_drawn

@[expose] public section

set_option maxRecDepth 16384

noncomputable section

namespace Cert.Proof.Hist

open Cert.KernelIdeal Cert.KernelIdeal.Gen
open Idealize.ShloMosaic
open Idealize.ShloMosaic.SparseCore (T)
open Idealize.SL.Sem

/-- A row of the small graph's edge list. -/
def edge2Row (e : IVec S2x3184 32) (k : Fin 2) : IVec S3184 32 := match k with
  | 0 => shapeCast S3184 (extractStridedSlice S1x3184 ![0, 0] e slices_S2x3184_S1x3184_0_0) shapeCasts_S1x3184_S3184
  | 1 => shapeCast S3184 (extractStridedSlice S1x3184 ![1, 0] e slices_S2x3184_S1x3184_1_0) shapeCasts_S1x3184_S3184

/-- Its words are in the range the list's are. -/
theorem edge2Row_lt {e : IVec S2x3184 32} (he : ∀ j, (e j).toNat < 199) (k : Fin 2) (j : S3184.Idx) : (edge2Row e k j).toNat < 199 := by
  match k with
  | 0 => exact he _
  | 1 => exact he _

/-- The reference's large embedding, over its arguments. -/
def out1Of (x : FVec Ideal S10000x128 .f32) (e : Vec Ideal S2x640000 .i32) (wl : FVec Ideal S128x128 .f32) (b : FVec Ideal S128 .f32)
    (wr : FVec Ideal S128x128 .f32) (wl2 : FVec Ideal S128x64 .f32) (b2 : FVec Ideal S64 .f32) (wr2 : FVec Ideal S128x64 .f32) : FVec Ideal S10000x64 .f32 :=
  have src : IVec S640000 32 := edgeRow e 0
  have dst : IVec S640000 32 := edgeRow e 1
  have h : FVec Ideal S10000x128 .f32 := hiddenRef x (aggRef x src dst) (degRef dst) wl b wr
  outRef h (aggRef h src dst) (degRef dst) wl2 b2 wr2

/-- The reference's small embedding, over its arguments. -/
def out2Of (x : FVec Ideal Cert.ReferenceIdeal.S199x128 .f32) (e : IVec S2x3184 32) (wl : FVec Ideal S128x128 .f32) (b : FVec Ideal S128 .f32)
    (wr : FVec Ideal S128x128 .f32) (wl2 : FVec Ideal S128x64 .f32) (b2 : FVec Ideal S64 .f32) (wr2 : FVec Ideal S128x64 .f32) : FVec Ideal Cert.ReferenceIdeal.S199x64 .f32 :=
  have src : IVec S3184 32 := edge2Row e 0
  have dst : IVec S3184 32 := edge2Row e 1
  have h : FVec Ideal Cert.ReferenceIdeal.S199x128 .f32 := hidden2Ref x (agg2Ref x src dst) (deg2Ref dst) wl b wr
  out2Ref h (agg2Ref h src dst) (deg2Ref dst) wl2 b2 wr2

section Run

variable (m : (ℓ : Loc nD τ sig) → Buf (Elt Ideal) ℓ) (d : Dev nD)

/-- The operations between the calls, from any contents: the summed messages. -/
theorem after1_v14 (W : Valuation τ sig (Elt Ideal)) : StableHlo.after ops1 W (Proc.devRef .tc main_v14)
    = aggRef (W (Proc.devRef .tc main_arg0)) (W (Proc.devRef .tc main_v1)) (W (Proc.devRef .tc main_v3)) := by
  simp only [ops1]
  after_results_simp <;> rfl
/-- The transposed rows. -/
theorem after1_v15 (W : Valuation τ sig (Elt Ideal)) : StableHlo.after ops1 W (Proc.devRef .tc main_v15)
    = transpose S10000x32 [1, 0] (W (Proc.devRef .tc main_v4) : Vec Ideal S32x10000 .f32) transposes_S32x10000_S10000x32_1_0 := by
  simp only [ops1]
  after_results_simp <;> rfl
/-- The first bias as a row. -/
theorem after1_v16 (W : Valuation τ sig (Elt Ideal)) : StableHlo.after ops1 W (Proc.devRef .tc main_v16)
    = shapeCast S1x128 (W (Proc.devRef .tc main_arg6) : Vec Ideal S128 .f32) shapeCasts_S128_S1x128 := by
  simp only [ops1]
  after_results_simp <;> rfl
/-- The second bias as a row. -/
theorem after1_v17 (W : Valuation τ sig (Elt Ideal)) : StableHlo.after ops1 W (Proc.devRef .tc main_v17)
    = shapeCast S1x64 (W (Proc.devRef .tc main_arg9) : Vec Ideal S64 .f32) shapeCasts_S64_S1x64 := by
  simp only [ops1]
  after_results_simp <;> rfl

/-- The operations before the second TensorCore call, from any contents: the summed projected messages. -/
theorem after2_v34 (W : Valuation τ sig (Elt Ideal)) : StableHlo.after ops2 W (Proc.devRef .tc main_v34)
    = msumOf (W (Proc.devRef .tc main_v18_0)) (edgeRow (F := Ideal) (W (Proc.devRef .tc main_arg1)) 0) (edgeRow (F := Ideal) (W (Proc.devRef .tc main_arg1)) 1) := by
  simp only [ops2]
  after_results_simp <;> rfl
/-- The padded rows of the small graph. -/
theorem after2_v37 (W : Valuation τ sig (Elt Ideal)) : StableHlo.after ops2 W (Proc.devRef .tc main_v37) = padRows (W (Proc.devRef .tc main_arg3)) := by
  simp only [ops2]
  after_results_simp <;> rfl
/-- The small graph's source words as a column. -/
theorem after2_v40 (W : Valuation τ sig (Elt Ideal)) : StableHlo.after ops2 W (Proc.devRef .tc main_v40) = col2 (edge2Row (W (Proc.devRef .tc main_arg4)) 0) := by
  simp only [ops2]
  after_results_simp <;> rfl
/-- The small graph's destination words as a column. -/
theorem after2_v43 (W : Valuation τ sig (Elt Ideal)) : StableHlo.after ops2 W (Proc.devRef .tc main_v43) = col2 (edge2Row (W (Proc.devRef .tc main_arg4)) 1) := by
  simp only [ops2]
  after_results_simp <;> rfl
/-- The batch words as a column. -/
theorem after2_v44 (W : Valuation τ sig (Elt Ideal)) : StableHlo.after ops2 W (Proc.devRef .tc main_v44)
    = shapeCast S10000x1 (W (Proc.devRef .tc main_arg2) : Vec Ideal S10000 .i32) shapeCasts_S10000_S10000x1 := by
  simp only [ops2]
  after_results_simp <;> rfl
/-- The first bias as a row, again. -/
theorem after2_v45 (W : Valuation τ sig (Elt Ideal)) : StableHlo.after ops2 W (Proc.devRef .tc main_v45)
    = shapeCast S1x128 (W (Proc.devRef .tc main_arg6) : Vec Ideal S128 .f32) shapeCasts_S128_S1x128 := by
  simp only [ops2]
  after_results_simp <;> rfl
/-- The second bias as a row, again. -/
theorem after2_v46 (W : Valuation τ sig (Elt Ideal)) : StableHlo.after ops2 W (Proc.devRef .tc main_v46)
    = shapeCast S1x64 (W (Proc.devRef .tc main_arg9) : Vec Ideal S64 .f32) shapeCasts_S64_S1x64 := by
  simp only [ops2]
  after_results_simp <;> rfl
/-- The operations before the third TensorCore call, from any contents: the table of selected rows. -/
theorem after3_v68 (W : Valuation τ sig (Elt Ideal)) : StableHlo.after ops3 W (Proc.devRef .tc main_v68)
    = pickedRows (W (Proc.devRef .tc main_v47_0)) (picked (W (Proc.devRef .tc main_v47_2)) (W (Proc.devRef .tc main_arg2))) := by
  simp only [ops3]
  after_results_simp <;> rfl
/-- The padded weights. -/
theorem after3_v73 (W : Valuation τ sig (Elt Ideal)) : StableHlo.after ops3 W (Proc.devRef .tc main_v73) = paddedWeights (W (Proc.devRef .tc main_arg11)) := by
  simp only [ops3]
  after_results_simp <;> rfl
/-- The last layer's padded weights. -/
theorem after3_v76 (W : Valuation τ sig (Elt Ideal)) : StableHlo.after ops3 W (Proc.devRef .tc main_v76) = paddedLast (W (Proc.devRef .tc main_arg19)) := by
  simp only [ops3]
  after_results_simp <;> rfl
/-- The counts as a column. -/
theorem after3_v77 (W : Valuation τ sig (Elt Ideal)) : StableHlo.after ops3 W (Proc.devRef .tc main_v77)
    = shapeCast S16x1 (W (Proc.devRef .tc main_v47_3) : Vec Ideal S1x16 .f32) shapeCasts_S1x16_S16x1 := by
  simp only [ops3]
  after_results_simp <;> rfl
/-- The first layer's bias as a row. -/
theorem after3_v78 (W : Valuation τ sig (Elt Ideal)) : StableHlo.after ops3 W (Proc.devRef .tc main_v78)
    = shapeCast S1x128 (W (Proc.devRef .tc main_arg12) : Vec Ideal S128 .f32) shapeCasts_S128_S1x128 := by
  simp only [ops3]
  after_results_simp <;> rfl
/-- The first normalisation's scale as a row. -/
theorem after3_v79 (W : Valuation τ sig (Elt Ideal)) : StableHlo.after ops3 W (Proc.devRef .tc main_v79)
    = shapeCast S1x128 (W (Proc.devRef .tc main_arg13) : Vec Ideal S128 .f32) shapeCasts_S128_S1x128 := by
  simp only [ops3]
  after_results_simp <;> rfl
/-- Its shift as a row. -/
theorem after3_v80 (W : Valuation τ sig (Elt Ideal)) : StableHlo.after ops3 W (Proc.devRef .tc main_v80)
    = shapeCast S1x128 (W (Proc.devRef .tc main_arg14) : Vec Ideal S128 .f32) shapeCasts_S128_S1x128 := by
  simp only [ops3]
  after_results_simp <;> rfl
/-- The second layer's bias as a row. -/
theorem after3_v81 (W : Valuation τ sig (Elt Ideal)) : StableHlo.after ops3 W (Proc.devRef .tc main_v81)
    = shapeCast S1x64 (W (Proc.devRef .tc main_arg16) : Vec Ideal S64 .f32) shapeCasts_S64_S1x64 := by
  simp only [ops3]
  after_results_simp <;> rfl
/-- The second normalisation's scale as a row. -/
theorem after3_v82 (W : Valuation τ sig (Elt Ideal)) : StableHlo.after ops3 W (Proc.devRef .tc main_v82)
    = shapeCast S1x64 (W (Proc.devRef .tc main_arg17) : Vec Ideal S64 .f32) shapeCasts_S64_S1x64 := by
  simp only [ops3]
  after_results_simp <;> rfl
/-- Its shift as a row. -/
theorem after3_v83 (W : Valuation τ sig (Elt Ideal)) : StableHlo.after ops3 W (Proc.devRef .tc main_v83)
    = shapeCast S1x64 (W (Proc.devRef .tc main_arg18) : Vec Ideal S64 .f32) shapeCasts_S64_S1x64 := by
  simp only [ops3]
  after_results_simp <;> rfl
/-- The last operation, from any contents: the result is the body's first column. -/
theorem after4_v85 (W : Valuation τ sig (Elt Ideal)) : StableHlo.after ops4 W (Proc.devRef .tc main_v85)
    = extractStridedSlice S16x1 ![0, 0] (W (Proc.devRef .tc main_v84) : Vec Ideal S16x128 .f32) slices_S16x128_S16x1_0_0 := by
  simp only [ops4]
  after_results_simp <;> rfl

/-- Before the second group of operations, a buffer nothing has written is as launched. -/
theorem V2_keep (r : Ref sig .tc) (h0 : ∀ x ∈ writes0, r ≠ x) (h4 : r ≠ main_v4) :
    V2 m d (Proc.devRef .tc r) = m (d, Proc.devRef .tc r) := by
  unfold V2
  rw [Function.update_of_ne (StableHlo.devRef_ne_of_ne h4)]
  unfold V1
  rw [keep0 _ r h0, V0]

/-- The edge list's first row, there. -/
theorem V2_v1 : V2 m d (Proc.devRef .tc main_v1) = edgeRow (m (d, Proc.devRef .tc main_arg1)) 0 := by
  unfold V2
  rw [Function.update_of_ne (StableHlo.devRef_ne_of_ne (by decide)), V1_v1]

/-- The edge list in device `d`'s memory. -/
abbrev edges : Vec Ideal S2x640000 .i32 := m (d, Proc.devRef .tc main_arg1)

/-- The small graph's edge list in device `d`'s memory. -/
abbrev edges2 : IVec S2x3184 32 := (m (d, Proc.devRef .tc main_arg4) : Vec Ideal S2x3184 .i32)

/-- Before the third group of operations, a buffer nothing has written is as launched. -/
theorem V4_keep (r : Ref sig .tc) (h0 : ∀ x ∈ writes0, r ≠ x) (h4 : r ≠ main_v4) (h1 : ∀ x ∈ writes1, r ≠ x) (h9 : r ≠ main_v18_0) (h10 : r ≠ main_v18_1) :
    V4 m d (Proc.devRef .tc r) = m (d, Proc.devRef .tc r) := by
  unfold V4
  rw [A.after_keeps _ _ _ r h9 h10, V3_keep m d r h0 h4 h1]

variable (he : ∀ c : Dev nD, ∀ j, (edges m c j : BitVec 32).toNat < 10000) (he2 : ∀ c : Dev nD, ∀ j, (edges2 m c j : BitVec 32).toNat < 199)

/-- The large graph's embedding, from the arguments. -/
def out1 : FVec Ideal S10000x64 .f32 := out1Of (m (d, Proc.devRef .tc main_arg0)) (edges m d) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10))

/-- The small graph's embedding, from the arguments. -/
def out2 : FVec Ideal Cert.ReferenceIdeal.S199x64 .f32 := out2Of (m (d, Proc.devRef .tc main_arg3)) (edges2 m d) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10))

include he in
/-- The first call's second result is the reference's degree. -/
theorem V4_cnt : V4 m d (Proc.devRef .tc main_v18_1) = degRef (edgeRow (edges m d) 1) := by
  unfold V4
  rw [A.after_main_v18_1]
  unfold V3
  rw [after1_v15, V2_v4, gx_eq]
  exact degree_eq _ (edgeRow_lt (he d) 1)

include he in
/-- The first call's first result holds the hidden rows' two projections. -/
theorem V4_pb : V4 m d (Proc.devRef .tc main_v18_0)
    = layerRef (m (d, Proc.devRef .tc main_arg0)) (aggRef (m (d, Proc.devRef .tc main_arg0)) (edgeRow (edges m d) 0) (edgeRow (edges m d) 1))
        (degRef (edgeRow (edges m d) 1)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) := by
  unfold V4
  rw [A.after_main_v18_0]
  rw [V3_keep m d main_arg0 (by decide) (by decide) (by decide), V3_keep m d main_arg5 (by decide) (by decide) (by decide),
    V3_keep m d main_arg7 (by decide) (by decide) (by decide), V3_keep m d main_arg8 (by decide) (by decide) (by decide),
    V3_keep m d main_arg10 (by decide) (by decide) (by decide)]
  unfold V3
  rw [after1_v14, after1_v15, after1_v16, after1_v17, V2_v3, V2_v4, V2_v1, V2_keep m d main_arg0 (by decide) (by decide),
    V2_keep m d main_arg6 (by decide) (by decide), V2_keep m d main_arg9 (by decide) (by decide), gx_eq]
  refine (layer_eq _ _ _ _ _ _ _ _ _).trans ?_
  rw [degree_eq _ (edgeRow_lt (he d) 1)]
  rfl

/-- The summed projected messages, at the second call. -/
theorem V5_v34 : V5 m d (Proc.devRef .tc main_v34) = msumOf (V4 m d (Proc.devRef .tc main_v18_0)) (edgeRow (edges m d) 0) (edgeRow (edges m d) 1) := by
  unfold V5
  rw [after2_v34, V4_keep m d main_arg1 (by decide) (by decide) (by decide) (by decide) (by decide)]

/-- The first call's results are still there at the second. -/
theorem V5_v18 : V5 m d (Proc.devRef .tc main_v18_0) = V4 m d (Proc.devRef .tc main_v18_0)
    ∧ V5 m d (Proc.devRef .tc main_v18_1) = V4 m d (Proc.devRef .tc main_v18_1) := by
  unfold V5
  exact ⟨keep2 _ main_v18_0 (by decide), keep2 _ main_v18_1 (by decide)⟩

include he in
/-- The body's large embedding, from the second call's operands, is the reference's. -/
theorem pay3_eq : k2_pay3 (F := Ideal) (V5 m d (Proc.devRef .tc main_v34)) (V5 m d (Proc.devRef .tc main_v18_1)) (B.rightOf (V5 m d (Proc.devRef .tc main_v18_0)))
    = out1 m d := by
  rw [V5_v34, (V5_v18 m d).1, (V5_v18 m d).2, V4_pb m d he, V4_cnt m d he]
  exact out_eq _ _ (edgeRow_lt (he d) 0) (edgeRow_lt (he d) 1) _ _ _ _ _ _ _ _

/-- The second body's second result, from the arguments. -/
def small : FVec Ideal S256x64 .f32 :=
  B.smallOf (F := Ideal) (col2 (edge2Row (edges2 m d) 0)) (col2 (edge2Row (edges2 m d) 1)) (padRows (m (d, Proc.devRef .tc main_arg3))) (m (d, Proc.devRef .tc main_arg5))
    (shapeCast S1x128 (m (d, Proc.devRef .tc main_arg6) : Vec Ideal S128 .f32) shapeCasts_S128_S1x128) (m (d, Proc.devRef .tc main_arg7)) (m (d, Proc.devRef .tc main_arg8))
    (shapeCast S1x64 (m (d, Proc.devRef .tc main_arg9) : Vec Ideal S64 .f32) shapeCasts_S64_S1x64) (m (d, Proc.devRef .tc main_arg10))

/-- The second call's operands for the small graph give it. -/
theorem V5_small : B.smallOf (F := Ideal) (V5 m d (Proc.devRef .tc main_v40)) (V5 m d (Proc.devRef .tc main_v43)) (V5 m d (Proc.devRef .tc main_v37))
    (V5 m d (Proc.devRef .tc main_arg5)) (V5 m d (Proc.devRef .tc main_v45)) (V5 m d (Proc.devRef .tc main_arg7)) (V5 m d (Proc.devRef .tc main_arg8))
    (V5 m d (Proc.devRef .tc main_v46)) (V5 m d (Proc.devRef .tc main_arg10)) = small m d := by
  rw [V5_keep m d main_arg5 (by decide) (by decide) (by decide) (by decide) (by decide) (by decide), V5_keep m d main_arg7 (by decide) (by decide) (by decide) (by decide) (by decide) (by decide),
    V5_keep m d main_arg8 (by decide) (by decide) (by decide) (by decide) (by decide) (by decide), V5_keep m d main_arg10 (by decide) (by decide) (by decide) (by decide) (by decide) (by decide)]
  unfold V5
  rw [after2_v37, after2_v40, after2_v43, after2_v45, after2_v46, V4_keep m d main_arg3 (by decide) (by decide) (by decide) (by decide) (by decide), V4_keep m d main_arg4 (by decide) (by decide) (by decide) (by decide) (by decide),
    V4_keep m d main_arg6 (by decide) (by decide) (by decide) (by decide) (by decide), V4_keep m d main_arg9 (by decide) (by decide) (by decide) (by decide) (by decide)]
  rfl

include he2 in
/-- On its first 199 rows it is the reference's. -/
theorem small_rows (n : Fin 199) (c : Fin 64) : (small m d (ix2 (pad n) c) : EReal) = out2 m d (ix2 n c) :=
  small_at _ _ (edge2Row_lt (he2 d) 0) (edge2Row_lt (he2 d) 1) _ _ (padRows_at _) _ _ _ _ _ _ n c

/-- The second call's first result, in its left half: the embedding. -/
theorem left_at (x0 : FVec Ideal S10000x64 .f32) (x2 : FVec Ideal S10000x1 .f32) (x6 : FVec Ideal S10000x64 .f32) (n : Fin 10000) (c : Fin 64) :
    (k2_pay4 (F := Ideal) x0 x2 x6 (ix2 n (Fin.castLE (by norm_num : 64 ≤ 128) c)) : EReal) = k2_pay3 (F := Ideal) x0 x2 x6 (ix2 n c) := by
  unfold k2_pay4
  generalize k2_pay3 (F := Ideal) x0 x2 x6 = o
  have hc : (Fin.castLE (by norm_num : 64 ≤ 128) c).val < 64 := c.isLt
  pointwise
  rw [dif_pos hc]
  rfl

include he in
/-- So the second call's first result is the large embedding there. -/
theorem V6_v47_0 (n : Fin 10000) (c : Fin 64) : ((V6 m d (Proc.devRef .tc main_v47_0) : Vec Ideal S10000x128 .f32) (ix2 n (Fin.castLE (by norm_num : 64 ≤ 128) c)) : EReal) = out1 m d (ix2 n c) := by
  unfold V6
  rw [B.after_main_v47_0]
  exact (left_at _ _ _ n c).trans (congrFun (pay3_eq m d he) (ix2 n c))

/-- Its second result is the padded small embedding. -/
theorem V6_v47_1 : V6 m d (Proc.devRef .tc main_v47_1) = small m d := by
  unfold V6
  rw [B.after_main_v47_1, V5_small]

include he he2 in
/-- Its third result, the keys. -/
theorem V6_v47_2 : V6 m d (Proc.devRef .tc main_v47_2) = keyRef (out1 m d) (out2 m d) := by
  unfold V6
  rw [B.after_main_v47_2, key_eq, pay3_eq m d he, V5_small]
  exact keyOn_eq _ _ _ (small_rows m d he2)

/-- The batch words in device `d`'s memory. -/
abbrev batch : IVec S10000 32 := (m (d, Proc.devRef .tc main_arg2) : Vec Ideal S10000 .i32)

/-- Its fourth result, the counts. -/
theorem V6_v47_3 (b : Fin 16) : ((V6 m d (Proc.devRef .tc main_v47_3) : Vec Ideal S1x16 .f32) (ix2 0 b) : EReal) = countsRef (batch m d) (ix1 b) := by
  unfold V6
  rw [B.after_main_v47_3]
  unfold V5
  rw [after2_v44, V4_keep m d main_arg2 (by decide) (by decide) (by decide) (by decide) (by decide)]
  exact counts_at _ b

/-- After the second call, an argument is as launched. -/
theorem V6_keep (r : Ref sig .tc) (h0 : ∀ x ∈ writes0, r ≠ x) (h4 : r ≠ main_v4) (h1 : ∀ x ∈ writes1, r ≠ x)
    (h9 : r ≠ main_v18_0) (h10 : r ≠ main_v18_1) (h2 : ∀ x ∈ writes2, r ≠ x) (h13 : r ≠ main_v47_0) (h14 : r ≠ main_v47_1)
    (h15 : r ≠ main_v47_2) (h16 : r ≠ main_v47_3) : V6 m d (Proc.devRef .tc r) = m (d, Proc.devRef .tc r) := by
  unfold V6
  rw [B.after_keeps _ _ _ r h13 h14 h15 h16, V5_keep m d r h0 h4 h1 h9 h10 h2]

/-- The counts as a column, at one graph. -/
theorem count_col (x : FVec Ideal S1x16 .f32) (b : Fin 16) : (shapeCast S16x1 x shapeCasts_S1x16_S16x1 (ix2 b 0) : EReal) = x (ix2 0 b) := by
  pointwise

/-- The result, from the arguments, as the reference writes it. -/
def resultOf (o : FVec Ideal S10000x64 .f32) (g : FVec Ideal Cert.ReferenceIdeal.S199x64 .f32) (w : IVec S10000 32) (w1 : FVec Ideal S9950x128 .f32) (b1 s1 o1 : FVec Ideal S128 .f32)
    (w2 : FVec Ideal S128x64 .f32) (b2 s2 o2 : FVec Ideal S64 .f32) (w3 : FVec Ideal S64x1 .f32) (b3 : FVec Ideal S1 .f32) : FVec Ideal S16x1 .f32 :=
  scoreRef (secondRef (firstRef (topRef (distRef o g) (countsRef w) (orderRef (keyRef o g) w)) w1 b1) s1 o1 w2 b2) s2 o2 w3 b3

include he he2 in
set_option maxHeartbeats 4000000 in
/-- The result. -/
theorem V9_v85 (b3 : FVec Ideal S1 .f32) (hb : (b3 (ix1 0) : EReal) = 0) : V9 m d (Proc.devRef .tc main_v85)
    = resultOf (out1 m d) (out2 m d) (batch m d) (m (d, Proc.devRef .tc main_arg11)) (m (d, Proc.devRef .tc main_arg12)) (m (d, Proc.devRef .tc main_arg13)) (m (d, Proc.devRef .tc main_arg14))
        (m (d, Proc.devRef .tc main_arg15)) (m (d, Proc.devRef .tc main_arg16)) (m (d, Proc.devRef .tc main_arg17)) (m (d, Proc.devRef .tc main_arg18)) (m (d, Proc.devRef .tc main_arg19)) b3 := by
  unfold V9
  rw [after4_v85]
  unfold V8
  rw [C.after_main_v84]
  rw [V7_keep m d main_arg15 (by decide) (by decide) (by decide) (by decide) (by decide) (by decide) (by decide) (by decide) (by decide) (by decide) (by decide)]
  unfold V7
  rw [after3_v68, after3_v73, after3_v76, after3_v77, after3_v78, after3_v79, after3_v80, after3_v81, after3_v82, after3_v83, keep3 _ main_v47_1 (by decide), V6_v47_1, V6_v47_2 m d he he2]
  have k : ∀ r : Ref sig .tc, r ∈ [main_arg2, main_arg11, main_arg12, main_arg13, main_arg14, main_arg16, main_arg17, main_arg18, main_arg19] →
      V6 m d (Proc.devRef .tc r) = m (d, Proc.devRef .tc r) := by
    intro r hr
    simp only [List.mem_cons, List.not_mem_nil, or_false] at hr
    rcases hr with rfl | rfl | rfl | rfl | rfl | rfl | rfl | rfl | rfl <;>
      exact V6_keep m d _ (by decide) (by decide) (by decide) (by decide) (by decide) (by decide) (by decide) (by decide) (by decide) (by decide)
  rw [k main_arg2 (by decide), k main_arg11 (by decide), k main_arg12 (by decide), k main_arg13 (by decide), k main_arg14 (by decide), k main_arg16 (by decide), k main_arg17 (by decide),
    k main_arg18 (by decide), k main_arg19 (by decide)]
  have hp : picked (keyRef (out1 m d) (out2 m d)) (m (d, Proc.devRef .tc main_arg2)) = orderRef (keyRef (out1 m d) (out2 m d)) (batch m d) := by
    funext j
    obtain ⟨b, n, rfl⟩ : ∃ (b : Fin 16) (n : Fin 50), j = ix2 b n := ⟨j 0, j 1, by funext a; match a with | ⟨0, _⟩ => rfl | ⟨1, _⟩ => rfl⟩
    rw [picked_at, orderRef_at]
  rw [hp]
  have ho := fun b n => orderRef_at (keyRef (out1 m d) (out2 m d)) (batch m d) b n
  refine class_eq (out1 m d) (out2 m d) (countsRef (batch m d)) _ _ ho _ _ _ (fun b n c => ?_) _ (small_rows m d he2) _ (fun b => ?_) _ _ _ _ _ _ _ b3 hb
  · exact (pickedRows_at _ _ n b _ (ho b n) _).trans (V6_v47_0 m d he _ c)
  · exact (count_col _ b).trans (V6_v47_3 m d b)

end Run

/-! ## The precondition -/

/-- The precondition of the algebraic claim puts the edges' words among the nodes and makes the last bias zero. -/
theorem drawn_of_pre {x : FVec Ideal S10000x128 .f32} {e : IVec S2x640000 32} {a2 a3} {e2 : IVec S2x3184 32} {a5 a6 a7 a8 a9 a10 a11 a12 a13 a14 a15 a16 a17 a18 a19} {a20 : FVec Ideal S1 .f32}
    (hp : Cert.Pre_drawn.fn (F := Ideal) x e a2 a3 e2 a5 a6 a7 a8 a9 a10 a11 a12 a13 a14 a15 a16 a17 a18 a19 a20 = fun _ => 1#1) :
    ((∀ j : S2x640000.Idx, (e j).toNat < 10000) ∧ ∀ j : S2x3184.Idx, (e2 j).toNat < 199) ∧ (a20 (ix1 0) : EReal) = 0 := by
  have andi_one : ∀ p q : BitVec 1, IntOp.andi p q = 1#1 → p = 1#1 ∧ q = 1#1 := by decide
  haveI : Subsingleton Cert.Pre_drawn.S_.Idx := ⟨fun p q => funext fun a => a.elim0⟩
  have all := congrFun hp (fun a => a.elim0)
  simp only [Cert.Pre_drawn.fn, Cert.Pre_drawn.fn_part1, andi] at all
  obtain ⟨all, h5⟩ := andi_one _ _ all
  obtain ⟨all, h4⟩ := andi_one _ _ all
  obtain ⟨all, h3⟩ := andi_one _ _ all
  obtain ⟨h1, h2⟩ := andi_one _ _ all
  refine ⟨⟨fun j => word_lt (n := 10000) (by decide) (Host.reduce_andi_all _ _ _ _ _ h1 j) (Host.reduce_andi_all _ _ _ _ _ h2 j),
    fun j => word_lt (n := 199) (by decide) (Host.reduce_andi_all _ _ _ _ _ h3 j) (Host.reduce_andi_all _ _ _ _ _ h4 j)⟩, ?_⟩
  have h : Ideal.cmp .oeq (a20 (ix1 0)) (Ideal.ofBits .f32 0x00000000#32) = 1#1 := Host.reduce_andi_all _ _ _ _ _ h5 (ix1 0)
  rw [Ideal.ofBits_zero_f32] at h
  by_contra hne
  simp [Ideal.cmp, hne] at h

/-- The idealized kernel's frame under the algebraic claim's precondition. -/
theorem frame_kernelIdeal_drawn : Cert.quiescent_KernelIdeal_pre_drawn := fun m ρ hp =>
  frame_run (F := Ideal) m ρ fun c => (drawn_of_pre (hp c)).1.1

/-! ## The reference -/

section Reference

open Cert.ReferenceIdeal.Value

variable (V0 : Valuation Cert.ReferenceIdeal.τ Cert.ReferenceIdeal.sig (Elt Ideal))

/-- The reference's large embedding. -/
theorem ref_v59 : res_main_v59 V0 = out1Of (V0 (Proc.devRef .tc Cert.ReferenceIdeal.main_arg0)) (V0 (Proc.devRef .tc Cert.ReferenceIdeal.main_arg1)) (V0 (Proc.devRef .tc Cert.ReferenceIdeal.main_arg5))
    (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9))
    (V0 (Proc.devRef .tc Cert.ReferenceIdeal.main_arg10)) := rfl
/-- Its small embedding. -/
theorem ref_v119 : res_main_v119 V0 = out2Of (V0 (Proc.devRef .tc Cert.ReferenceIdeal.main_arg3)) (V0 (Proc.devRef .tc Cert.ReferenceIdeal.main_arg4)) (V0 (Proc.devRef .tc Cert.ReferenceIdeal.main_arg5))
    (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9))
    (V0 (Proc.devRef .tc Cert.ReferenceIdeal.main_arg10)) := rfl
/-- Its distances. -/
theorem ref_v138 : res_main_v138 V0 = distRef (res_main_v59 V0) (res_main_v119 V0) := rfl
/-- Its masked keys. -/
theorem ref_v149 : res_main_v149 V0 = negKeys (keyRef (res_main_v59 V0) (res_main_v119 V0)) (V0 (Proc.devRef .tc Cert.ReferenceIdeal.main_arg2)) := rfl
/-- Its selection. -/
theorem ref_v151 : res_main_v151 V0 = orderRef (keyRef (res_main_v59 V0) (res_main_v119 V0)) (V0 (Proc.devRef .tc Cert.ReferenceIdeal.main_arg2)) := by
  unfold res_main_v151 orderRef
  rw [ref_v149]
  rfl
/-- Its first layer. -/
theorem ref_v176 : res_main_v176 V0 = firstRef (topRef (res_main_v138 V0) (countsRef (V0 (Proc.devRef .tc Cert.ReferenceIdeal.main_arg2))) (res_main_v151 V0)) (V0 (Proc.devRef .tc Cert.ReferenceIdeal.main_arg11))
    (V0 (Proc.devRef .tc Cert.ReferenceIdeal.main_arg12)) := rfl
/-- Its second layer. -/
theorem ref_v205 : res_main_v205 V0 = secondRef (res_main_v176 V0) (V0 (Proc.devRef .tc Cert.ReferenceIdeal.main_arg13)) (V0 (Proc.devRef .tc Cert.ReferenceIdeal.main_arg14))
    (V0 (Proc.devRef .tc Cert.ReferenceIdeal.main_arg15)) (V0 (Proc.devRef .tc Cert.ReferenceIdeal.main_arg16)) := rfl
end Reference

/-- The algebraic claim: from agreeing arguments both programs run, and their results are equal as extended reals. -/
theorem algebraic : Cert.algebraic_KernelIdeal_ReferenceIdeal_pre_drawn := by
  intro m g m' g' hp hag
  have he : ∀ c : Dev nD, ∀ j, (edges m c j : BitVec 32).toNat < 10000 := fun c => (drawn_of_pre (hp c)).1.1
  have he2 : ∀ c : Dev nD, ∀ j, (edges2 m c j : BitVec 32).toNat < 199 := fun c => (drawn_of_pre (hp c)).1.2
  refine ⟨fun c => V9 m c (Proc.devRef .tc main_v85), ?_, ?_⟩
  · refine (θ_run Cert.KernelIdeal.defs _ _).mono (fun r h c => ?_) (run_main (F := Ideal) m g (gx_lt m he))
    exact ⟨h.1 c _ (mem_ucRefs main_v85 (by decide)), args_of_QC m h c⟩
  · refine (θ_run Cert.ReferenceIdeal.defs _ _).mono (fun r h c => ?_) (Cert.ReferenceIdeal.Value.run m' g')
    obtain ⟨a0, a1, a2, a3, a4, a5, a6, a7, a8, a9, a10, a11, a12, a13, a14, a15, a16, a17, a18, a19, a20⟩ := hag c
    refine ⟨(h c).1.trans ?_, (h c).2⟩
    refine Eq.trans ?_ (V9_v85 m c he he2 _ (drawn_of_pre (hp c)).2).symm
    have o1 : Cert.ReferenceIdeal.Value.res_main_v59 (StableHlo.launchContents m' c) = out1 m c := by
      refine (ref_v59 _).trans ?_
      show out1Of (m' ((c.tc : Thread _ _).loc Cert.ReferenceIdeal.main_arg0)) (m' ((c.tc : Thread _ _).loc Cert.ReferenceIdeal.main_arg1)) (m' ((c.tc : Thread _ _).loc Cert.ReferenceIdeal.main_arg5)) (m' ((c.tc : Thread _ _).loc Cert.ReferenceIdeal.main_arg6)) (m' ((c.tc : Thread _ _).loc Cert.ReferenceIdeal.main_arg7)) (m' ((c.tc : Thread _ _).loc Cert.ReferenceIdeal.main_arg8)) (m' ((c.tc : Thread _ _).loc Cert.ReferenceIdeal.main_arg9)) (m' ((c.tc : Thread _ _).loc Cert.ReferenceIdeal.main_arg10)) = _
      rw [a0, a1, a5, a6, a7, a8, a9, a10]; rfl
    have o2 : Cert.ReferenceIdeal.Value.res_main_v119 (StableHlo.launchContents m' c) = out2 m c := by
      refine (ref_v119 _).trans ?_
      show out2Of (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) (m' ((c.tc : Thread _ _).loc Cert.ReferenceIdeal.main_arg7)) (m' ((c.tc : Thread _ _).loc Cert.ReferenceIdeal.main_arg8)) (m' ((c.tc : Thread _ _).loc Cert.ReferenceIdeal.main_arg9)) (m' ((c.tc : Thread _ _).loc Cert.ReferenceIdeal.main_arg10)) = _
      rw [a3, a4, a5, a6, a7, a8, a9, a10]; rfl
    show scoreRef (Cert.ReferenceIdeal.Value.res_main_v205 (StableHlo.launchContents m' c)) (m' ((c.tc : Thread _ _).loc Cert.ReferenceIdeal.main_arg17)) (m' ((c.tc : Thread _ _).loc Cert.ReferenceIdeal.main_arg18)) (m' ((c.tc : Thread _ _).loc Cert.ReferenceIdeal.main_arg19)) (m' ((c.tc : Thread _ _).loc Cert.ReferenceIdeal.main_arg20)) = _
    rw [ref_v205, ref_v176, ref_v151, ref_v138, o1, o2]
    show resultOf (out1 m c) (out2 m c) (m' ((c.tc : Thread _ _).loc Cert.ReferenceIdeal.main_arg2)) (m' ((c.tc : Thread _ _).loc Cert.ReferenceIdeal.main_arg11)) (m' ((c.tc : Thread _ _).loc Cert.ReferenceIdeal.main_arg12)) (m' ((c.tc : Thread _ _).loc Cert.ReferenceIdeal.main_arg13)) (m' ((c.tc : Thread _ _).loc Cert.ReferenceIdeal.main_arg14)) (m' ((c.tc : Thread _ _).loc Cert.ReferenceIdeal.main_arg15)) (m' ((c.tc : Thread _ _).loc Cert.ReferenceIdeal.main_arg16)) (m' ((c.tc : Thread _ _).loc Cert.ReferenceIdeal.main_arg17)) (m' ((c.tc : Thread _ _).loc Cert.ReferenceIdeal.main_arg18)) (m' ((c.tc : Thread _ _).loc Cert.ReferenceIdeal.main_arg19)) (m' ((c.tc : Thread _ _).loc Cert.ReferenceIdeal.main_arg20)) = _
    rw [a2, a11, a12, a13, a14, a15, a16, a17, a18, a19, a20]

end Cert.Proof.Hist

end
-- ==== Proof.lean ====
/-
  The claims of the certificate: the frames of the kernel, of its idealization and of the reference, that the idealization
  changes nothing, and that kernel and reference compute equal results over the extended reals.
-/
module

public import proofs.«01_k».proof.Defs
public import proofs.«01_k».proof.Proof.Bridge

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_in_range.Gen.facts, Cert.Pre_drawn.Gen.facts,
    Hist.frame_kernel, Hist.frame_kernelIdeal, Hist.frame_kernelIdeal_drawn,
    fun m ρ _ => (θ_run Cert.ReferenceIdeal.defs _ _).mono (fun r h => ⟨fun c => (h c).2, sem_eq_zero_of_no_sems (by decide) r.2⟩) (Cert.ReferenceIdeal.Value.run m ρ),
    fun m ρ _ => (θ_run Cert.ReferenceIdeal.defs _ _).mono (fun r h => ⟨fun c => (h c).2, sem_eq_zero_of_no_sems (by decide) r.2⟩) (Cert.ReferenceIdeal.Value.run m ρ),
    trivial, Hist.algebraic⟩

end Cert.Proof

end
